-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "scale_log2e" .f32 0x3DE995B3#32 (((Real.log 2)⁻¹ * (10610843 / 134217728) : ℝ) : EReal)

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![2048, 128]⟩ ⟨2, ![2048, 256]⟩ (Layout.meshBlock [2, 2, 4] ![[], [0]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨2, ![128, 2048]⟩ ⟨2, ![256, 2048]⟩ (Layout.meshBlock [2, 2, 4] ![[0], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨2, ![128, 2048]⟩ ⟨2, ![256, 2048]⟩ (Layout.meshBlock [2, 2, 4] ![[0], []] c) (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)
      ∧ m ((c.tc : Thread Cert.KernelIdeal.nD Cert.KernelIdeal.τ).loc Cert.KernelIdeal.main_arg5) = m' (((0 : Dev Cert.ReferenceIdeal.nD).tc : Thread Cert.ReferenceIdeal.nD Cert.ReferenceIdeal.τ).loc Cert.ReferenceIdeal.main_arg5)
      ∧ m ((c.tc : Thread Cert.KernelIdeal.nD Cert.KernelIdeal.τ).loc Cert.KernelIdeal.main_arg6) = m' (((0 : Dev Cert.ReferenceIdeal.nD).tc : Thread Cert.ReferenceIdeal.nD Cert.ReferenceIdeal.τ).loc Cert.ReferenceIdeal.main_arg6)
      ∧ m ((c.tc : Thread Cert.KernelIdeal.nD Cert.KernelIdeal.τ).loc Cert.KernelIdeal.main_arg7) = m' (((0 : Dev Cert.ReferenceIdeal.nD).tc : Thread Cert.ReferenceIdeal.nD Cert.ReferenceIdeal.τ).loc Cert.ReferenceIdeal.main_arg7)) →
    ∃ (v0 : Buf (Elt Ideal) (((0 : Dev Cert.ReferenceIdeal.nD).tc : Thread Cert.ReferenceIdeal.nD Cert.ReferenceIdeal.τ).loc Cert.ReferenceIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v29) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6)
          ∧ r.2.mem (((0 : Dev Cert.ReferenceIdeal.nD).tc : Thread Cert.ReferenceIdeal.nD Cert.ReferenceIdeal.τ).loc Cert.ReferenceIdeal.main_arg7) = m' (((0 : Dev Cert.ReferenceIdeal.nD).tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x512x2048 : Shape := ⟨3, ![2, 512, 2048]⟩
abbrev S2048x128 : Shape := ⟨2, ![2048, 128]⟩
abbrev S128x2048 : Shape := ⟨2, ![128, 2048]⟩
abbrev S2048x2048 : Shape := ⟨2, ![2048, 2048]⟩
abbrev S2048x512 : Shape := ⟨2, ![2048, 512]⟩
abbrev S2048x32 : Shape := ⟨2, ![2048, 32]⟩
abbrev S_ : Shape := ⟨0, ![]⟩

class Facts : Prop where
  bcast_S_S2x512x2048 : S_.BroadcastsInDim S2x512x2048 (![] : Fin 0 → Fin S2x512x2048.rank)
  reducesTo_S2x512x2048_S_d0_1_2 : S2x512x2048.ReducesTo [0, 1, 2] S_
  h_S_ : 0 < S_.numel
  bcast_S_S2048x128 : S_.BroadcastsInDim S2048x128 (![] : Fin 0 → Fin S2048x128.rank)
  reducesTo_S2048x128_S_d0_1 : S2048x128.ReducesTo [0, 1] S_
  bcast_S_S128x2048 : S_.BroadcastsInDim S128x2048 (![] : Fin 0 → Fin S128x2048.rank)
  reducesTo_S128x2048_S_d0_1 : S128x2048.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S2048x512 : S_.BroadcastsInDim S2048x512 (![] : Fin 0 → Fin S2048x512.rank)
  reducesTo_S2048x512_S_d0_1 : S2048x512.ReducesTo [0, 1] S_
  bcast_S_S2048x32 : S_.BroadcastsInDim S2048x32 (![] : Fin 0 → Fin S2048x32.rank)
  reducesTo_S2048x32_S_d0_1 : S2048x32.ReducesTo [0, 1] S_

variable [Facts]

def fn_part1 {F : FTy → Type} [FloatOps F] (main_arg5 : FVec F S2048x512 .f32) (main_arg6 : FVec F S2048x32 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048x512 .f32 := Host.absf main_arg5
  let main_cst_6 : FVec F S_ .f32 := constant S_ .f32 0x7F800000#32
  let main_v20 : FVec F S2048x512 .f32 := broadcastInDim S2048x512 ![] bcast_S_S2048x512 main_cst_6
  let main_v21 : IVec S2048x512 1 := cmpf .olt main_v19 main_v20
  let main_c_7 : IVec S_ 1 := constantI S_ 1 1#1
  let main_v22 : IVec S_ 1 := (fun x v => Host.reduce IntOp.andi x v reducesTo_S2048x512_S_d0_1 h_S_) main_v21 main_c_7
  let main_v23 : IVec S_ 1 := andi main_v18 main_v22
  let main_v24 : FVec F S2048x32 .f32 := Host.absf main_arg6
  let main_cst_8 : FVec F S_ .f32 := constant S_ .f32 0x7F800000#32
  let main_v25 : FVec F S2048x32 .f32 := broadcastInDim S2048x32 ![] bcast_S_S2048x32 main_cst_8
  let main_v26 : IVec S2048x32 1 := cmpf .olt main_v24 main_v25
  let main_c_9 : IVec S_ 1 := constantI S_ 1 1#1
  let main_v27 : IVec S_ 1 := (fun x v => Host.reduce IntOp.andi x v reducesTo_S2048x32_S_d0_1 h_S_) main_v26 main_c_9
  let main_v28 : IVec S_ 1 := andi main_v23 main_v27
  main_v28

def fn {F : FTy → Type} [FloatOps F] (main_arg0 : FVec F S2x512x2048 .f32) (main_arg1 : FVec F S2048x128 .f32) (main_arg2 : FVec F S128x2048 .f32) (main_arg3 : FVec F S128x2048 .f32) (main_arg4 : FVec F S2048x2048 .f32) (main_arg5 : FVec F S2048x512 .f32) (main_arg6 : FVec F S2048x32 .f32) (main_arg7 : FVec F S2048x2048 .f32) : IVec S_ 1 :=
  let main_v0 : FVec F S2x512x2048 .f32 := Host.absf main_arg0
  let main_cst : FVec F S_ .f32 := constant S_ .f32 0x7F800000#32
  let main_v1 : FVec F S2x512x2048 .f32 := broadcastInDim S2x512x2048 ![] bcast_S_S2x512x2048 main_cst
  let main_v2 : IVec S2x512x2048 1 := cmpf .olt main_v0 main_v1
  let main_c : IVec S_ 1 := constantI S_ 1 1#1
  let main_v3 : IVec S_ 1 := (fun x v => Host.reduce IntOp.andi x v reducesTo_S2x512x2048_S_d0_1_2 h_S_) main_v2 main_c
  let main_v4 : FVec F S2048x128 .f32 := Host.absf main_arg1
  let main_cst_0 : FVec F S_ .f32 := constant S_ .f32 0x7F800000#32
  let main_v5 : FVec F S2048x128 .f32 := broadcastInDim S2048x128 ![] bcast_S_S2048x128 main_cst_0
  let main_v6 : IVec S2048x128 1 := cmpf .olt main_v4 main_v5
  let main_c_1 : IVec S_ 1 := constantI S_ 1 1#1
  let main_v7 : IVec S_ 1 := (fun x v => Host.reduce IntOp.andi x v reducesTo_S2048x128_S_d0_1 h_S_) main_v6 main_c_1
  let main_v8 : IVec S_ 1 := andi main_v3 main_v7
  let main_v9 : FVec F S128x2048 .f32 := Host.absf main_arg2
  let main_cst_2 : FVec F S_ .f32 := constant S_ .f32 0x7F800000#32
  let main_v10 : FVec F S128x2048 .f32 := broadcastInDim S128x2048 ![] bcast_S_S128x2048 main_cst_2
  let main_v11 : IVec S128x2048 1 := cmpf .olt main_v9 main_v10
  let main_c_3 : IVec S_ 1 := constantI S_ 1 1#1
  let main_v12 : IVec S_ 1 := (fun x v => Host.reduce IntOp.andi x v reducesTo_S128x2048_S_d0_1 h_S_) main_v11 main_c_3
  let main_v13 : IVec S_ 1 := andi main_v8 main_v12
  let main_v14 : FVec F S2048x2048 .f32 := Host.absf main_arg4
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg5 main_arg6 main_v13 main_v16
-- ==== Pre_finite_ReferenceIdeal.lean ====
abbrev S2x512x2048 : Shape := ⟨3, ![2, 512, 2048]⟩
abbrev S2048x256 : Shape := ⟨2, ![2048, 256]⟩
abbrev S256x2048 : Shape := ⟨2, ![256, 2048]⟩
abbrev S2048x2048 : Shape := ⟨2, ![2048, 2048]⟩
abbrev S2048x512 : Shape := ⟨2, ![2048, 512]⟩
abbrev S2048x32 : Shape := ⟨2, ![2048, 32]⟩
abbrev S_ : Shape := ⟨0, ![]⟩

class Facts : Prop where
  bcast_S_S2x512x2048 : S_.BroadcastsInDim S2x512x2048 (![] : Fin 0 → Fin S2x512x2048.rank)
  reducesTo_S2x512x2048_S_d0_1_2 : S2x512x2048.ReducesTo [0, 1, 2] S_
  h_S_ : 0 < S_.numel
  bcast_S_S2048x256 : S_.BroadcastsInDim S2048x256 (![] : Fin 0 → Fin S2048x256.rank)
  reducesTo_S2048x256_S_d0_1 : S2048x256.ReducesTo [0, 1] S_
  bcast_S_S256x2048 : S_.BroadcastsInDim S256x2048 (![] : Fin 0 → Fin S256x2048.rank)
  reducesTo_S256x2048_S_d0_1 : S256x2048.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S2048x512 : S_.BroadcastsInDim S2048x512 (![] : Fin 0 → Fin S2048x512.rank)
  reducesTo_S2048x512_S_d0_1 : S2048x512.ReducesTo [0, 1] S_
  bcast_S_S2048x32 : S_.BroadcastsInDim S2048x32 (![] : Fin 0 → Fin S2048x32.rank)
  reducesTo_S2048x32_S_d0_1 : S2048x32.ReducesTo [0, 1] S_

variable [Facts]

def fn_part1 {F : FTy → Type} [FloatOps F] (main_arg5 : FVec F S2048x512 .f32) (main_arg6 : FVec F S2048x32 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048x512 .f32 := Host.absf main_arg5
  let main_cst_6 : FVec F S_ .f32 := constant S_ .f32 0x7F800000#32
  let main_v20 : FVec F S2048x512 .f32 := broadcastInDim S2048x512 ![] bcast_S_S2048x512 main_cst_6
  let main_v21 : IVec S2048x512 1 := cmpf .olt main_v19 main_v20
  let main_c_7 : IVec S_ 1 := constantI S_ 1 1#1
  let main_v22 : IVec S_ 1 := (fun x v => Host.reduce IntOp.andi x v reducesTo_S2048x512_S_d0_1 h_S_) main_v21 main_c_7
  let main_v23 : IVec S_ 1 := andi main_v18 main_v22
  let main_v24 : FVec F S2048x32 .f32 := Host.absf main_arg6
  let main_cst_8 : FVec F S_ .f32 := constant S_ .f32 0x7F800000#32
  let main_v25 : FVec F S2048x32 .f32 := broadcastInDim S2048x32 ![] bcast_S_S2048x32 main_cst_8
  let main_v26 : IVec S2048x32 1 := cmpf .olt main_v24 main_v25
  let main_c_9 : IVec S_ 1 := constantI S_ 1 1#1
  let main_v27 : IVec S_ 1 := (fun x v => Host.reduce IntOp.andi x v reducesTo_S2048x32_S_d0_1 h_S_) main_v26 main_c_9
  let main_v28 : IVec S_ 1 := andi main_v23 main_v27
  main_v28

def fn {F : FTy → Type} [FloatOps F] (main_arg0 : FVec F S2x512x2048 .f32) (main_arg1 : FVec F S2048x256 .f32) (main_arg2 : FVec F S256x2048 .f32) (main_arg3 : FVec F S256x2048 .f32) (main_arg4 : FVec F S2048x2048 .f32) (main_arg5 : FVec F S2048x512 .f32) (main_arg6 : FVec F S2048x32 .f32) (main_arg7 : FVec F S2048x2048 .f32) : IVec S_ 1 :=
  let main_v0 : FVec F S2x512x2048 .f32 := Host.absf main_arg0
  let main_cst : FVec F S_ .f32 := constant S_ .f32 0x7F800000#32
  let main_v1 : FVec F S2x512x2048 .f32 := broadcastInDim S2x512x2048 ![] bcast_S_S2x512x2048 main_cst
  let main_v2 : IVec S2x512x2048 1 := cmpf .olt main_v0 main_v1
  let main_c : IVec S_ 1 := constantI S_ 1 1#1
  let main_v3 : IVec S_ 1 := (fun x v => Host.reduce IntOp.andi x v reducesTo_S2x512x2048_S_d0_1_2 h_S_) main_v2 main_c
  let main_v4 : FVec F S2048x256 .f32 := Host.absf main_arg1
  let main_cst_0 : FVec F S_ .f32 := constant S_ .f32 0x7F800000#32
  let main_v5 : FVec F S2048x256 .f32 := broadcastInDim S2048x256 ![] bcast_S_S2048x256 main_cst_0
  let main_v6 : IVec S2048x256 1 := cmpf .olt main_v4 main_v5
  let main_c_1 : IVec S_ 1 := constantI S_ 1 1#1
  let main_v7 : IVec S_ 1 := (fun x v => Host.reduce IntOp.andi x v reducesTo_S2048x256_S_d0_1 h_S_) main_v6 main_c_1
  let main_v8 : IVec S_ 1 := andi main_v3 main_v7
  let main_v9 : FVec F S256x2048 .f32 := Host.absf main_arg2
  let main_cst_2 : FVec F S_ .f32 := constant S_ .f32 0x7F800000#32
  let main_v10 : FVec F S256x2048 .f32 := broadcastInDim S256x2048 ![] bcast_S_S256x2048 main_cst_2
  let main_v11 : IVec S256x2048 1 := cmpf .olt main_v9 main_v10
  let main_c_3 : IVec S_ 1 := constantI S_ 1 1#1
  let main_v12 : IVec S_ 1 := (fun x v => Host.reduce IntOp.andi x v reducesTo_S256x2048_S_d0_1 h_S_) main_v11 main_c_3
  let main_v13 : IVec S_ 1 := andi main_v8 main_v12
  let main_v14 : FVec F S2048x2048 .f32 := Host.absf main_arg4
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg5 main_arg6 main_v13 main_v16
-- ==== Kernel.lean ====
abbrev S2x512x2048 : Shape := ⟨3, ![2, 512, 2048]⟩
abbrev S2048x128 : Shape := ⟨2, ![2048, 128]⟩
abbrev S128x2048 : Shape := ⟨2, ![128, 2048]⟩
abbrev S2048x2048 : Shape := ⟨2, ![2048, 2048]⟩
abbrev S2048x512 : Shape := ⟨2, ![2048, 512]⟩
abbrev S2048x32 : Shape := ⟨2, ![2048, 32]⟩
abbrev S1024x2048 : Shape := ⟨2, ![1024, 2048]⟩
abbrev S1024x512 : Shape := ⟨2, ![1024, 512]⟩
abbrev S1024x32 : Shape := ⟨2, ![1024, 32]⟩
abbrev S1024x128 : Shape := ⟨2, ![1024, 128]⟩
abbrev S3 : Shape := ⟨1, ![3]⟩
abbrev S_ : Shape := ⟨0, ![]⟩
abbrev S1 : Shape := ⟨1, ![1]⟩
abbrev S512x2048 : Shape := ⟨2, ![512, 2048]⟩
abbrev S512x512 : Shape := ⟨2, ![512, 512]⟩
abbrev S512x32 : Shape := ⟨2, ![512, 32]⟩
abbrev S512x128 : Shape := ⟨2, ![512, 128]⟩
abbrev S128x512 : Shape := ⟨2, ![128, 512]⟩
abbrev S512 : Shape := ⟨1, ![512]⟩
abbrev S512x1 : Shape := ⟨2, ![512, 1]⟩

abbrev nBuf : Space → Nat
  | .hbm => 21
  | .vmem => 39
  | .smem => 0
  | _ => 0

abbrev bufTy : (tb : Table) → Fin (tcTables nBuf tb) → BufTy
  | .hbm, ⟨0, _⟩ => ⟨S2x512x2048, .f32⟩
  | .hbm, ⟨1, _⟩ => ⟨S2048x128, .f32⟩
  | .hbm, ⟨2, _⟩ => ⟨S128x2048, .f32⟩
  | .hbm, ⟨3, _⟩ => ⟨S128x2048, .f32⟩
  | .hbm, ⟨4, _⟩ => ⟨S2048x2048, .f32⟩
  | .hbm, ⟨5, _⟩ => ⟨S2048x512, .f32⟩
  | .hbm, ⟨6, _⟩ => ⟨S2048x32, .f32⟩
  | .hbm, ⟨7, _⟩ => ⟨S2048x2048, .f32⟩
  | .hbm, ⟨8, _⟩ => ⟨S1024x2048, .f32⟩
  | .hbm, ⟨9, _⟩ => ⟨S1024x2048, .bf16⟩
  | .hbm, ⟨10, _⟩ => ⟨S1024x512, .bf16⟩
  | .hbm, ⟨11, _⟩ => ⟨S1024x32, .bf16⟩
  | .hbm, ⟨12, _⟩ => ⟨S1024x128, .bf16⟩
  | .hbm, ⟨13, _⟩ => ⟨S1024x128, .bf16⟩
  | .hbm, ⟨14, _⟩ => ⟨S128x2048, .bf16⟩
  | .hbm, ⟨15, _⟩ => ⟨S128x2048, .bf16⟩
  | .hbm, ⟨16, _⟩ => ⟨S128x2048, .bf16⟩
  | .hbm, ⟨17, _⟩ => ⟨S128x2048, .bf16⟩
  | .hbm, ⟨18, _⟩ => ⟨S1024x2048, .bf16⟩
  | .hbm, ⟨19, _⟩ => ⟨S1024x2048, .f32⟩
  | .hbm, ⟨20, _⟩ => ⟨S2x512x2048, .f32⟩
  | .local _ .vmem, ⟨0, _⟩ => ⟨S1024x2048, .f32⟩
  | .local _ .vmem, ⟨1, _⟩ => ⟨S2048x128, .f32⟩
  | .local _ .vmem, ⟨2, _⟩ => ⟨S128x2048, .f32⟩
  | .local _ .vmem, ⟨3, _⟩ => ⟨S128x2048, .f32⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | .local _ .vmem, ⟨7, _⟩ => ⟨S2048x32, .f32⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x32, .bf16⟩
  | .local _ .vmem, ⟨12, _⟩ => ⟨S1024x128, .bf16⟩
  | .local _ .vmem, ⟨13, _⟩ => ⟨S1024x128, .bf16⟩
  | .local _ .vmem, ⟨14, _⟩ => ⟨S128x2048, .bf16⟩
  | .local _ .vmem, ⟨15, _⟩ => ⟨S128x2048, .bf16⟩
  | .local _ .vmem, ⟨16, _⟩ => ⟨S128x2048, .bf16⟩
  | .local _ .vmem, ⟨17, _⟩ => ⟨S128x2048, .bf16⟩
  | .local _ .vmem, ⟨18, _⟩ => ⟨S512x2048, .bf16⟩
  | .local _ .vmem, ⟨19, _⟩ => ⟨S512x2048, .bf16⟩
  | .local _ .vmem, ⟨20, _⟩ => ⟨S512x512, .bf16⟩
  | .local _ .vmem, ⟨21, _⟩ => ⟨S512x512, .bf16⟩
  | .local _ .vmem, ⟨22, _⟩ => ⟨S512x32, .bf16⟩
  | .local _ .vmem, ⟨23, _⟩ => ⟨S512x32, .bf16⟩
  | .local _ .vmem, ⟨24, _⟩ => ⟨S512x128, .bf16⟩
  | .local _ .vmem, ⟨25, _⟩ => ⟨S512x128, .bf16⟩
  | .local _ .vmem, ⟨26, _⟩ => ⟨S512x128, .bf16⟩
  | .local _ .vmem, ⟨27, _⟩ => ⟨S512x128, .bf16⟩
  | .local _ .vmem, ⟨28, _⟩ => ⟨S128x2048, .bf16⟩
  | .local _ .vmem, ⟨29, _⟩ => ⟨S128x2048, .bf16⟩
  | .local _ .vmem, ⟨30, _⟩ => ⟨S128x2048, .bf16⟩
  | .local _ .vmem, ⟨31, _⟩ => ⟨S128x2048, .bf16⟩
  | .local _ .vmem, ⟨32, _⟩ => ⟨S512x2048, .bf16⟩
  | .local _ .vmem, ⟨33, _⟩ => ⟨S512x2048, .bf16⟩
  | .local _ .vmem, ⟨34, _⟩ => ⟨S1024x2048, .bf16⟩
  | .local _ .vmem, ⟨35, _⟩ => ⟨S2048x512, .f32⟩
  | .local _ .vmem, ⟨36, _⟩ => ⟨S2048x512, .f32⟩
  | .local _ .vmem, ⟨37, _⟩ => ⟨S1024x512, .f32⟩
  | .local _ .vmem, ⟨38, _⟩ => ⟨S1024x512, .f32⟩
  | _, _ => ⟨S2x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 1 → Bool
  | ⟨0, _⟩ => false
  | _ => false

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  (ofTc nBuf bufTy 1 45 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev main_v2_4 : Ref sig .tc := ⟨.hbm, 13, rfl⟩
abbrev main_v2_5 : Ref sig .tc := ⟨.hbm, 14, rfl⟩
abbrev main_v2_6 : Ref sig .tc := ⟨.hbm, 15, rfl⟩
abbrev main_v2_7 : Ref sig .tc := ⟨.hbm, 16, rfl⟩
abbrev main_v2_8 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc1_stg4_0 : Ref sig .tc := ⟨.vmem, 26, rfl⟩
abbrev cc1_stg4_1 : Ref sig .tc := ⟨.vmem, 27, rfl⟩
abbrev cc1_stg5_0 : Ref sig .tc := ⟨.vmem, 28, rfl⟩
abbrev cc1_stg6_0 : Ref sig .tc := ⟨.vmem, 29, rfl⟩
abbrev cc1_stg7_0 : Ref sig .tc := ⟨.vmem, 30, rfl⟩
abbrev cc1_stg8_0 : Ref sig .tc := ⟨.vmem, 31, rfl⟩
abbrev cc1_stg9_0 : Ref sig .tc := ⟨.vmem, 32, rfl⟩
abbrev cc1_stg9_1 : Ref sig .tc := ⟨.vmem, 33, rfl⟩
abbrev cc2_stg0_0 : Ref sig .tc := ⟨.vmem, 34, rfl⟩
abbrev cc2_stg1_0 : Ref sig .tc := ⟨.vmem, 35, rfl⟩
abbrev cc2_stg1_1 : Ref sig .tc := ⟨.vmem, 36, rfl⟩
abbrev cc2_stg2_0 : Ref sig .tc := ⟨.vmem, 37, rfl⟩
abbrev cc2_stg2_1 : Ref sig .tc := ⟨.vmem, 38, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc1_sem0_0 : DmaSem sig := 24
abbrev cc1_sem0_1 : DmaSem sig := 25
abbrev cc1_sem1_0 : DmaSem sig := 26
abbrev cc1_sem1_1 : DmaSem sig := 27
abbrev cc1_sem2_0 : DmaSem sig := 28
abbrev cc1_sem2_1 : DmaSem sig := 29
abbrev cc1_sem3_0 : DmaSem sig := 30
abbrev cc1_sem3_1 : DmaSem sig := 31
abbrev cc1_sem4_0 : DmaSem sig := 32
abbrev cc1_sem4_1 : DmaSem sig := 33
abbrev cc1_sem5_0 : DmaSem sig := 34
abbrev cc1_sem6_0 : DmaSem sig := 35
abbrev cc1_sem7_0 : DmaSem sig := 36
abbrev cc1_sem8_0 : DmaSem sig := 37
abbrev cc1_sem9_0 : DmaSem sig := 38
abbrev cc1_sem9_1 : DmaSem sig := 39
abbrev cc2_sem0_0 : DmaSem sig := 40
abbrev cc2_sem1_0 : DmaSem sig := 41
abbrev cc2_sem1_1 : DmaSem sig := 42
abbrev cc2_sem2_0 : DmaSem sig := 43
abbrev cc2_sem2_1 : DmaSem sig := 44
abbrev barrier0 : Sem sig := 0

abbrev nD : Nat := 16
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v10 : BitVec 1 := Scalar.cmpi .eq arg0 c0_i32
  let v11 : BitVec 32 := Scalar.extui v10
  let c0_i32_3 : BitVec 32 := 0#32
  let v12 : BitVec 1 := Scalar.cmpi .ne v11 c0_i32_3
  v12

def k0_dev1 (d0 : Dev nD) : Nat :=
  let c0_i32_13 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_12 : BitVec 32 := 8#32
  let v26 : BitVec 32 := Scalar.muli v9 c8_i32_12
  let v27 : BitVec 32 := Scalar.addi c0_i32_13 v26
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_14 : BitVec 32 := 4#32
  let v28 : BitVec 32 := Scalar.muli v5 c4_i32_14
  let v29 : BitVec 32 := Scalar.addi v27 v28
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v30 : BitVec 32 := Scalar.muli v8 c1_i32_15
  let v31 : BitVec 32 := Scalar.addi v29 v30
  v31.toNat
def k0_dev2 (d0 : Dev nD) : Nat :=
  let c0_i32_28 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_27 : BitVec 32 := 8#32
  let v40 : BitVec 32 := Scalar.muli v9 c8_i32_27
  let v41 : BitVec 32 := Scalar.addi c0_i32_28 v40
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_29 : BitVec 32 := 4#32
  let v42 : BitVec 32 := Scalar.muli v5 c4_i32_29
  let v43 : BitVec 32 := Scalar.addi v41 v42
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_30 : BitVec 32 := 1#32
  let v44 : BitVec 32 := Scalar.muli v8 c1_i32_30
  let v45 : BitVec 32 := Scalar.addi v43 v44
  v45.toNat
def k0_dev3 (d0 : Dev nD) : Nat :=
  let c0_i32_34 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_33 : BitVec 32 := 8#32
  let v50 : BitVec 32 := Scalar.muli v9 c8_i32_33
  let v51 : BitVec 32 := Scalar.addi c0_i32_34 v50
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_35 : BitVec 32 := 4#32
  let v52 : BitVec 32 := Scalar.muli v5 c4_i32_35
  let v53 : BitVec 32 := Scalar.addi v51 v52
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_36 : BitVec 32 := 1#32
  let v54 : BitVec 32 := Scalar.muli v8 c1_i32_36
  let v55 : BitVec 32 := Scalar.addi v53 v54
  v55.toNat
def k0_dev4 (d0 : Dev nD) : Nat :=
  let c0_i32_47 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_46 : BitVec 32 := 8#32
  let v67 : BitVec 32 := Scalar.muli v9 c8_i32_46
  let v68 : BitVec 32 := Scalar.addi c0_i32_47 v67
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_48 : BitVec 32 := 4#32
  let v69 : BitVec 32 := Scalar.muli v5 c4_i32_48
  let v70 : BitVec 32 := Scalar.addi v68 v69
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_49 : BitVec 32 := 1#32
  let v71 : BitVec 32 := Scalar.muli v8 c1_i32_49
  let v72 : BitVec 32 := Scalar.addi v70 v71
  v72.toNat
def k0_cond2 (i : grid0.Coords) : BitVec 1 :=
  let arg0 : BitVec 32 := BitVec.ofNat 32 (i 0).val
  let c3_i32 : BitVec 32 := 3#32
  let v22 : BitVec 1 := Scalar.cmpi .eq arg0 c3_i32
  let v23 : BitVec 32 := Scalar.extui v22
  let c0_i32_10 : BitVec 32 := 0#32
  let v24 : BitVec 1 := Scalar.cmpi .ne v23 c0_i32_10
  v24

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2048x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x32 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x2048 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x2048 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x2048 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x2048 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x32 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S128x2048 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x2048 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x2048 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x2048 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S512x2048 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S1024x2048 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S2048x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1024x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]
-- ==== KernelIdeal.lean ====
variable {F : FTy → Type} [FloatOps F] [Named F]
def κ : String → Option EReal := fun
  | "scale_log2e" => some (((Real.log 2)⁻¹ * (10610843 / 134217728) : ℝ) : EReal)
  | _ => none
-- ==== ReferenceIdeal.lean ====
abbrev S2x512x2048 : Shape := ⟨3, ![2, 512, 2048]⟩
abbrev S2048x256 : Shape := ⟨2, ![2048, 256]⟩
abbrev S256x2048 : Shape := ⟨2, ![256, 2048]⟩
abbrev S2048x2048 : Shape := ⟨2, ![2048, 2048]⟩
abbrev S2048x512 : Shape := ⟨2, ![2048, 512]⟩
abbrev S2048x32 : Shape := ⟨2, ![2048, 32]⟩
abbrev S2x512x256 : Shape := ⟨3, ![2, 512, 256]⟩
abbrev S2x512x16x128 : Shape := ⟨4, ![2, 512, 16, 128]⟩
abbrev S2x512x512 : Shape := ⟨3, ![2, 512, 512]⟩
abbrev S2x512x16x32 : Shape := ⟨4, ![2, 512, 16, 32]⟩
abbrev S2x512x32 : Shape := ⟨3, ![2, 512, 32]⟩
abbrev S2x512x1x32 : Shape := ⟨4, ![2, 512, 1, 32]⟩
abbrev S2x16x512x512 : Shape := ⟨4, ![2, 16, 512, 512]⟩
abbrev S_ : Shape := ⟨0, ![]⟩
abbrev S2x16x512 : Shape := ⟨3, ![2, 16, 512]⟩
abbrev S2x16x512x1 : Shape := ⟨4, ![2, 16, 512, 1]⟩
abbrev S2x16x128x512 : Shape := ⟨4, ![2, 16, 128, 512]⟩

abbrev nBuf : Space → Nat
  | .hbm => 41
  | .vmem => 0
  | .smem => 0
  | _ => 0

abbrev bufTy : (tb : Table) → Fin (tcTables nBuf tb) → BufTy
  | .hbm, ⟨0, _⟩ => ⟨S2x512x2048, .f32⟩
  | .hbm, ⟨1, _⟩ => ⟨S2048x256, .f32⟩
  | .hbm, ⟨2, _⟩ => ⟨S256x2048, .f32⟩
  | .hbm, ⟨3, _⟩ => ⟨S256x2048, .f32⟩
  | .hbm, ⟨4, _⟩ => ⟨S2048x2048, .f32⟩
  | .hbm, ⟨5, _⟩ => ⟨S2048x512, .f32⟩
  | .hbm, ⟨6, _⟩ => ⟨S2048x32, .f32⟩
  | .hbm, ⟨7, _⟩ => ⟨S2048x2048, .f32⟩
  | .hbm, ⟨8, _⟩ => ⟨S2x512x256, .f32⟩
  | .hbm, ⟨9, _⟩ => ⟨S2x512x2048, .f32⟩
  | .hbm, ⟨10, _⟩ => ⟨S2x512x16x128, .f32⟩
  | .hbm, ⟨11, _⟩ => ⟨S2x512x2048, .f32⟩
  | .hbm, ⟨12, _⟩ => ⟨S2x512x16x128, .f32⟩
  | .hbm, ⟨13, _⟩ => ⟨S2x512x2048, .f32⟩
  | .hbm, ⟨14, _⟩ => ⟨S2x512x16x128, .f32⟩
  | .hbm, ⟨15, _⟩ => ⟨S2x512x512, .f32⟩
  | .hbm, ⟨16, _⟩ => ⟨S2x512x16x32, .f32⟩
  | .hbm, ⟨17, _⟩ => ⟨S2x512x32, .f32⟩
  | .hbm, ⟨18, _⟩ => ⟨S2x512x1x32, .f32⟩
  | .hbm, ⟨19, _⟩ => ⟨S2x16x512x512, .f32⟩
  | .hbm, ⟨20, _⟩ => ⟨S2x512x16x32, .f32⟩
  | .hbm, ⟨21, _⟩ => ⟨S2x16x512x512, .f32⟩
  | .hbm, ⟨22, _⟩ => ⟨S2x16x512x512, .f32⟩
  | .hbm, ⟨23, _⟩ => ⟨S_, .f32⟩
  | .hbm, ⟨24, _⟩ => ⟨S2x16x512x512, .f32⟩
  | .hbm, ⟨25, _⟩ => ⟨S2x16x512x512, .f32⟩
  | .hbm, ⟨26, _⟩ => ⟨S_, .f32⟩
  | .hbm, ⟨27, _⟩ => ⟨S2x16x512, .f32⟩
  | .hbm, ⟨28, _⟩ => ⟨S2x16x512x1, .f32⟩
  | .hbm, ⟨29, _⟩ => ⟨S2x16x512x512, .f32⟩
  | .hbm, ⟨30, _⟩ => ⟨S2x16x512x512, .f32⟩
  | .hbm, ⟨31, _⟩ => ⟨S2x16x512x512, .f32⟩
  | .hbm, ⟨32, _⟩ => ⟨S_, .f32⟩
  | .hbm, ⟨33, _⟩ => ⟨S2x16x512, .f32⟩
  | .hbm, ⟨34, _⟩ => ⟨S2x16x512x1, .f32⟩
  | .hbm, ⟨35, _⟩ => ⟨S2x16x512x512, .f32⟩
  | .hbm, ⟨36, _⟩ => ⟨S2x16x512x512, .f32⟩
  | .hbm, ⟨37, _⟩ => ⟨S2x16x128x512, .f32⟩
  | .hbm, ⟨38, _⟩ => ⟨S2x512x16x128, .f32⟩
  | .hbm, ⟨39, _⟩ => ⟨S2x512x2048, .f32⟩
  | .hbm, ⟨40, _⟩ => ⟨S2x512x2048, .f32⟩
  | _, _ => ⟨S2x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Proof.K.Trips.lean ====
module

public import proofs.«01_k».proof.Proof.Gen.KernelIdeal.Regions
public import proofs.«01_k».proof.Proof.Gen.KernelIdeal.Points

@[expose] public section

set_option maxRecDepth 4096

noncomputable section

namespace Cert.KernelIdeal.Gen

open Idealize.ShloMosaic Idealize.ShloMosaic.TcCoe Idealize.SL.Sem
open Idealize.ShloMosaic.Pipeline (Cfg)

variable {F : FTy → Type} [FloatOps F] [Named F]

/-- A program of the launching core. -/
abbrev HProg : Type 1 := Prog (TpuEff nD τ sig (Elt F) (Pipeline.Sig Λ₀ (Fin 3) fun p => (pcfgs (F := F) p).Adm) .tc) PUnit

/-- Start the fetch of window `w` at point `t`, then `k`. -/
abbrev inS (w : Fin 16) (t : Fin grid0.N) (k : HProg (F := F)) : HProg (F := F) := .op (cfg0.startIn w t) fun _ => k
abbrev inW (w : Fin 16) (t : Fin grid0.N) (k : HProg (F := F)) : HProg (F := F) := .op (cfg0.waitIn w t) fun _ => k
abbrev outS (w : Fin 16) (t : Fin grid0.N) (k : HProg (F := F)) : HProg (F := F) := .op (cfg0.startOut w t) fun _ => k
abbrev outW (w : Fin 16) (t : Fin grid0.N) (k : HProg (F := F)) : HProg (F := F) := .op (cfg0.waitOut w t) fun _ => k
abbrev bodyC (t : Fin grid0.N) (k : HProg (F := F)) : HProg (F := F) :=
  .op (.call (Pipeline.kernel cfg0.body) (cfg0.bodyArgs t (cfg0.slots t))) fun _ => k
abbrev next (a : (pcfgs (F := F) 0).Adm) (l : ℕ) : HProg (F := F) := .op (.call (Pipeline.pipe 0) (a, l)) fun _ => .ret ⟨⟩

/-- Each trip of the loop as the copies it starts and waits for and the body's call between them. -/
theorem trip0 (a : (pcfgs (F := F) 0).Adm) : cfg0.iter (nD := nD) (τ := τ) (Val := Elt F) (P := Fin 3) (A := fun p => (pcfgs (F := F) p).Adm) 0 a 0
    = inS 4 t0_0 (next a 1) := rfl
theorem trip1 (a : (pcfgs (F := F) 0).Adm) : cfg0.iter (nD := nD) (τ := τ) (Val := Elt F) (P := Fin 3) (A := fun p => (pcfgs (F := F) p).Adm) 0 a 1
    = inS 0 t0_0 (inS 1 t0_0 (inS 2 t0_0 (inS 3 t0_0 (inS 5 t0_0 (inS 6 t0_0 (inS 4 t0_1
      (inW 0 t0_0 (inW 1 t0_0 (inW 2 t0_0 (inW 3 t0_0 (inW 4 t0_0 (inW 5 t0_0 (inW 6 t0_0 (bodyC t0_0 (outS 7 t0_0 (next a 2)))))))))))))))) := rfl
theorem trip2 (a : (pcfgs (F := F) 0).Adm) : cfg0.iter (nD := nD) (τ := τ) (Val := Elt F) (P := Fin 3) (A := fun p => (pcfgs (F := F) p).Adm) 0 a 2
    = inS 4 t0_2 (inW 4 t0_1 (bodyC t0_1 (outS 7 t0_1 (outW 7 t0_0 (next a 3))))) := rfl
theorem trip3 (a : (pcfgs (F := F) 0).Adm) : cfg0.iter (nD := nD) (τ := τ) (Val := Elt F) (P := Fin 3) (A := fun p => (pcfgs (F := F) p).Adm) 0 a 3
    = inS 4 t0_3 (inW 4 t0_2 (bodyC t0_2 (outS 7 t0_2 (outW 7 t0_1 (next a 4))))) := rfl
theorem trip4 (a : (pcfgs (F := F) 0).Adm) : cfg0.iter (nD := nD) (τ := τ) (Val := Elt F) (P := Fin 3) (A := fun p => (pcfgs (F := F) p).Adm) 0 a 4
    = inW 4 t0_3 (bodyC t0_3 (outS 7 t0_3 (outS 8 t0_3 (outS 9 t0_3 (outS 10 t0_3 (outS 11 t0_3 (outS 12 t0_3 (outS 13 t0_3 (outS 14 t0_3 (outS 15 t0_3 (outW 8 t0_3 (outW 9 t0_3 (outW 10 t0_3 (outW 11 t0_3 (outW 12 t0_3 (outW 13 t0_3 (outW 14 t0_3 (outW 15 t0_3 (outW 7 t0_2 (next a 5)))))))))))))))))))) := rfl
theorem trip5 (a : (pcfgs (F := F) 0).Adm) : cfg0.iter (nD := nD) (τ := τ) (Val := Elt F) (P := Fin 3) (A := fun p => (pcfgs (F := F) p).Adm) 0 a 5
    = outW 7 t0_3 (.ret ⟨⟩) := rfl

end Cert.KernelIdeal.Gen
-- ==== Proof.K.Base.lean ====
module

public import proofs.«01_k».proof.Proof.Gen.KernelIdeal.Regions
public import proofs.«01_k».proof.Proof.Gen.KernelIdeal.Points
public import proofs.«01_k».proof.Proof.Gen.KernelIdeal.Skeleton
public import proofs.«01_k».proof.Proof.K.Trips
public import Idealize.ShloMosaic.Lib.Pipeline.Regions
public import Idealize.ShloMosaic.Lib.Pipeline.Kit
public import Idealize.ShloMosaic.Lib.Rounds
public import Idealize.ShloMosaic.Lib.Transfers
public import Idealize.ShloMosaic.Lib.Tactic

/-!
What the run of the three kernel calls is stated over: the resource algebra, the device across the first mesh axis,
and the few rules the exchange call is stepped with — a load and a store of a whole buffer, the start of a local
copy and the wait for it.
-/

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! ## The resource algebra -/

/-- The regions' rounds, the exchange's rounds, the local copies' counters. -/
abbrev UU : Type := UR sig nD τ × (UR sig nD τ × Counters)

local notation "𝕄" => MT nD τ sig Unit (Elt F) ℕ UU ℕ

abbrev EP : Emb (UR sig nD τ) (MT nD τ sig Unit (Elt F) ℕ UU ℕ) := embL

/-- The exchange's rounds, inside the algebra. -/
def ER : Emb (UR sig nD τ) (MT nD τ sig Unit (Elt F) ℕ UU ℕ) :=
  ((Emb.inl : Emb (UR sig nD τ) (UR sig nD τ × Counters)).trans (Emb.inr : Emb (UR sig nD τ × Counters) UU)).trans
    (uEmb (nD := nD) (sig := sig) (Ix := Unit) (Val := Elt F) (Name := ℕ) (U := UU) (Lvl := ℕ)).toEmb

instance : (ER (F := F)).LandsIn (upEmb : UEmb _ 𝕄) := by unfold ER; infer_instance

abbrev EC : UEmb Counters 𝕄 := countersEmb

abbrev 𝒱₀ : Variants := Variants.none
abbrev 𝒱 : Variants := 𝒱₀.lift

/-- The body table of the whole program. -/
abbrev DD : Defs nD τ sig (Elt F) (Pipeline.Sig Λ₀ (Fin 3) fun p => (pcfgs (F := F) p).Adm) := Pipeline.defs pcfgs defs₀

/-! ## The device across the first mesh axis -/

/-- The device at the other coordinate of the first mesh axis. -/
def pr (c : Dev nD) : Dev nD := ⟨(c.val + 8) % 16, Nat.mod_lt _ (by decide)⟩
/-- The peer's peer is the device itself. -/
theorem pr_pr (c : Dev nD) : pr (pr c) = c := by revert c; decide
/-- Different devices have different peers. -/
theorem pr_inj {a b : Dev nD} (h : pr a = pr b) : a = b := by rw [← pr_pr a, h, pr_pr]
def swap : Dev nD ≃ Dev nD := ⟨pr, pr, pr_pr, pr_pr⟩

/-- The device that each remote step names is the peer: the signal, and the three copies. -/
theorem dev1 (c : Dev nD) (h) : (⟨k0_dev1 c, h⟩ : Dev nD) = pr c := Fin.ext ((by decide : ∀ c : Dev nD, k0_dev1 c = (c.val + 8) % 16) c)
theorem dev2 (c : Dev nD) (h) : (⟨k0_dev2 c, h⟩ : Dev nD) = pr c := Fin.ext ((by decide : ∀ c : Dev nD, k0_dev2 c = (c.val + 8) % 16) c)
theorem dev3 (c : Dev nD) (h) : (⟨k0_dev3 c, h⟩ : Dev nD) = pr c := Fin.ext ((by decide : ∀ c : Dev nD, k0_dev3 c = (c.val + 8) % 16) c)
theorem dev4 (c : Dev nD) (h) : (⟨k0_dev4 c, h⟩ : Dev nD) = pr c := Fin.ext ((by decide : ∀ c : Dev nD, k0_dev4 c = (c.val + 8) % 16) c)

/-! ## A buffer, whole -/

/-- Device `c`'s buffer `b`, whole, at contents `f`. -/
abbrev pt (c : Dev nD) (b : Ref sig .tc) (f : b.ty.Contents (Elt F)) : sProp 𝕄 := ((c : Thread nD τ).loc b) ↦{fullShare} f

/-- Device `c`'s buffer `b`, whole, at contents not chosen. -/
abbrev ptAny (c : Dev nD) (b : Ref sig .tc) : sProp 𝕄 := iprop(∃ f : b.ty.Contents (Elt F), pt c b f)

/-- Owning the slice of a whole buffer that is all of it is owning the buffer. -/
theorem owns_full (c : Dev nD) (b : Ref sig .tc) (off : Fin b.ty.shape.rank → ℕ) (hoff : ∀ a, off a = 0) (inb)
    (hr : ∀ a, (Rect.unit (s := b.ty.shape) off b.ty.shape.size inb).stride a = 1) (X : b.ty.Contents (Elt F)) :
    (owns (c : Thread nD τ) ((Memref.whole b).slice (Rect.unit (s := b.ty.shape) off b.ty.shape.size inb) hr) fullShare X : sProp 𝕄) = pt c b X := by
  obtain rfl : off = fun _ => 0 := funext hoff
  have h := owns_slice_read (Ix := Unit) (Name := ℕ) (U := UU) (Lvl := ℕ) (Val := Elt F) (c : Thread nD τ) (Memref.whole b) fullShare
    (Rect.unit (s := b.ty.shape) (fun _ => 0) b.ty.shape.size inb) hr X
  have e : (fun j => (Memref.whole b : Memref sig .tc _ _ _).view.read (Elt F) X ((Rect.unit (s := b.ty.shape) (fun _ => 0) b.ty.shape.size inb).emb j)) = X := by
    funext j; exact congrArg X (Rect.emb_whole_apply _ j)
  rw [e] at h
  refine h.trans ?_
  have hs : ((Memref.whole b : Memref sig .tc _ _ _).view.slice (Rect.unit (s := b.ty.shape) (fun _ => 0) b.ty.shape.size inb)).set = Finset.univ :=
    Memref.set_access_whole b
  rw [hs]

/-! ## The steps of a local copy -/

section Steps

variable {Λ : Labels} {defs : Defs nD τ sig (Elt F) Λ} (𝒲 : Variants) (c : Dev nD) (bd : Option 𝒲.V)

/-- What a copy under way on semaphore `sm` delivers at its wait. -/
abbrev Fly (c : Dev nD) (sm : DmaSem sig) (N : ℕ) (D : sProp 𝕄) : sProp 𝕄 := Transfers.Flight EC (c : Thread nD τ) (.dma sm) () N D

/-- The start of a local copy: from the source at `X`, the destination at anything and the idle semaphore, the copy is
    under way and will deliver both at `X`. -/
theorem copyS {sp sp' : Space} {s : Shape} {e : EltTy} {src : Memref sig .tc sp s e} {dst : Memref sig .tc sp' s e} {sm : DmaSem sig}
    {hsrc : src.view.WordExact} {hdst : dst.view.WordExact} {hsem : DmaTarget.Typed (nD := nD) (τ := τ) (p := Proc.tc) sp (.dma sm) (.here dst)}
    {α : Type} {k : PUnit → Prog (TpuEff nD τ sig (Elt F) Λ .tc) α} {Q : α → sProp 𝕄}
    (X : s.Idx → Elt F e) (A : sProp 𝕄) (B : (s.Idx → Elt F e) → sProp 𝕄)
    (hA : (owns (c : Thread nD τ) src fullShare X : sProp 𝕄) = A) (hB : ∀ Y, (owns (c : Thread nD τ) dst fullShare Y : sProp 𝕄) = B Y)
    (hpos : 0 < dst.view.dmaCredit) :
    iprop(A ∗ (∃ Y, B Y) ∗ semVal ((c : Thread nD τ), .dma sm) 0)
      ⊢ iprop((Fly c sm dst.view.dmaCredit iprop(B X ∗ A) -∗ wp frame (wpE defs 𝒲 (c : Thread nD τ) bd) Set.univ (k ⟨⟩) Q)
          -∗ wp frame (wpE defs 𝒲 (c : Thread nD τ) bd) Set.univ (.op (.enqueueDma src (.here dst) (.dma sm) hsrc hdst hsem) k) Q) := by
  subst hA
  iintro ⟨Hs, ⟨%Y, Hd⟩, Hv⟩ Hk
  ihave Hd := (Entails.of_eq (hB Y).symm) $$ Hd
  unfold owns
  icases Hs with ⟨%fs, %hfs, Hs⟩
  icases Hd with ⟨%fd, %hfd, Hd⟩
  iapply (Transfers.wp_dmaLocal EC 𝒲 (c : Thread nD τ) bd () dst.view.dmaCredit rfl hpos (Finset.Subset.refl _)) $$ [Hs Hd Hv]
  · isplitl [Hs]; · iexact Hs
    isplitl [Hd] <;> iassumption
  iintro HF
  iapply Hk
  iapply (Transfers.Flight_mono EC (c : Thread nD τ) ?_) $$ HF
  rw [← hB X]
  unfold owns
  iintro ⟨H1, H2⟩
  isplitl [H1]
  · iexists _
    isplitr [H1]
    rotate_left
    · iexact H1
    · ipureintro
      exact (View.read_write_univ _ _).trans hfs
  · iexists fs
    isplitr [H2]
    · ipureintro; exact hfs
    · iexact H2

/-- The wait for a local copy, the core owing `O`. -/
theorem copyW {sp sp' : Space} {s s' : Shape} {e e' : EltTy} {src : Memref sig .tc sp s' e'} {dst : Memref sig .tc sp' s e} {sm : DmaSem sig}
    {hsrc : src.view.WordExact} {hdst : dst.view.WordExact}
    {α : Type} {k : PUnit → Prog (TpuEff nD τ sig (Elt F) Λ .tc) α} {Q : α → sProp 𝕄} (N : ℕ) (hN : dst.view.dmaCredit = N) (D : sProp 𝕄)
    (O : CellTallies nD τ sig Unit) :
    iprop(Fly c sm N D ∗ (∃ W, owes (c : Thread nD τ) O W) ∗ MayWait (c : Thread nD τ) (.dma sm) () O)
      ⊢ iprop((iprop(D ∗ semVal ((c : Thread nD τ), .dma sm) 0 ∗ (∃ W, owes (c : Thread nD τ) O W))
            -∗ wp frame (wpE defs 𝒲 (c : Thread nD τ) bd) Set.univ (k ⟨⟩) Q)
          -∗ wp frame (wpE defs 𝒲 (c : Thread nD τ) bd) Set.univ (.op (.waitDma2 sm src dst hsrc hdst) k) Q) := by
  iintro ⟨HF, ⟨%W, HO⟩, Hm⟩ Hk
  iapply (Transfers.wp_waitLocalO EC 𝒲 (c : Thread nD τ) bd () hN) $$ [HF HO Hm]
  · isplitl [HF]; · iexact HF
    isplitl [HO] <;> iassumption
  iintro ⟨HD, Hv, HO⟩
  iapply Hk
  isplitl [HD]; · iexact HD
  isplitl [Hv]; · iexact Hv
  iexists _; iexact HO

end Steps

end Cert.KernelIdeal.Run
-- ==== Proof.K.Protocol.lean ====
module

public import proofs.«01_k».proof.Proof.K.Base

/-!
The exchange between the two devices of a pair, written down per semaphore. Device `c` and its peer `pr c`:

* the barrier cell of `c` is raised by `pr c`, one unit, and waited for by `c`. With the unit come the peer's three
  receiving buffers, at anything, and that the peer's three receive cells are open;
* send cell `k` of `c` is raised by `c`'s own copy `k` and waited for by `c` at the last grid point. With it comes the
  copy's source back, as it was sent;
* receive cell `k` of `c` is raised by the peer's copy `k` and waited for by `c` at the last grid point. With it comes
  the receiving buffer at the PEER's source.

Copy 0 carries the compressed latent of the own block of `Wdkv`, copies 1 and 2 the own blocks of `Wuk` and `Wuv`.
-/

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ)

/-! ## What the exchange computes on device `c` -/

/-- The operands, as the exchange finds them. -/
def xA (c : Dev nD) : Vec F S1024x2048 .f32 := V1 m c main_v1
def wdkvA (c : Dev nD) : Vec F S2048x128 .f32 := V1 m c main_arg1
def wukA (c : Dev nD) : Vec F S128x2048 .f32 := V1 m c main_arg2
def wuvA (c : Dev nD) : Vec F S128x2048 .f32 := V1 m c main_arg3
def wqA (c : Dev nD) : Vec F S2048x2048 .f32 := V1 m c main_arg4
def wqrA (c : Dev nD) : Vec F S2048x512 .f32 := V1 m c main_arg5
def wkrA (c : Dev nD) : Vec F S2048x32 .f32 := V1 m c main_arg6

/-- The compressed latent of the own block, -/
def cA (c : Dev nD) : Vec F S1024x128 .bf16 := k0_pay5 (xA m c) (wdkvA m c)
/-- the own blocks of the two up-projections, -/
def ukA (c : Dev nD) : Vec F S128x2048 .bf16 := k0_pay3 (wukA m c)
def uvA (c : Dev nD) : Vec F S128x2048 .bf16 := k0_pay4 (wuvA m c)
/-- the positional queries and keys. -/
def qrA (c : Dev nD) : Vec F S1024x512 .bf16 := k0_pay6 (xA m c) (wqrA m c)
def krA (c : Dev nD) : Vec F S1024x32 .bf16 := k0_pay1 (xA m c) (wkrA m c)

/-! ## The cells -/

/-- The semaphore of send `k`, and of receive `k`. -/
abbrev sS : Fin 3 → DmaSem sig := fun | 0 => ⟨18, by decide⟩ | 1 => ⟨19, by decide⟩ | 2 => ⟨20, by decide⟩
abbrev rS : Fin 3 → DmaSem sig := fun | 0 => ⟨21, by decide⟩ | 1 => ⟨22, by decide⟩ | 2 => ⟨23, by decide⟩
abbrev bS : Sem sig := ⟨0, by decide⟩

abbrev barCell (c : Dev nD) : GSem nD τ sig := ((c : Thread nD τ), .reg bS)
abbrev sendCell (c : Dev nD) (k : Fin 3) : GSem nD τ sig := ((c : Thread nD τ), .dma (sS k))
abbrev recvCell (c : Dev nD) (k : Fin 3) : GSem nD τ sig := ((c : Thread nD τ), .dma (rS k))

/-- The part a semaphore plays in the exchange. -/
inductive Part | bar | send (k : Fin 3) | recv (k : Fin 3)
  deriving DecidableEq

def part : SemLoc sig → Option Part
  | .reg _ => some .bar
  | .dma s => if s = sS 0 then some (.send 0) else if s = sS 1 then some (.send 1) else if s = sS 2 then some (.send 2)
      else if s = rS 0 then some (.recv 0) else if s = rS 1 then some (.recv 1) else if s = rS 2 then some (.recv 2) else none

/-- The parts of the seven semaphores. -/
theorem part_bar : part (.reg bS) = some .bar := rfl
theorem part_send (k : Fin 3) : part (.dma (sS k)) = some (.send k) := by fin_cases k <;> rfl
theorem part_recv (k : Fin 3) : part (.dma (rS k)) = some (.recv k) := by fin_cases k <;> rfl

/-- What a copy raises its two cells by. -/
def amt : Fin 3 → ℕ
  | 0 => (Memref.whole cc0_stg11_0 : Memref sig .tc _ _ _).view.dmaCredit
  | 1 => (Memref.whole cc0_stg13_0 : Memref sig .tc _ _ _).view.dmaCredit
  | 2 => (Memref.whole cc0_stg15_0 : Memref sig .tc _ _ _).view.dmaCredit
/-- A copy raises its cells by something. -/
theorem amt_pos (k : Fin 3) : 0 < amt k := by
  fin_cases k
  · exact View.dmaCredit_pos _ (by decide)
  · exact View.dmaCredit_pos _ (by decide)
  · exact View.dmaCredit_pos _ (by decide)

/-! ## The payloads -/

/-- Copy `k`'s source on device `c`, as it is sent. -/
def sendPay (c : Dev nD) : Fin 3 → sProp 𝕄
  | 0 => pt c cc0_stg10_0 (cA m c)
  | 1 => pt c cc0_stg12_0 (ukA m c)
  | 2 => pt c cc0_stg14_0 (uvA m c)
/-- Copy `k`'s receiving buffer on device `c`, holding what the peer sent. -/
def recvPay (c : Dev nD) : Fin 3 → sProp 𝕄
  | 0 => pt c cc0_stg11_0 (cA m (pr c))
  | 1 => pt c cc0_stg13_0 (ukA m (pr c))
  | 2 => pt c cc0_stg15_0 (uvA m (pr c))
/-- What comes to device `c` with its barrier unit. -/
def barPay (c : Dev nD) : sProp 𝕄 :=
  iprop((ptAny (pr c) cc0_stg11_0 ∗ ptAny (pr c) cc0_stg13_0 ∗ ptAny (pr c) cc0_stg15_0)
    ∗ reached ER (recvCell (pr c) 0) 0 ∗ reached ER (recvCell (pr c) 1) 0 ∗ reached ER (recvCell (pr c) 2) 0)

def amtOf : Option Part → ℕ
  | some (.send k) => amt k
  | some (.recv k) => amt k
  | _ => 1
def payOf (c : Dev nD) : Option Part → sProp 𝕄
  | some .bar => barPay c
  | some (.send k) => sendPay m c k
  | some (.recv k) => recvPay m c k
  | none => iprop(emp)

instance payOf_storable (c : Dev nD) (p : Option Part) : BI.Storable (upEmb : UEmb _ 𝕄) (payOf m c p) := by
  match p with
  | some .bar => unfold payOf barPay; infer_instance
  | some (.send 0) => unfold payOf sendPay; infer_instance
  | some (.send 1) => unfold payOf sendPay; infer_instance
  | some (.send 2) => unfold payOf sendPay; infer_instance
  | some (.recv 0) => unfold payOf recvPay; infer_instance
  | some (.recv 1) => unfold payOf recvPay; infer_instance
  | some (.recv 2) => unfold payOf recvPay; infer_instance
  | none => unfold payOf; infer_instance

/-- One round on each cell of the exchange, one duty in it. -/
def Rd : Rounds.Schedule (GSem nD τ sig) Unit 𝕄 where
  duties g r := if r = 0 ∧ g.1.2 = .tc ∧ (part g.2).isSome then {()} else ∅
  unitless _ := False
  amount g _ _ := amtOf (part g.2)
  payload g _ _ := payOf m g.1.1 (part g.2)
  amount_pos g _ _ _ := by
    rcases part g.2 with _ | ⟨_ | k | k⟩
    · exact Nat.one_pos
    · exact Nat.one_pos
    · exact amt_pos k
    · exact amt_pos k

instance Rd_storable (g : GSem nD τ sig) (r : ℕ) (d : Unit) : BI.Storable (upEmb : UEmb _ 𝕄) ((Rd (F := F) m).payload g r d) :=
  payOf_storable m _ _

/-- Every cell of the exchange has one duty, in its first round, -/
theorem duties_of (g : GSem nD τ sig) (h : g.1.2 = .tc) {p : Part} (hp : part g.2 = some p) : (Rd (F := F) m).duties g 0 = {()} := by
  dsimp only [Rd]; exact if_pos ⟨rfl, h, by rw [hp]; rfl⟩
/-- and none later; -/
theorem duties_later (g : GSem nD τ sig) : ∀ r, 1 ≤ r → (Rd (F := F) m).duties g r = ∅ :=
  fun r hr => by dsimp only [Rd]; rw [if_neg (fun h => by omega)]
/-- its amount, -/
theorem amount_of (g : GSem nD τ sig) {p : Part} (hp : part g.2 = some p) (u : Unit) : (Rd (F := F) m).amount g 0 u = amtOf (some p) := by
  dsimp only [Rd]; rw [hp]
/-- its payload, -/
theorem payload_of (g : GSem nD τ sig) {p : Part} (hp : part g.2 = some p) (u : Unit) : (Rd (F := F) m).payload g 0 u = payOf m g.1.1 (some p) := by
  dsimp only [Rd]; rw [hp]
/-- and what a wait on the cell takes. -/
theorem expect_of (g : GSem nD τ sig) (h : g.1.2 = .tc) {p : Part} (hp : part g.2 = some p) : (Rd (F := F) m).expect g 0 = amtOf (some p) := by
  unfold Schedule.expect Schedule.amountOf; rw [duties_of m g h hp, Finset.sum_singleton, amount_of m g hp]
/-- What a wait gives is the payload. -/
theorem rest_of (g : GSem nD τ sig) (h : g.1.2 = .tc) {p : Part} (hp : part g.2 = some p) :
    bigSep ((Rd (F := F) m).duties g 0 \ ∅) (fun u => (Rd (F := F) m).payload g 0 u) = payOf m g.1.1 (some p) := by
  rw [Finset.sdiff_empty, duties_of m g h hp, bigSep_singleton, payload_of m g hp]

/-! ## What each core owes at launch, and the levels -/

/-- The peer's three receive credits. -/
def Orecv (c : Dev nD) : CellTallies nD τ sig Unit :=
  tallyAt (recvCell (pr c) 0) () (amt 0) + tallyAt (recvCell (pr c) 2) () (amt 2) + tallyAt (recvCell (pr c) 1) () (amt 1)
/-- The peer's three receive credits and its barrier unit. -/
def O₀ (c : Dev nD) : CellTallies nD τ sig Unit := Orecv c + tallyAt (barCell (pr c)) () 1

def L (g : GSem nD τ sig) : Finset Unit := if g.1.2 = .tc then {()} else ∅
def lvOf : Option Part → ℕ
  | some .bar => 1
  | some (.recv _) => 2
  | _ => 0
/-- The barrier at 1, the receive cells at 2, every other cell at 0. -/
def lv (g : GSem nD τ sig) (_ : Unit) : ℕ := lvOf (part g.2)

/-- Only a device's main thread has cells with levels. -/
theorem L_of_ne (g : GSem nD τ sig) (h : g.1.2 ≠ .tc) : L g = ∅ := if_neg h
/-- A main thread's cells have one each. -/
theorem L_tc (c : Dev nD) (sm : SemLoc sig) : L ((c : Thread nD τ), sm) = {()} := if_pos rfl

/-- A tally at one cell counts at no other. -/
theorem tally_pos {g g' : GSem nD τ sig} {u u' : Unit} {n : ℕ} (h : 0 < tallyAt g u n g' u') : g' = g := by
  rw [tallyAt_apply] at h
  by_contra hne
  rw [if_neg (fun e => hne e.1)] at h
  exact Nat.lt_irrefl _ h

/-- A device that owes its copies owes to its peer's receive cells only. -/
theorem Orecv_pos {c : Dev nD} {g : GSem nD τ sig} {u : Unit} (h : 0 < Orecv c g u) : ∃ k, g = recvCell (pr c) k := by
  unfold Orecv at h
  simp only [Finsupp.add_apply, DFinsupp.add_apply, Pi.add_apply] at h
  rcases Nat.lt_or_ge 0 (tallyAt (recvCell (pr c) 0) () (amt 0) g u) with h0 | h0
  · exact ⟨0, tally_pos h0⟩
  rcases Nat.lt_or_ge 0 (tallyAt (recvCell (pr c) 2) () (amt 2) g u) with h1 | h1
  · exact ⟨2, tally_pos h1⟩
  rcases Nat.lt_or_ge 0 (tallyAt (recvCell (pr c) 1) () (amt 1) g u) with h2 | h2
  · exact ⟨1, tally_pos h2⟩
  omega

/-- At the start it owes to them and to its peer's barrier cell. -/
theorem O₀_pos {c : Dev nD} {g : GSem nD τ sig} {u : Unit} (h : 0 < O₀ c g u) : (∃ k, g = recvCell (pr c) k) ∨ g = barCell (pr c) := by
  unfold O₀ at h
  simp only [Finsupp.add_apply, DFinsupp.add_apply, Pi.add_apply] at h
  rcases Nat.lt_or_ge 0 (Orecv c g u) with h0 | h0
  · exact .inl (Orecv_pos h0)
  rcases Nat.lt_or_ge 0 (tallyAt (barCell (pr c)) () 1 g u) with h1 | h1
  · exact .inr (tally_pos h1)
  omega

/-- The own barrier unit may be waited for while the peer's receive credits are owed. -/
theorem mayWait_bar (c : Dev nD) : (levAts L lv : sProp 𝕄) ⊢ MayWait (c : Thread nD τ) (.reg bS) () (Orecv c) :=
  MayOwe.of_cut (L := L) (lev := lv) 1 (fun p hp => by rw [Finset.mem_singleton.mp hp, L_tc]; exact Finset.mem_singleton_self _)
    (fun g u hg => by obtain ⟨k, rfl⟩ := Orecv_pos hg; rw [L_tc]; exact Finset.mem_singleton_self _)
    (fun p hp => by rw [Finset.mem_singleton.mp hp]; exact le_refl 1)
    (fun g u hg => by obtain ⟨k, rfl⟩ := Orecv_pos hg; unfold lv; rw [part_recv]; exact Nat.one_lt_two)

/-- A staging copy may be waited for while all of the start is owed. -/
theorem mayWait_stage (c : Dev nD) (s : DmaSem sig) (hs : part (.dma s) = none) :
    (levAts L lv : sProp 𝕄) ⊢ MayWait (c : Thread nD τ) (.dma s) () (O₀ c) :=
  MayOwe.of_cut (L := L) (lev := lv) 0 (fun p hp => by rw [Finset.mem_singleton.mp hp, L_tc]; exact Finset.mem_singleton_self _)
    (fun g u hg => by rcases O₀_pos hg with ⟨k, rfl⟩ | rfl <;> (rw [L_tc]; exact Finset.mem_singleton_self _))
    (fun p hp => by rw [Finset.mem_singleton.mp hp]; unfold lv; rw [hs]; exact le_refl 0)
    (fun g u hg => by
      rcases O₀_pos hg with ⟨k, rfl⟩ | rfl
      · unfold lv; rw [part_recv]; exact Nat.two_pos
      · exact Nat.one_pos)

/-! ## The protocol's ghost state -/

/-- The invariants device `c` opens, at the names `K` they were allocated at: its own seven and the peer's barrier
    and receive cells. -/
def invs (K : GSem nD τ sig → ℕ) (c : Dev nD) : sProp 𝕄 :=
  iprop(cellInv ER (Rd m) (K (barCell c)) (barCell c)
    ∗ (cellInv ER (Rd m) (K (sendCell c 0)) (sendCell c 0) ∗ cellInv ER (Rd m) (K (sendCell c 1)) (sendCell c 1)
        ∗ cellInv ER (Rd m) (K (sendCell c 2)) (sendCell c 2))
    ∗ (cellInv ER (Rd m) (K (recvCell c 0)) (recvCell c 0) ∗ cellInv ER (Rd m) (K (recvCell c 1)) (recvCell c 1)
        ∗ cellInv ER (Rd m) (K (recvCell c 2)) (recvCell c 2))
    ∗ cellInv ER (Rd m) (K (barCell (pr c))) (barCell (pr c))
    ∗ (cellInv ER (Rd m) (K (recvCell (pr c) 0)) (recvCell (pr c) 0) ∗ cellInv ER (Rd m) (K (recvCell (pr c) 1)) (recvCell (pr c) 1)
        ∗ cellInv ER (Rd m) (K (recvCell (pr c) 2)) (recvCell (pr c) 2)))

instance invs_persistent (K : GSem nD τ sig → ℕ) (c : Dev nD) : BI.Persistent (invs m K c) := by unfold invs; infer_instance

/-- The tokens of the seven duties device `c` pays. -/
def toks (c : Dev nD) : sProp 𝕄 :=
  iprop(dutyTok ER (barCell (pr c)) 0 ()
    ∗ (dutyTok ER (sendCell c 0) 0 () ∗ dutyTok ER (sendCell c 1) 0 () ∗ dutyTok ER (sendCell c 2) 0 ())
    ∗ (dutyTok ER (recvCell (pr c) 0) 0 () ∗ dutyTok ER (recvCell (pr c) 1) 0 () ∗ dutyTok ER (recvCell (pr c) 2) 0 ()))

/-- What device `c` carries from the launch to the exchange: the right to open its six copy cells, its place on its
    barrier cell, the duties it pays. -/
def ghost (K : GSem nD τ sig → ℕ) (c : Dev nD) : sProp 𝕄 :=
  iprop(invs m K c ∗ atPos ER (barCell c) 0 ∅ 0
    ∗ (openTok ER (sendCell c 0) ∗ openTok ER (sendCell c 1) ∗ openTok ER (sendCell c 2))
    ∗ (openTok ER (recvCell c 0) ∗ openTok ER (recvCell c 1) ∗ openTok ER (recvCell c 2))
    ∗ reached ER (barCell (pr c)) 0 ∗ toks c)

/-- The credits it waits with. -/
def creds (c : Dev nD) : sProp 𝕄 :=
  iprop(cred (tallyAt (barCell c) () 1)
    ∗ cred (tallyAt (recvCell c 0) () (amt 0)) ∗ cred (tallyAt (recvCell c 1) () (amt 1)) ∗ cred (tallyAt (recvCell c 2) () (amt 2)))

/-- The six copy cells opened. -/
def opened (K : GSem nD τ sig → ℕ) (c : Dev nD) : sProp 𝕄 :=
  iprop(invs m K c ∗ atPos ER (barCell c) 0 ∅ 0
    ∗ (atPos ER (sendCell c 0) 0 ∅ 0 ∗ atPos ER (sendCell c 1) 0 ∅ 0 ∗ atPos ER (sendCell c 2) 0 ∅ 0)
    ∗ (atPos ER (recvCell c 0) 0 ∅ 0 ∗ atPos ER (recvCell c 1) 0 ∅ 0 ∗ atPos ER (recvCell c 2) 0 ∅ 0)
    ∗ reached ER (barCell (pr c)) 0
    ∗ (reached ER (sendCell c 0) 0 ∗ reached ER (sendCell c 1) 0 ∗ reached ER (sendCell c 2) 0)
    ∗ (reached ER (recvCell c 0) 0 ∗ reached ER (recvCell c 1) 0 ∗ reached ER (recvCell c 2) 0)
    ∗ toks c)

/-- Between the first grid point and the last: the three copies under way, in both directions, the barrier closed. -/
def underway (K : GSem nD τ sig → ℕ) (c : Dev nD) : sProp 𝕄 :=
  iprop(invs m K c
    ∗ (atPos ER (sendCell c 0) 0 ∅ 0 ∗ atPos ER (sendCell c 1) 0 ∅ 0 ∗ atPos ER (sendCell c 2) 0 ∅ 0)
    ∗ (atPos ER (recvCell c 0) 0 ∅ 0 ∗ atPos ER (recvCell c 1) 0 ∅ 0 ∗ atPos ER (recvCell c 2) 0 ∅ 0)
    ∗ (cred (tallyAt (sendCell c 0) () (amt 0)) ∗ cred (tallyAt (sendCell c 1) () (amt 1)) ∗ cred (tallyAt (sendCell c 2) () (amt 2)))
    ∗ (cred (tallyAt (recvCell c 0) () (amt 0)) ∗ cred (tallyAt (recvCell c 1) () (amt 1)) ∗ cred (tallyAt (recvCell c 2) () (amt 2)))
    ∗ semVal (barCell c) 0)

/-- A cell whose round is over gives its counter back, at zero. -/
theorem close (κ : ℕ) (g : GSem nD τ sig) :
    iprop(cellInv ER (Rd m) κ g ∗ atPos ER g (0 + 1) ∅ 0) ⊢ (|={Set.univ}=> semVal g 0 : sProp 𝕄) :=
  Rounds.cell_close ER (Rd m) (Set.mem_univ κ) id (duties_later m g)

/-- Opening the copy cells: their counters at zero go into the invariants. -/
theorem open_cells (K : GSem nD τ sig → ℕ) (c : Dev nD) :
    iprop(ghost m K c ∗ (semVal (sendCell c 0) 0 ∗ semVal (sendCell c 1) 0 ∗ semVal (sendCell c 2) 0)
        ∗ (semVal (recvCell c 0) 0 ∗ semVal (recvCell c 1) 0 ∗ semVal (recvCell c 2) 0))
      ⊢ (|={Set.univ}=> opened m K c : sProp 𝕄) := by
  unfold ghost opened
  iintro ⟨⟨#HI, Hb, ⟨Ho0, Ho1, Ho2⟩, ⟨Hq0, Hq1, Hq2⟩, Hr, Ht⟩, ⟨Hs0, Hs1, Hs2⟩, ⟨Hv0, Hv1, Hv2⟩⟩
  ihave HI' := (Entails.of_eq (show invs m K c = _ from rfl)) $$ HI
  unfold invs
  icases HI' with ⟨-, ⟨#I0, #I1, #I2⟩, ⟨#J0, #J1, #J2⟩, -, -⟩
  imod (Rounds.cell_open ER (Rd m) (Set.mem_univ _)) $$ [Ho0 Hs0] with ⟨Ha0, #Hr0⟩
  · isplitr; · iexact I0
    isplitl [Ho0] <;> iassumption
  imod (Rounds.cell_open ER (Rd m) (Set.mem_univ _)) $$ [Ho1 Hs1] with ⟨Ha1, #Hr1⟩
  · isplitr; · iexact I1
    isplitl [Ho1] <;> iassumption
  imod (Rounds.cell_open ER (Rd m) (Set.mem_univ _)) $$ [Ho2 Hs2] with ⟨Ha2, #Hr2⟩
  · isplitr; · iexact I2
    isplitl [Ho2] <;> iassumption
  imod (Rounds.cell_open ER (Rd m) (Set.mem_univ _)) $$ [Hq0 Hv0] with ⟨Hp0, #Hw0⟩
  · isplitr; · iexact J0
    isplitl [Hq0] <;> iassumption
  imod (Rounds.cell_open ER (Rd m) (Set.mem_univ _)) $$ [Hq1 Hv1] with ⟨Hp1, #Hw1⟩
  · isplitr; · iexact J1
    isplitl [Hq1] <;> iassumption
  imod (Rounds.cell_open ER (Rd m) (Set.mem_univ _)) $$ [Hq2 Hv2] with ⟨Hp2, #Hw2⟩
  · isplitr; · iexact J2
    isplitl [Hq2] <;> iassumption
  imodintro
  isplitr; · iexact HI
  isplitl [Hb]; · iexact Hb
  isplitl [Ha0 Ha1 Ha2]
  · isplitl [Ha0]; · iexact Ha0
    isplitl [Ha1] <;> iassumption
  isplitl [Hp0 Hp1 Hp2]
  · isplitl [Hp0]; · iexact Hp0
    isplitl [Hp1] <;> iassumption
  isplitl [Hr]; · iexact Hr
  isplitr
  · isplitr; · iexact Hr0
    isplitr; · iexact Hr1
    iexact Hr2
  isplitr
  · isplitr; · iexact Hw0
    isplitr; · iexact Hw1
    iexact Hw2
  iexact Ht

end Cert.KernelIdeal.Run
-- ==== Proof.K.Bodies.lean ====
module

public import proofs.«01_k».proof.Proof.K.Protocol

/-!
The exchange's body at its four grid points. The first point opens the exchange, sends the three blocks and projects the
positional queries and keys; every point projects one block of the queries; the last waits for the six copies.
-/

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ)

theorem hz2 : (![0, 0] : Fin 2 → ℕ) = fun _ => 0 := by funext a; fin_cases a <;> rfl

/-- A load through a rectangle, by the value it reads. -/
theorem ldW (c : Dev nD) {cs : CoreSpace} {s : Shape} {e : EltTy} {mm : Memref sig .tc cs s e} {r : LoadRect s} {hl : mm.view.LoadsAt r}
    {α : Type} {k : (r.shape.Idx → Elt F e) → Prog (TpuEff nD τ sig (Elt F) Λ₀ .tc) α} {Q : α → sProp 𝕄}
    {f : Buf (Elt F) (mm.view.loc (c : Thread nD τ))} {X : r.shape.Idx → Elt F e} (hX : mm.view.readAt (Elt F) r f = X) :
    (mm.view.loc (c : Thread nD τ) ↦{fullShare} f)
      ⊢ iprop(((mm.view.loc (c : Thread nD τ) ↦{fullShare} f) -∗ wp frame (wpE (defs₀ (F := F)) 𝒱₀ (c : Thread nD τ) none) Set.univ (k X) Q)
        -∗ wp frame (wpE (defs₀ (F := F)) 𝒱₀ (c : Thread nD τ) none) Set.univ (.op (.load mm r hl) k) Q) := by
  subst hX; exact wp_load 𝒱₀ (c : Thread nD τ) none Set.univ (Finset.subset_univ _)

/-- A store through a rectangle, by what the buffer holds after it. -/
theorem stW (c : Dev nD) {cs : CoreSpace} {s : Shape} {e : EltTy} {mm : Memref sig .tc cs s e} {r : Rect s} {w : r.shape.Idx → Elt F e}
    {hx : (mm.access r).Stores Finset.univ} {hm : (Finset.univ : Finset r.shape.Idx) = Finset.univ ∨ ∀ a, r.stride a = 1}
    {α : Type} {k : PUnit → Prog (TpuEff nD τ sig (Elt F) Λ₀ .tc) α} {Q : α → sProp 𝕄}
    {f X : Buf (Elt F) (mm.view.loc (c : Thread nD τ))} (hX : (mm.access r).write (Elt F) f w Finset.univ = X) :
    (mm.view.loc (c : Thread nD τ) ↦{fullShare} f)
      ⊢ iprop(((mm.view.loc (c : Thread nD τ) ↦{fullShare} X) -∗ wp frame (wpE (defs₀ (F := F)) 𝒱₀ (c : Thread nD τ) none) Set.univ (k ⟨⟩) Q)
        -∗ wp frame (wpE (defs₀ (F := F)) 𝒱₀ (c : Thread nD τ) none) Set.univ (.op (.store mm r w Finset.univ hx hm) k) Q) := by
  subst hX
  exact wp_store (defs := defs₀ (F := F)) 𝒱₀ (c : Thread nD τ) none Set.univ (m := mm) (r := r) (w := w) (Mk := Finset.univ) (S := Finset.univ) (f := f) (Finset.subset_univ _)

/-- The start of copy 0, addressed to a device that equals the peer. -/
theorem send0 (K : GSem nD τ sig → ℕ) (c n : Dev nD) (hn : n = pr c)
    {hsc : (Memref.whole cc0_stg11_0 : Memref sig (Dev.tc n : Thread nD τ).2.kind .vmem S1024x128 .bf16).view.ref.isScScratch = false}
    {hsrc : (Memref.whole cc0_stg10_0 : Memref sig .tc .vmem S1024x128 .bf16).view.WordExact} {hdst : (Memref.whole cc0_stg11_0 : Memref sig .tc .vmem S1024x128 .bf16).view.WordExact}
    {hsem : DmaTarget.Typed .vmem (.dma (rS 0)) (.remote (Dev.tc n : Thread nD τ) (Memref.whole cc0_stg11_0 : Memref sig .tc .vmem S1024x128 .bf16) (.dma (sS 0)) hsc)}
    {α : Type} {Q : α → sProp 𝕄} {k : PUnit → Prog (TpuEff nD τ sig (Elt F) Λ₀ .tc) α}
    (O : CellTallies nD τ sig Unit) (W : Waits sig Unit) :
    iprop(cellInv ER (Rd m) (K (sendCell c 0)) (sendCell c 0) ∗ cellInv ER (Rd m) (K (recvCell (pr c) 0)) (recvCell (pr c) 0)
        ∗ pt c cc0_stg10_0 (cA m c) ∗ ptAny (pr c) cc0_stg11_0
        ∗ owes (c : Thread nD τ) (O + tallyAt (recvCell (pr c) 0) () (amt 0)) W
        ∗ dutyTok ER (sendCell c 0) 0 () ∗ reached ER (sendCell c 0) 0
        ∗ dutyTok ER (recvCell (pr c) 0) 0 () ∗ reached ER (recvCell (pr c) 0) 0)
      ⊢ iprop(((cred (tallyAt (sendCell c 0) () (amt 0)) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (Memref.whole cc0_stg10_0 : Memref sig .tc .vmem S1024x128 .bf16) (.remote (Dev.tc n : Thread nD τ) (Memref.whole cc0_stg11_0 : Memref sig .tc .vmem S1024x128 .bf16) (.dma (sS 0)) hsc) (.dma (rS 0)) hsrc hdst hsem) k) Q) := by
  subst hn
  iintro ⟨HI, HJ, Hs, ⟨%fn, Hd⟩, HO, Ht, Hr, Ht', Hr'⟩
  have es (f : Buf (Elt F) ((Memref.whole cc0_stg10_0 : Memref sig .tc .vmem S1024x128 .bf16).view.loc (c : Thread nD τ))) : (pt c cc0_stg10_0 f : sProp 𝕄)
      = ((Memref.whole cc0_stg10_0 : Memref sig .tc .vmem S1024x128 .bf16).view.loc (c : Thread nD τ) ↦[(Memref.whole cc0_stg10_0 : Memref sig .tc .vmem S1024x128 .bf16).view.set]{fullShare} f) := by
    rw [show (Memref.whole cc0_stg10_0 : Memref sig .tc .vmem S1024x128 .bf16).view.set = Finset.univ from View.set_whole _]
  have ed (f : Buf (Elt F) ((Memref.whole cc0_stg11_0 : Memref sig .tc .vmem S1024x128 .bf16).view.loc (pr c : Thread nD τ))) : (pt (pr c) cc0_stg11_0 f : sProp 𝕄)
      = ((Memref.whole cc0_stg11_0 : Memref sig .tc .vmem S1024x128 .bf16).view.loc (pr c : Thread nD τ) ↦[(Memref.whole cc0_stg11_0 : Memref sig .tc .vmem S1024x128 .bf16).view.set]{fullShare} f) := by
    rw [show (Memref.whole cc0_stg11_0 : Memref sig .tc .vmem S1024x128 .bf16).view.set = Finset.univ from View.set_whole _]
  ihave Hs := (Entails.of_eq (es _)) $$ Hs
  ihave Hd := (Entails.of_eq (ed _)) $$ Hd
  iapply (Rounds.wp_send_pointsTo 𝒱₀ ER (Rd m) (c : Thread nD τ) none (κ₁ := K (sendCell c 0)) (κ₂ := K (recvCell (pr c) 0))
    (r₁ := 0) (r₂ := 0) (d₁ := ()) (d₂ := ()) (fd := fn)
    (by rw [duties_of m (sendCell c 0) rfl (part_send 0)]; exact Finset.mem_singleton_self _) (by rw [duties_of m (recvCell (pr c) 0) rfl (part_recv 0)]; exact Finset.mem_singleton_self _)
    () () (amt 0) rfl (amount_of m (sendCell c 0) (part_send 0) ()) (amount_of m (recvCell (pr c) 0) (part_recv 0) ()) O rfl (W := W)
    (by rw [payload_of m (sendCell c 0) (part_send 0), ← es]; exact BI.Entails.refl _)
    (by
      rw [payload_of m (recvCell (pr c) 0) (part_recv 0), ← ed]
      refine Entails.of_eq ?_
      show _ = pt (pr c) cc0_stg11_0 (cA m (pr (pr c)))
      rw [pr_pr]
      congr 1
      exact View.write_whole_univ _ _ _)) $$ [HI HJ Hs Hd HO Ht Hr Ht' Hr']
  isplitl [HI]; · iexact HI
  isplitl [HJ]; · iexact HJ
  isplitl [Hs]; · iexact Hs
  isplitl [Hd]; · iexact Hd
  isplitl [HO]; · iexact HO
  isplitl [Ht]; · iexact Ht
  isplitl [Hr]; · iexact Hr
  isplitl [Ht'] <;> iassumption

/-- The start of copy 1, addressed to a device that equals the peer. -/
theorem send1 (K : GSem nD τ sig → ℕ) (c n : Dev nD) (hn : n = pr c)
    {hsc : (Memref.whole cc0_stg13_0 : Memref sig (Dev.tc n : Thread nD τ).2.kind .vmem S128x2048 .bf16).view.ref.isScScratch = false}
    {hsrc : (Memref.whole cc0_stg12_0 : Memref sig .tc .vmem S128x2048 .bf16).view.WordExact} {hdst : (Memref.whole cc0_stg13_0 : Memref sig .tc .vmem S128x2048 .bf16).view.WordExact}
    {hsem : DmaTarget.Typed .vmem (.dma (rS 1)) (.remote (Dev.tc n : Thread nD τ) (Memref.whole cc0_stg13_0 : Memref sig .tc .vmem S128x2048 .bf16) (.dma (sS 1)) hsc)}
    {α : Type} {Q : α → sProp 𝕄} {k : PUnit → Prog (TpuEff nD τ sig (Elt F) Λ₀ .tc) α}
    (O : CellTallies nD τ sig Unit) (W : Waits sig Unit) :
    iprop(cellInv ER (Rd m) (K (sendCell c 1)) (sendCell c 1) ∗ cellInv ER (Rd m) (K (recvCell (pr c) 1)) (recvCell (pr c) 1)
        ∗ pt c cc0_stg12_0 (ukA m c) ∗ ptAny (pr c) cc0_stg13_0
        ∗ owes (c : Thread nD τ) (O + tallyAt (recvCell (pr c) 1) () (amt 1)) W
        ∗ dutyTok ER (sendCell c 1) 0 () ∗ reached ER (sendCell c 1) 0
        ∗ dutyTok ER (recvCell (pr c) 1) 0 () ∗ reached ER (recvCell (pr c) 1) 0)
      ⊢ iprop(((cred (tallyAt (sendCell c 1) () (amt 1)) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (Memref.whole cc0_stg12_0 : Memref sig .tc .vmem S128x2048 .bf16) (.remote (Dev.tc n : Thread nD τ) (Memref.whole cc0_stg13_0 : Memref sig .tc .vmem S128x2048 .bf16) (.dma (sS 1)) hsc) (.dma (rS 1)) hsrc hdst hsem) k) Q) := by
  subst hn
  iintro ⟨HI, HJ, Hs, ⟨%fn, Hd⟩, HO, Ht, Hr, Ht', Hr'⟩
  have es (f : Buf (Elt F) ((Memref.whole cc0_stg12_0 : Memref sig .tc .vmem S128x2048 .bf16).view.loc (c : Thread nD τ))) : (pt c cc0_stg12_0 f : sProp 𝕄)
      = ((Memref.whole cc0_stg12_0 : Memref sig .tc .vmem S128x2048 .bf16).view.loc (c : Thread nD τ) ↦[(Memref.whole cc0_stg12_0 : Memref sig .tc .vmem S128x2048 .bf16).view.set]{fullShare} f) := by
    rw [show (Memref.whole cc0_stg12_0 : Memref sig .tc .vmem S128x2048 .bf16).view.set = Finset.univ from View.set_whole _]
  have ed (f : Buf (Elt F) ((Memref.whole cc0_stg13_0 : Memref sig .tc .vmem S128x2048 .bf16).view.loc (pr c : Thread nD τ))) : (pt (pr c) cc0_stg13_0 f : sProp 𝕄)
      = ((Memref.whole cc0_stg13_0 : Memref sig .tc .vmem S128x2048 .bf16).view.loc (pr c : Thread nD τ) ↦[(Memref.whole cc0_stg13_0 : Memref sig .tc .vmem S128x2048 .bf16).view.set]{fullShare} f) := by
    rw [show (Memref.whole cc0_stg13_0 : Memref sig .tc .vmem S128x2048 .bf16).view.set = Finset.univ from View.set_whole _]
  ihave Hs := (Entails.of_eq (es _)) $$ Hs
  ihave Hd := (Entails.of_eq (ed _)) $$ Hd
  iapply (Rounds.wp_send_pointsTo 𝒱₀ ER (Rd m) (c : Thread nD τ) none (κ₁ := K (sendCell c 1)) (κ₂ := K (recvCell (pr c) 1))
    (r₁ := 0) (r₂ := 0) (d₁ := ()) (d₂ := ()) (fd := fn)
    (by rw [duties_of m (sendCell c 1) rfl (part_send 1)]; exact Finset.mem_singleton_self _) (by rw [duties_of m (recvCell (pr c) 1) rfl (part_recv 1)]; exact Finset.mem_singleton_self _)
    () () (amt 1) rfl (amount_of m (sendCell c 1) (part_send 1) ()) (amount_of m (recvCell (pr c) 1) (part_recv 1) ()) O rfl (W := W)
    (by rw [payload_of m (sendCell c 1) (part_send 1), ← es]; exact BI.Entails.refl _)
    (by
      rw [payload_of m (recvCell (pr c) 1) (part_recv 1), ← ed]
      refine Entails.of_eq ?_
      show _ = pt (pr c) cc0_stg13_0 (ukA m (pr (pr c)))
      rw [pr_pr]
      congr 1
      exact View.write_whole_univ _ _ _)) $$ [HI HJ Hs Hd HO Ht Hr Ht' Hr']
  isplitl [HI]; · iexact HI
  isplitl [HJ]; · iexact HJ
  isplitl [Hs]; · iexact Hs
  isplitl [Hd]; · iexact Hd
  isplitl [HO]; · iexact HO
  isplitl [Ht]; · iexact Ht
  isplitl [Hr]; · iexact Hr
  isplitl [Ht'] <;> iassumption

/-- The start of copy 2, addressed to a device that equals the peer. -/
theorem send2 (K : GSem nD τ sig → ℕ) (c n : Dev nD) (hn : n = pr c)
    {hsc : (Memref.whole cc0_stg15_0 : Memref sig (Dev.tc n : Thread nD τ).2.kind .vmem S128x2048 .bf16).view.ref.isScScratch = false}
    {hsrc : (Memref.whole cc0_stg14_0 : Memref sig .tc .vmem S128x2048 .bf16).view.WordExact} {hdst : (Memref.whole cc0_stg15_0 : Memref sig .tc .vmem S128x2048 .bf16).view.WordExact}
    {hsem : DmaTarget.Typed .vmem (.dma (rS 2)) (.remote (Dev.tc n : Thread nD τ) (Memref.whole cc0_stg15_0 : Memref sig .tc .vmem S128x2048 .bf16) (.dma (sS 2)) hsc)}
    {α : Type} {Q : α → sProp 𝕄} {k : PUnit → Prog (TpuEff nD τ sig (Elt F) Λ₀ .tc) α}
    (O : CellTallies nD τ sig Unit) (W : Waits sig Unit) :
    iprop(cellInv ER (Rd m) (K (sendCell c 2)) (sendCell c 2) ∗ cellInv ER (Rd m) (K (recvCell (pr c) 2)) (recvCell (pr c) 2)
        ∗ pt c cc0_stg14_0 (uvA m c) ∗ ptAny (pr c) cc0_stg15_0
        ∗ owes (c : Thread nD τ) (O + tallyAt (recvCell (pr c) 2) () (amt 2)) W
        ∗ dutyTok ER (sendCell c 2) 0 () ∗ reached ER (sendCell c 2) 0
        ∗ dutyTok ER (recvCell (pr c) 2) 0 () ∗ reached ER (recvCell (pr c) 2) 0)
      ⊢ iprop(((cred (tallyAt (sendCell c 2) () (amt 2)) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (Memref.whole cc0_stg14_0 : Memref sig .tc .vmem S128x2048 .bf16) (.remote (Dev.tc n : Thread nD τ) (Memref.whole cc0_stg15_0 : Memref sig .tc .vmem S128x2048 .bf16) (.dma (sS 2)) hsc) (.dma (rS 2)) hsrc hdst hsem) k) Q) := by
  subst hn
  iintro ⟨HI, HJ, Hs, ⟨%fn, Hd⟩, HO, Ht, Hr, Ht', Hr'⟩
  have es (f : Buf (Elt F) ((Memref.whole cc0_stg14_0 : Memref sig .tc .vmem S128x2048 .bf16).view.loc (c : Thread nD τ))) : (pt c cc0_stg14_0 f : sProp 𝕄)
      = ((Memref.whole cc0_stg14_0 : Memref sig .tc .vmem S128x2048 .bf16).view.loc (c : Thread nD τ) ↦[(Memref.whole cc0_stg14_0 : Memref sig .tc .vmem S128x2048 .bf16).view.set]{fullShare} f) := by
    rw [show (Memref.whole cc0_stg14_0 : Memref sig .tc .vmem S128x2048 .bf16).view.set = Finset.univ from View.set_whole _]
  have ed (f : Buf (Elt F) ((Memref.whole cc0_stg15_0 : Memref sig .tc .vmem S128x2048 .bf16).view.loc (pr c : Thread nD τ))) : (pt (pr c) cc0_stg15_0 f : sProp 𝕄)
      = ((Memref.whole cc0_stg15_0 : Memref sig .tc .vmem S128x2048 .bf16).view.loc (pr c : Thread nD τ) ↦[(Memref.whole cc0_stg15_0 : Memref sig .tc .vmem S128x2048 .bf16).view.set]{fullShare} f) := by
    rw [show (Memref.whole cc0_stg15_0 : Memref sig .tc .vmem S128x2048 .bf16).view.set = Finset.univ from View.set_whole _]
  ihave Hs := (Entails.of_eq (es _)) $$ Hs
  ihave Hd := (Entails.of_eq (ed _)) $$ Hd
  iapply (Rounds.wp_send_pointsTo 𝒱₀ ER (Rd m) (c : Thread nD τ) none (κ₁ := K (sendCell c 2)) (κ₂ := K (recvCell (pr c) 2))
    (r₁ := 0) (r₂ := 0) (d₁ := ()) (d₂ := ()) (fd := fn)
    (by rw [duties_of m (sendCell c 2) rfl (part_send 2)]; exact Finset.mem_singleton_self _) (by rw [duties_of m (recvCell (pr c) 2) rfl (part_recv 2)]; exact Finset.mem_singleton_self _)
    () () (amt 2) rfl (amount_of m (sendCell c 2) (part_send 2) ()) (amount_of m (recvCell (pr c) 2) (part_recv 2) ()) O rfl (W := W)
    (by rw [payload_of m (sendCell c 2) (part_send 2), ← es]; exact BI.Entails.refl _)
    (by
      rw [payload_of m (recvCell (pr c) 2) (part_recv 2), ← ed]
      refine Entails.of_eq ?_
      show _ = pt (pr c) cc0_stg15_0 (uvA m (pr (pr c)))
      rw [pr_pr]
      congr 1
      exact View.write_whole_univ _ _ _)) $$ [HI HJ Hs Hd HO Ht Hr Ht' Hr']
  isplitl [HI]; · iexact HI
  isplitl [HJ]; · iexact HJ
  isplitl [Hs]; · iexact Hs
  isplitl [Hd]; · iexact Hd
  isplitl [HO]; · iexact HO
  isplitl [Ht]; · iexact Ht
  isplitl [Hr]; · iexact Hr
  isplitl [Ht'] <;> iassumption

/-- The wait on a copy cell of the exchange, nothing owed: its payload comes, and the cell is closed. -/
theorem waitC (κ : ℕ) (c : Dev nD) {s : DmaSem sig} {p : Part} (hp : part (.dma s) = some p)
    {sp sp' : Space} {sh sh' : Shape} {e e' : EltTy} {src : Memref sig .tc sp' sh' e'} {dst : Memref sig .tc sp sh e}
    {hsrc : src.view.WordExact} {hdst : dst.view.WordExact} (hk : dst.view.dmaCredit = amtOf (some p))
    {α : Type} {Q : α → sProp 𝕄} {k : PUnit → Prog (TpuEff nD τ sig (Elt F) Λ₀ .tc) α} :
    iprop(cellInv ER (Rd m) κ ((c : Thread nD τ), .dma s) ∗ cred (tallyAt ((c : Thread nD τ), .dma s) () (amtOf (some p)))
        ∗ (∃ W, owes (c : Thread nD τ) 0 W) ∗ atPos ER ((c : Thread nD τ), .dma s) 0 ∅ 0)
      ⊢ iprop((iprop(payOf m c (some p) ∗ semVal ((c : Thread nD τ), .dma s) 0 ∗ (∃ W, owes (c : Thread nD τ) 0 W))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 s src dst hsrc hdst) k) Q) := by
  iintro ⟨#HI, Hc, ⟨%W, HO⟩, Ha⟩ Hk
  iapply (Rounds.wp_wait_rest_token 𝒱₀ ER (Rd m) (c : Thread nD τ) none (κ := κ) (sm := .dma s) (k' := amtOf (some p))
      (by rw [← hk]; exact wpE_waitDma2_eq 𝒱₀ (c : Thread nD τ) none Set.univ) (Set.mem_univ _) () (O := 0) (W := W) (R := 0) (m := 0) (T := ∅)
      ((Nat.zero_add _).trans (expect_of m ((c : Thread nD τ), .dma s) rfl hp).symm)) $$ [Hc HO Ha]
  · isplitr; · iexact HI
    isplitl [Hc]; · iexact Hc
    isplitl [HO]; · iexact HO
    isplitr; · rw [MayWait_zero]; iempintro
    iexact Ha
  iintro ⟨HO, Ha, -, Hp⟩
  ihave Hp := (Entails.of_eq (rest_of m ((c : Thread nD τ), .dma s) rfl hp)) $$ Hp
  iapply (fupd_wp frame (wpE (defs₀ (F := F)) 𝒱₀ (c : Thread nD τ) none) Set.univ _ _)
  imod (close m κ ((c : Thread nD τ), .dma s)) $$ [Ha] with Hv
  · isplitr; · iexact HI
    iexact Ha
  imodintro
  iapply Hk
  isplitl [Hp]; · iexact Hp
  isplitl [Hv]; · iexact Hv
  iexists _; iexact HO

/-- A middle point: one block of the queries. -/
theorem body_t0_1 (c : Dev nD) (x : Vec F S1024x2048 .f32) (w : Vec F S2048x512 .f32) (Kt : PUnit → sProp 𝕄) :
    iprop((pt c cc0_stg0_0 x ∗ pt c cc0_stg4_1 w ∗ ptAny c cc0_stg7_1)
        ∗ ((pt c cc0_stg0_0 x ∗ pt c cc0_stg4_1 w ∗ pt c cc0_stg7_1 (k0_pay2 x w)) -∗ Kt ⟨⟩))
      ⊢ wp frame (wpE (defs₀ (F := F)) 𝒱₀ (c : Thread nD τ) none) Set.univ
          (cc0__exchange_proj_body (grid0.coords t0_1) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_1) (Memref.isWhole_whole _) (Memref.whole cc0_stg5_0) (Memref.isWhole_whole _) (Memref.whole cc0_stg6_0) (Memref.isWhole_whole _) (Memref.whole cc0_stg7_1) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_stg12_0) (Memref.isWhole_whole _) (Memref.whole cc0_stg13_0) (Memref.isWhole_whole _) (Memref.whole cc0_stg14_0) (Memref.isWhole_whole _) (Memref.whole cc0_stg15_0) (Memref.isWhole_whole _) cc0_scratch0 cc0_scratch1) Kt := by
  simp only [cc0__exchange_proj_body_eq_skeleton]; unfold cc0__exchange_proj_body_skel
  simp only [Prog.lift, Prog.bind_op, Prog.bind_ret, Prog.pure_eq_ret, wp_deviceId]
  rw [dif_neg (show ¬ k0_cond1 (grid0.coords t0_1) = 1#1 by decide), dif_neg (show ¬ k0_cond2 (grid0.coords t0_1) = 1#1 by decide)]
  iintro ⟨⟨Hx, Hw, ⟨%g, Hq⟩⟩, Hk⟩
  iapply (ldW c (mm := Memref.whole cc0_stg0_0) (Memref.readAt_unit_zero (Elt F) cc0_stg0_0 hz2 _ _)) $$ Hx; iintro Hx
  iapply (ldW c (mm := Memref.whole cc0_stg4_1) (Memref.readAt_unit_zero (Elt F) cc0_stg4_1 hz2 _ _)) $$ Hw; iintro Hw
  iapply (ldW c (mm := Memref.whole cc0_stg7_1) (Memref.readAt_unit_zero (Elt F) cc0_stg7_1 hz2 _ _)) $$ Hq; iintro Hq
  iapply (stW c (mm := Memref.whole cc0_stg7_1) (Memref.write_access_unit_zero_univ (Elt F) cc0_stg7_1 hz2 _ _ _)) $$ Hq; iintro Hq
  rw [wp_ret]
  imodintro
  iapply Hk
  isplitl [Hx]; · iexact Hx
  isplitl [Hw] <;> iassumption

/-- A middle point: one block of the queries. -/
theorem body_t0_2 (c : Dev nD) (x : Vec F S1024x2048 .f32) (w : Vec F S2048x512 .f32) (Kt : PUnit → sProp 𝕄) :
    iprop((pt c cc0_stg0_0 x ∗ pt c cc0_stg4_0 w ∗ ptAny c cc0_stg7_0)
        ∗ ((pt c cc0_stg0_0 x ∗ pt c cc0_stg4_0 w ∗ pt c cc0_stg7_0 (k0_pay2 x w)) -∗ Kt ⟨⟩))
      ⊢ wp frame (wpE (defs₀ (F := F)) 𝒱₀ (c : Thread nD τ) none) Set.univ
          (cc0__exchange_proj_body (grid0.coords t0_2) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_stg12_0) (Memref.isWhole_whole _) (Memref.whole cc0_stg13_0) (Memref.isWhole_whole _) (Memref.whole cc0_stg14_0) (Memref.isWhole_whole _) (Memref.whole cc0_stg15_0) (Memref.isWhole_whole _) cc0_scratch0 cc0_scratch1) Kt := by
  simp only [cc0__exchange_proj_body_eq_skeleton]; unfold cc0__exchange_proj_body_skel
  simp only [Prog.lift, Prog.bind_op, Prog.bind_ret, Prog.pure_eq_ret, wp_deviceId]
  rw [dif_neg (show ¬ k0_cond1 (grid0.coords t0_2) = 1#1 by decide), dif_neg (show ¬ k0_cond2 (grid0.coords t0_2) = 1#1 by decide)]
  iintro ⟨⟨Hx, Hw, ⟨%g, Hq⟩⟩, Hk⟩
  iapply (ldW c (mm := Memref.whole cc0_stg0_0) (Memref.readAt_unit_zero (Elt F) cc0_stg0_0 hz2 _ _)) $$ Hx; iintro Hx
  iapply (ldW c (mm := Memref.whole cc0_stg4_0) (Memref.readAt_unit_zero (Elt F) cc0_stg4_0 hz2 _ _)) $$ Hw; iintro Hw
  iapply (ldW c (mm := Memref.whole cc0_stg7_0) (Memref.readAt_unit_zero (Elt F) cc0_stg7_0 hz2 _ _)) $$ Hq; iintro Hq
  iapply (stW c (mm := Memref.whole cc0_stg7_0) (Memref.write_access_unit_zero_univ (Elt F) cc0_stg7_0 hz2 _ _ _)) $$ Hq; iintro Hq
  rw [wp_ret]
  imodintro
  iapply Hk
  isplitl [Hx]; · iexact Hx
  isplitl [Hw] <;> iassumption

/-- What the first point leaves alone. -/
abbrev keep0 (c : Dev nD) (w : Vec F S2048x512 .f32) : sProp 𝕄 :=
  iprop(pt c cc0_stg0_0 (xA m c) ∗ pt c cc0_stg1_0 (wdkvA m c) ∗ pt c cc0_stg2_0 (wukA m c) ∗ pt c cc0_stg3_0 (wuvA m c)
    ∗ pt c cc0_stg4_0 w ∗ pt c cc0_stg5_0 (wqrA m c) ∗ pt c cc0_stg6_0 (wkrA m c))

set_option maxHeartbeats 1600000 in
/-- The first point: the barrier, the three copies sent, the positional projections, one block of the queries. -/
theorem body_t0_0 (K : GSem nD τ sig → ℕ) (c : Dev nD) (w : Vec F S2048x512 .f32) (Kt : PUnit → sProp 𝕄) :
    iprop((opened m K c ∗ creds c ∗ levAts L lv ∗ keep0 m c w
          ∗ ptAny c cc0_stg7_0 ∗ ptAny c cc0_stg8_0 ∗ ptAny c cc0_stg9_0 ∗ ptAny c cc0_stg10_0 ∗ ptAny c cc0_stg11_0 ∗ ptAny c cc0_stg12_0
          ∗ ptAny c cc0_stg13_0 ∗ ptAny c cc0_stg14_0 ∗ ptAny c cc0_stg15_0 ∗ (∃ W, owes (c : Thread nD τ) (O₀ c) W))
        ∗ ((underway m K c ∗ keep0 m c w ∗ pt c cc0_stg7_0 (k0_pay2 (xA m c) w) ∗ pt c cc0_stg8_0 (qrA m c) ∗ pt c cc0_stg9_0 (krA m c)
            ∗ (∃ W, owes (c : Thread nD τ) 0 W)) -∗ Kt ⟨⟩))
      ⊢ wp frame (wpE (defs₀ (F := F)) 𝒱₀ (c : Thread nD τ) none) Set.univ
          (cc0__exchange_proj_body (grid0.coords t0_0) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_stg12_0) (Memref.isWhole_whole _) (Memref.whole cc0_stg13_0) (Memref.isWhole_whole _) (Memref.whole cc0_stg14_0) (Memref.isWhole_whole _) (Memref.whole cc0_stg15_0) (Memref.isWhole_whole _) cc0_scratch0 cc0_scratch1) Kt := by
  simp only [cc0__exchange_proj_body_eq_skeleton]; unfold cc0__exchange_proj_body_skel
  simp only [k0_part1_eq_skeleton, k0_part2_eq_skeleton]; unfold k0_part1_skel k0_part2_skel
  simp only [semSignalWord, semWaitWord, Prog.lift, Prog.bind_op, Prog.bind_ret, Prog.pure_eq_ret, wp_deviceId]
  rw [dif_pos (show k0_cond1 (grid0.coords t0_0) = 1#1 by decide), dif_neg (show ¬ k0_cond2 (grid0.coords t0_0) = 1#1 by decide)]
  simp only [Prog.bind_op, Prog.bind_ret, dev1]
  unfold opened invs toks creds
  iintro ⟨⟨⟨⟨#Ib, ⟨#I0, #I1, #I2⟩, ⟨#J0, #J1, #J2⟩, #IbP, ⟨#P0, #P1, #P2⟩⟩, Hab, ⟨Ha0, Ha1, Ha2⟩, ⟨Hb0, Hb1, Hb2⟩, #HrP, ⟨#Hs0, #Hs1, #Hs2⟩, ⟨#Hr0, #Hr1, #Hr2⟩, Htb, ⟨Ht0, Ht1, Ht2⟩, ⟨Hu0, Hu1, Hu2⟩⟩,
    ⟨Hcb, Hc0, Hc1, Hc2⟩, #Hlev, ⟨G0, G1, G2, G3, G4, G5, G6⟩, ⟨%g7, G7⟩, ⟨%g8, G8⟩, ⟨%g9, G9⟩, ⟨%g10, G10⟩, G11, ⟨%g12, G12⟩, G13, ⟨%g14, G14⟩, G15, ⟨%W, HO⟩⟩, Hk⟩
  -- the signal: the three receiving buffers go to the peer
  iapply (Rounds.wp_signal 𝒱₀ ER (Rd m) (c : Thread nD τ) none (dst := (pr c : Thread nD τ)) (sem := bS) (r := 0) (d := ()) (κ := K (barCell (pr c)))
      (by rw [duties_of m (barCell (pr c)) rfl part_bar]; exact Finset.mem_singleton_self _) (amount_of m (barCell (pr c)) part_bar ()) () (Orecv c) rfl)
    $$ [HO Htb G11 G13 G15]
  · isplitr; · iexact IbP
    isplitl [HO]; · iexact HO
    isplitl [Htb]; · iexact Htb
    isplitl [G11 G13 G15]
    · rw [payload_of m (barCell (pr c)) part_bar]; unfold payOf barPay; dsimp only; rw [pr_pr]
      isplitl [G11 G13 G15]
      · isplitl [G11]; · iexact G11
        isplitl [G13] <;> iassumption
      isplitr; · iexact Hr0
      isplitr; · iexact Hr1
      iexact Hr2
    · iexact HrP
  iintro HO
  -- the wait: the peer's come
  iapply (Rounds.wp_wait_rest_token 𝒱₀ ER (Rd m) (c : Thread nD τ) none (κ := K (barCell c))
      (wpE_semWait_eq 𝒱₀ (c : Thread nD τ) none Set.univ) (Set.mem_univ _) () (O := Orecv c) (W := W) (R := 0) (m := 0) (T := ∅)
      ((Nat.zero_add 1).trans (expect_of m (barCell c) rfl part_bar).symm)) $$ [Hcb HO Hab]
  · isplitr; · iexact Ib
    isplitl [Hcb]; · iexact Hcb
    isplitl [HO]; · iexact HO
    isplitr; · iapply (mayWait_bar c); iexact Hlev
    iexact Hab
  iintro ⟨HO, Hab, -, Hp⟩
  ihave Hp := (Entails.of_eq (rest_of m (barCell c) rfl part_bar)) $$ Hp
  unfold payOf barPay
  icases Hp with ⟨⟨D11, D13, D15⟩, ⟨#Q0, #Q1, #Q2⟩⟩
  iapply (fupd_wp frame (wpE (defs₀ (F := F)) 𝒱₀ (c : Thread nD τ) none) Set.univ _ _)
  imod (close m (K (barCell c)) (barCell c)) $$ [Hab] with Hv
  · isplitr; · iexact Ib
    iexact Hab
  imodintro
  iapply (ldW c (mm := Memref.whole cc0_stg2_0) (Memref.readAt_unit_zero (Elt F) cc0_stg2_0 hz2 _ _)) $$ G2; iintro G2
  iapply (ldW c (mm := Memref.whole cc0_stg12_0) (Memref.readAt_unit_zero (Elt F) cc0_stg12_0 hz2 _ _)) $$ G12; iintro G12
  iapply (stW c (mm := Memref.whole cc0_stg12_0) (Memref.write_access_unit_zero_univ (Elt F) cc0_stg12_0 hz2 _ _ _)) $$ G12; iintro G12
  iapply (ldW c (mm := Memref.whole cc0_stg3_0) (Memref.readAt_unit_zero (Elt F) cc0_stg3_0 hz2 _ _)) $$ G3; iintro G3
  iapply (ldW c (mm := Memref.whole cc0_stg14_0) (Memref.readAt_unit_zero (Elt F) cc0_stg14_0 hz2 _ _)) $$ G14; iintro G14
  iapply (stW c (mm := Memref.whole cc0_stg14_0) (Memref.write_access_unit_zero_univ (Elt F) cc0_stg14_0 hz2 _ _ _)) $$ G14; iintro G14
  unfold Orecv
  iapply (send1 m K c _ (dev2 c _)) $$ [G12 D13 HO Ht1 Hu1]
  · isplitr; · iexact I1
    isplitr; · iexact P1
    isplitl [G12]; · iexact G12
    isplitl [D13]; · iexact D13
    isplitl [HO]; · iexact HO
    isplitl [Ht1]; · iexact Ht1
    isplitr; · iexact Hs1
    isplitl [Hu1]; · iexact Hu1
    iexact Q1
  iintro ⟨Hd1, HO⟩
  iapply (send2 m K c _ (dev3 c _)) $$ [G14 D15 HO Ht2 Hu2]
  · isplitr; · iexact I2
    isplitr; · iexact P2
    isplitl [G14]; · iexact G14
    isplitl [D15]; · iexact D15
    isplitl [HO]; · iexact HO
    isplitl [Ht2]; · iexact Ht2
    isplitr; · iexact Hs2
    isplitl [Hu2]; · iexact Hu2
    iexact Q2
  iintro ⟨Hd2, HO⟩
  iapply (ldW c (mm := Memref.whole cc0_stg0_0) (Memref.readAt_unit_zero (Elt F) cc0_stg0_0 hz2 _ _)) $$ G0; iintro G0
  iapply (ldW c (mm := Memref.whole cc0_stg1_0) (Memref.readAt_unit_zero (Elt F) cc0_stg1_0 hz2 _ _)) $$ G1; iintro G1
  iapply (ldW c (mm := Memref.whole cc0_stg10_0) (Memref.readAt_unit_zero (Elt F) cc0_stg10_0 hz2 _ _)) $$ G10; iintro G10
  iapply (stW c (mm := Memref.whole cc0_stg10_0) (Memref.write_access_unit_zero_univ (Elt F) cc0_stg10_0 hz2 _ _ _)) $$ G10; iintro G10
  ihave HO := (Entails.of_eq (congrArg (fun O => (owes (c : Thread nD τ) O (insert (SemLoc.reg bS, ()) W) : sProp 𝕄)) (zero_add (tallyAt (recvCell (pr c) 0) () (amt 0))).symm)) $$ HO
  iapply (send0 m K c _ (dev4 c _)) $$ [G10 D11 HO Ht0 Hu0]
  · isplitr; · iexact I0
    isplitr; · iexact P0
    isplitl [G10]; · iexact G10
    isplitl [D11]; · iexact D11
    isplitl [HO]; · iexact HO
    isplitl [Ht0]; · iexact Ht0
    isplitr; · iexact Hs0
    isplitl [Hu0]; · iexact Hu0
    iexact Q0
  iintro ⟨Hd0, HO⟩
  iapply (ldW c (mm := Memref.whole cc0_stg0_0) (Memref.readAt_unit_zero (Elt F) cc0_stg0_0 hz2 _ _)) $$ G0; iintro G0
  iapply (ldW c (mm := Memref.whole cc0_stg5_0) (Memref.readAt_unit_zero (Elt F) cc0_stg5_0 hz2 _ _)) $$ G5; iintro G5
  iapply (ldW c (mm := Memref.whole cc0_stg8_0) (Memref.readAt_unit_zero (Elt F) cc0_stg8_0 hz2 _ _)) $$ G8; iintro G8
  iapply (stW c (mm := Memref.whole cc0_stg8_0) (Memref.write_access_unit_zero_univ (Elt F) cc0_stg8_0 hz2 _ _ _)) $$ G8; iintro G8
  iapply (ldW c (mm := Memref.whole cc0_stg0_0) (Memref.readAt_unit_zero (Elt F) cc0_stg0_0 hz2 _ _)) $$ G0; iintro G0
  iapply (ldW c (mm := Memref.whole cc0_stg6_0) (Memref.readAt_unit_zero (Elt F) cc0_stg6_0 hz2 _ _)) $$ G6; iintro G6
  iapply (ldW c (mm := Memref.whole cc0_stg9_0) (Memref.readAt_unit_zero (Elt F) cc0_stg9_0 hz2 _ _)) $$ G9; iintro G9
  iapply (stW c (mm := Memref.whole cc0_stg9_0) (Memref.write_access_unit_zero_univ (Elt F) cc0_stg9_0 hz2 _ _ _)) $$ G9; iintro G9
  iapply (ldW c (mm := Memref.whole cc0_stg0_0) (Memref.readAt_unit_zero (Elt F) cc0_stg0_0 hz2 _ _)) $$ G0; iintro G0
  iapply (ldW c (mm := Memref.whole cc0_stg4_0) (Memref.readAt_unit_zero (Elt F) cc0_stg4_0 hz2 _ _)) $$ G4; iintro G4
  iapply (ldW c (mm := Memref.whole cc0_stg7_0) (Memref.readAt_unit_zero (Elt F) cc0_stg7_0 hz2 _ _)) $$ G7; iintro G7
  iapply (stW c (mm := Memref.whole cc0_stg7_0) (Memref.write_access_unit_zero_univ (Elt F) cc0_stg7_0 hz2 _ _ _)) $$ G7; iintro G7
  rw [wp_ret]
  imodintro
  iapply Hk
  unfold underway invs
  isplitl [Ha0 Ha1 Ha2 Hb0 Hb1 Hb2 Hd0 Hd1 Hd2 Hc0 Hc1 Hc2 Hv]
  · isplitr
    · isplitr; · iexact Ib
      isplitr
      · isplitr; · iexact I0
        isplitr; · iexact I1
        iexact I2
      isplitr
      · isplitr; · iexact J0
        isplitr; · iexact J1
        iexact J2
      isplitr; · iexact IbP
      isplitr; · iexact P0
      isplitr; · iexact P1
      iexact P2
    isplitl [Ha0 Ha1 Ha2]
    · isplitl [Ha0]; · iexact Ha0
      isplitl [Ha1]; · iexact Ha1
      iexact Ha2
    isplitl [Hb0 Hb1 Hb2]
    · isplitl [Hb0]; · iexact Hb0
      isplitl [Hb1]; · iexact Hb1
      iexact Hb2
    isplitl [Hd0 Hd1 Hd2]
    · isplitl [Hd0]; · iexact Hd0
      isplitl [Hd1]; · iexact Hd1
      iexact Hd2
    isplitl [Hc0 Hc1 Hc2]
    · isplitl [Hc0]; · iexact Hc0
      isplitl [Hc1]; · iexact Hc1
      iexact Hc2
    iexact Hv
  isplitl [G0 G1 G2 G3 G4 G5 G6]
  · isplitl [G0]; · iexact G0
    isplitl [G1]; · iexact G1
    isplitl [G2]; · iexact G2
    isplitl [G3]; · iexact G3
    isplitl [G4]; · iexact G4
    isplitl [G5]; · iexact G5
    iexact G6
  isplitl [G7]; · iexact G7
  isplitl [G8]; · iexact G8
  isplitl [G9]; · iexact G9
  iexists _; iexact HO

set_option maxHeartbeats 1600000 in
/-- The last point: one block of the queries, then the six copies waited for. -/
theorem body_t0_3 (K : GSem nD τ sig → ℕ) (c : Dev nD) (x : Vec F S1024x2048 .f32) (w : Vec F S2048x512 .f32) (Kt : PUnit → sProp 𝕄) :
    iprop((underway m K c ∗ pt c cc0_stg0_0 x ∗ pt c cc0_stg4_1 w ∗ ptAny c cc0_stg7_1 ∗ (∃ W, owes (c : Thread nD τ) 0 W))
        ∗ (((pt c cc0_stg0_0 x ∗ pt c cc0_stg4_1 w ∗ pt c cc0_stg7_1 (k0_pay2 x w))
            ∗ (pt c cc0_stg10_0 (cA m c) ∗ pt c cc0_stg11_0 (cA m (pr c)) ∗ pt c cc0_stg12_0 (ukA m c) ∗ pt c cc0_stg13_0 (ukA m (pr c))
                ∗ pt c cc0_stg14_0 (uvA m c) ∗ pt c cc0_stg15_0 (uvA m (pr c)))
            ∗ (semVal (sendCell c 0) 0 ∗ semVal (sendCell c 1) 0 ∗ semVal (sendCell c 2) 0)
            ∗ (semVal (recvCell c 0) 0 ∗ semVal (recvCell c 1) 0 ∗ semVal (recvCell c 2) 0)
            ∗ semVal (barCell c) 0 ∗ (∃ W, owes (c : Thread nD τ) 0 W)) -∗ Kt ⟨⟩))
      ⊢ wp frame (wpE (defs₀ (F := F)) 𝒱₀ (c : Thread nD τ) none) Set.univ
          (cc0__exchange_proj_body (grid0.coords t0_3) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_1) (Memref.isWhole_whole _) (Memref.whole cc0_stg5_0) (Memref.isWhole_whole _) (Memref.whole cc0_stg6_0) (Memref.isWhole_whole _) (Memref.whole cc0_stg7_1) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_stg12_0) (Memref.isWhole_whole _) (Memref.whole cc0_stg13_0) (Memref.isWhole_whole _) (Memref.whole cc0_stg14_0) (Memref.isWhole_whole _) (Memref.whole cc0_stg15_0) (Memref.isWhole_whole _) cc0_scratch0 cc0_scratch1) Kt := by
  simp only [cc0__exchange_proj_body_eq_skeleton]; unfold cc0__exchange_proj_body_skel
  simp only [k0_part3_eq_skeleton]; unfold k0_part3_skel
  simp only [Prog.lift, Prog.bind_op, Prog.bind_ret, Prog.pure_eq_ret, wp_deviceId]
  rw [dif_neg (show ¬ k0_cond1 (grid0.coords t0_3) = 1#1 by decide), dif_pos (show k0_cond2 (grid0.coords t0_3) = 1#1 by decide)]
  try simp only [Prog.bind_op, Prog.bind_ret]
  unfold underway invs
  iintro ⟨⟨⟨⟨#Ib, ⟨#I0, #I1, #I2⟩, ⟨#J0, #J1, #J2⟩, -, -⟩, ⟨Ha0, Ha1, Ha2⟩, ⟨Hb0, Hb1, Hb2⟩, ⟨Hd0, Hd1, Hd2⟩, ⟨Hc0, Hc1, Hc2⟩, Hv⟩, G0, G4, ⟨%g7, G7⟩, HO⟩, Hk⟩
  iapply (ldW c (mm := Memref.whole cc0_stg0_0) (Memref.readAt_unit_zero (Elt F) cc0_stg0_0 hz2 _ _)) $$ G0; iintro G0
  iapply (ldW c (mm := Memref.whole cc0_stg4_1) (Memref.readAt_unit_zero (Elt F) cc0_stg4_1 hz2 _ _)) $$ G4; iintro G4
  iapply (ldW c (mm := Memref.whole cc0_stg7_1) (Memref.readAt_unit_zero (Elt F) cc0_stg7_1 hz2 _ _)) $$ G7; iintro G7
  iapply (stW c (mm := Memref.whole cc0_stg7_1) (Memref.write_access_unit_zero_univ (Elt F) cc0_stg7_1 hz2 _ _ _)) $$ G7; iintro G7
  iapply (waitC m (K (sendCell c 0)) c (part_send 0) (dst := Memref.whole cc0_stg10_0) rfl) $$ [Hd0 HO Ha0]
  · isplitr; · iexact I0
    isplitl [Hd0]; · iexact Hd0
    isplitl [HO] <;> iassumption
  iintro ⟨M0, Y0, HO⟩
  ihave M0 := (Entails.of_eq (show payOf m c (some (Part.send 0)) = pt c cc0_stg10_0 (cA m c) from rfl)) $$ M0
  iapply (waitC m (K (recvCell c 0)) c (part_recv 0) (dst := Memref.whole cc0_stg11_0) rfl) $$ [Hc0 HO Hb0]
  · isplitr; · iexact J0
    isplitl [Hc0]; · iexact Hc0
    isplitl [HO] <;> iassumption
  iintro ⟨N0, Z0, HO⟩
  ihave N0 := (Entails.of_eq (show payOf m c (some (Part.recv 0)) = pt c cc0_stg11_0 (cA m (pr c)) from rfl)) $$ N0
  iapply (waitC m (K (sendCell c 1)) c (part_send 1) (dst := Memref.whole cc0_stg12_0) rfl) $$ [Hd1 HO Ha1]
  · isplitr; · iexact I1
    isplitl [Hd1]; · iexact Hd1
    isplitl [HO] <;> iassumption
  iintro ⟨M1, Y1, HO⟩
  ihave M1 := (Entails.of_eq (show payOf m c (some (Part.send 1)) = pt c cc0_stg12_0 (ukA m c) from rfl)) $$ M1
  iapply (waitC m (K (recvCell c 1)) c (part_recv 1) (dst := Memref.whole cc0_stg13_0) rfl) $$ [Hc1 HO Hb1]
  · isplitr; · iexact J1
    isplitl [Hc1]; · iexact Hc1
    isplitl [HO] <;> iassumption
  iintro ⟨N1, Z1, HO⟩
  ihave N1 := (Entails.of_eq (show payOf m c (some (Part.recv 1)) = pt c cc0_stg13_0 (ukA m (pr c)) from rfl)) $$ N1
  iapply (waitC m (K (sendCell c 2)) c (part_send 2) (dst := Memref.whole cc0_stg14_0) rfl) $$ [Hd2 HO Ha2]
  · isplitr; · iexact I2
    isplitl [Hd2]; · iexact Hd2
    isplitl [HO] <;> iassumption
  iintro ⟨M2, Y2, HO⟩
  ihave M2 := (Entails.of_eq (show payOf m c (some (Part.send 2)) = pt c cc0_stg14_0 (uvA m c) from rfl)) $$ M2
  iapply (waitC m (K (recvCell c 2)) c (part_recv 2) (dst := Memref.whole cc0_stg15_0) rfl) $$ [Hc2 HO Hb2]
  · isplitr; · iexact J2
    isplitl [Hc2]; · iexact Hc2
    isplitl [HO] <;> iassumption
  iintro ⟨N2, Z2, HO⟩
  ihave N2 := (Entails.of_eq (show payOf m c (some (Part.recv 2)) = pt c cc0_stg15_0 (uvA m (pr c)) from rfl)) $$ N2
  rw [wp_ret]
  imodintro
  iapply Hk
  isplitl [G0 G4 G7]
  · isplitl [G0]; · iexact G0
    isplitl [G4]; · iexact G4
    iexact G7
  isplitl [M0 N0 M1 N1 M2 N2]
  · isplitl [M0]; · iexact M0
    isplitl [N0]; · iexact N0
    isplitl [M1]; · iexact M1
    isplitl [N1]; · iexact N1
    isplitl [M2]; · iexact M2
    iexact N2
  isplitl [Y0 Y1 Y2]
  · isplitl [Y0]; · iexact Y0
    isplitl [Y1]; · iexact Y1
    iexact Y2
  isplitl [Z0 Z1 Z2]
  · isplitl [Z0]; · iexact Z0
    isplitl [Z1]; · iexact Z1
    iexact Z2
  isplitl [Hv]; · iexact Hv
  iexact HO

end Cert.KernelIdeal.Run
-- ==== Proof.K.Copies.lean ====
module

public import proofs.«01_k».proof.Proof.K.Bodies

/-!
The staging copies of the exchange call: for each operand and result, the start of its copy and the wait for it, at the
grid points where the call makes them. The block of the query weights and of the queries at a point is a part of its array;
every other block is its whole array.
-/

@[expose] public section

set_option maxRecDepth 4096

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-- A window's block, and its staging buffer, in terms of what a device holds; one lemma for each window and point that the call copies at. -/
theorem blkE0_0 (c : Dev nD) (X : main_v1.ty.Contents (Elt F)) : (owns (c : Thread nD τ) ((cfg0.win 0).blk t0_0) fullShare X : sProp 𝕄) = pt c main_v1 X :=
  owns_full c main_v1 (fun a => (cfg0.win 0).kind.off ((cfg0.win 0).index t0_0 a) ((cfg0.win 0).size a)) (by decide) _ _ X
theorem stgE0_0 (c : Dev nD) (X : cc0_stg0_0.ty.Contents (Elt F)) : (owns (c : Thread nD τ) ((cfg0.win 0).stg t0_0 (cfg0.slots t0_0 0)) fullShare X : sProp 𝕄) = pt c cc0_stg0_0 X :=
  owns_full c cc0_stg0_0 (fun _ => 0) (fun _ => rfl) _ _ X
theorem blkE1_0 (c : Dev nD) (X : main_arg1.ty.Contents (Elt F)) : (owns (c : Thread nD τ) ((cfg0.win 1).blk t0_0) fullShare X : sProp 𝕄) = pt c main_arg1 X :=
  owns_full c main_arg1 (fun a => (cfg0.win 1).kind.off ((cfg0.win 1).index t0_0 a) ((cfg0.win 1).size a)) (by decide) _ _ X
theorem stgE1_0 (c : Dev nD) (X : cc0_stg1_0.ty.Contents (Elt F)) : (owns (c : Thread nD τ) ((cfg0.win 1).stg t0_0 (cfg0.slots t0_0 1)) fullShare X : sProp 𝕄) = pt c cc0_stg1_0 X :=
  owns_full c cc0_stg1_0 (fun _ => 0) (fun _ => rfl) _ _ X
theorem blkE2_0 (c : Dev nD) (X : main_arg2.ty.Contents (Elt F)) : (owns (c : Thread nD τ) ((cfg0.win 2).blk t0_0) fullShare X : sProp 𝕄) = pt c main_arg2 X :=
  owns_full c main_arg2 (fun a => (cfg0.win 2).kind.off ((cfg0.win 2).index t0_0 a) ((cfg0.win 2).size a)) (by decide) _ _ X
theorem stgE2_0 (c : Dev nD) (X : cc0_stg2_0.ty.Contents (Elt F)) : (owns (c : Thread nD τ) ((cfg0.win 2).stg t0_0 (cfg0.slots t0_0 2)) fullShare X : sProp 𝕄) = pt c cc0_stg2_0 X :=
  owns_full c cc0_stg2_0 (fun _ => 0) (fun _ => rfl) _ _ X
theorem blkE3_0 (c : Dev nD) (X : main_arg3.ty.Contents (Elt F)) : (owns (c : Thread nD τ) ((cfg0.win 3).blk t0_0) fullShare X : sProp 𝕄) = pt c main_arg3 X :=
  owns_full c main_arg3 (fun a => (cfg0.win 3).kind.off ((cfg0.win 3).index t0_0 a) ((cfg0.win 3).size a)) (by decide) _ _ X
theorem stgE3_0 (c : Dev nD) (X : cc0_stg3_0.ty.Contents (Elt F)) : (owns (c : Thread nD τ) ((cfg0.win 3).stg t0_0 (cfg0.slots t0_0 3)) fullShare X : sProp 𝕄) = pt c cc0_stg3_0 X :=
  owns_full c cc0_stg3_0 (fun _ => 0) (fun _ => rfl) _ _ X
theorem stgE4_0 (c : Dev nD) (X : cc0_stg4_0.ty.Contents (Elt F)) : (owns (c : Thread nD τ) ((cfg0.win 4).stg t0_0 (cfg0.slots t0_0 4)) fullShare X : sProp 𝕄) = pt c cc0_stg4_0 X :=
  owns_full c cc0_stg4_0 (fun _ => 0) (fun _ => rfl) _ _ X
theorem blkE5_0 (c : Dev nD) (X : main_arg5.ty.Contents (Elt F)) : (owns (c : Thread nD τ) ((cfg0.win 5).blk t0_0) fullShare X : sProp 𝕄) = pt c main_arg5 X :=
  owns_full c main_arg5 (fun a => (cfg0.win 5).kind.off ((cfg0.win 5).index t0_0 a) ((cfg0.win 5).size a)) (by decide) _ _ X
theorem stgE5_0 (c : Dev nD) (X : cc0_stg5_0.ty.Contents (Elt F)) : (owns (c : Thread nD τ) ((cfg0.win 5).stg t0_0 (cfg0.slots t0_0 5)) fullShare X : sProp 𝕄) = pt c cc0_stg5_0 X :=
  owns_full c cc0_stg5_0 (fun _ => 0) (fun _ => rfl) _ _ X
theorem blkE6_0 (c : Dev nD) (X : main_arg6.ty.Contents (Elt F)) : (owns (c : Thread nD τ) ((cfg0.win 6).blk t0_0) fullShare X : sProp 𝕄) = pt c main_arg6 X :=
  owns_full c main_arg6 (fun a => (cfg0.win 6).kind.off ((cfg0.win 6).index t0_0 a) ((cfg0.win 6).size a)) (by decide) _ _ X
theorem stgE6_0 (c : Dev nD) (X : cc0_stg6_0.ty.Contents (Elt F)) : (owns (c : Thread nD τ) ((cfg0.win 6).stg t0_0 (cfg0.slots t0_0 6)) fullShare X : sProp 𝕄) = pt c cc0_stg6_0 X :=
  owns_full c cc0_stg6_0 (fun _ => 0) (fun _ => rfl) _ _ X
theorem blkE8_3 (c : Dev nD) (X : main_v2_1.ty.Contents (Elt F)) : (owns (c : Thread nD τ) ((cfg0.win 8).blk t0_3) fullShare X : sProp 𝕄) = pt c main_v2_1 X :=
  owns_full c main_v2_1 (fun a => (cfg0.win 8).kind.off ((cfg0.win 8).index t0_3 a) ((cfg0.win 8).size a)) (by decide) _ _ X
theorem stgE8_3 (c : Dev nD) (X : cc0_stg8_0.ty.Contents (Elt F)) : (owns (c : Thread nD τ) ((cfg0.win 8).stg t0_3 (cfg0.slots t0_3 8)) fullShare X : sProp 𝕄) = pt c cc0_stg8_0 X :=
  owns_full c cc0_stg8_0 (fun _ => 0) (fun _ => rfl) _ _ X
theorem blkE9_3 (c : Dev nD) (X : main_v2_2.ty.Contents (Elt F)) : (owns (c : Thread nD τ) ((cfg0.win 9).blk t0_3) fullShare X : sProp 𝕄) = pt c main_v2_2 X :=
  owns_full c main_v2_2 (fun a => (cfg0.win 9).kind.off ((cfg0.win 9).index t0_3 a) ((cfg0.win 9).size a)) (by decide) _ _ X
theorem stgE9_3 (c : Dev nD) (X : cc0_stg9_0.ty.Contents (Elt F)) : (owns (c : Thread nD τ) ((cfg0.win 9).stg t0_3 (cfg0.slots t0_3 9)) fullShare X : sProp 𝕄) = pt c cc0_stg9_0 X :=
  owns_full c cc0_stg9_0 (fun _ => 0) (fun _ => rfl) _ _ X
theorem blkE10_3 (c : Dev nD) (X : main_v2_3.ty.Contents (Elt F)) : (owns (c : Thread nD τ) ((cfg0.win 10).blk t0_3) fullShare X : sProp 𝕄) = pt c main_v2_3 X :=
  owns_full c main_v2_3 (fun a => (cfg0.win 10).kind.off ((cfg0.win 10).index t0_3 a) ((cfg0.win 10).size a)) (by decide) _ _ X
theorem stgE10_3 (c : Dev nD) (X : cc0_stg10_0.ty.Contents (Elt F)) : (owns (c : Thread nD τ) ((cfg0.win 10).stg t0_3 (cfg0.slots t0_3 10)) fullShare X : sProp 𝕄) = pt c cc0_stg10_0 X :=
  owns_full c cc0_stg10_0 (fun _ => 0) (fun _ => rfl) _ _ X
theorem blkE11_3 (c : Dev nD) (X : main_v2_4.ty.Contents (Elt F)) : (owns (c : Thread nD τ) ((cfg0.win 11).blk t0_3) fullShare X : sProp 𝕄) = pt c main_v2_4 X :=
  owns_full c main_v2_4 (fun a => (cfg0.win 11).kind.off ((cfg0.win 11).index t0_3 a) ((cfg0.win 11).size a)) (by decide) _ _ X
theorem stgE11_3 (c : Dev nD) (X : cc0_stg11_0.ty.Contents (Elt F)) : (owns (c : Thread nD τ) ((cfg0.win 11).stg t0_3 (cfg0.slots t0_3 11)) fullShare X : sProp 𝕄) = pt c cc0_stg11_0 X :=
  owns_full c cc0_stg11_0 (fun _ => 0) (fun _ => rfl) _ _ X
theorem blkE12_3 (c : Dev nD) (X : main_v2_5.ty.Contents (Elt F)) : (owns (c : Thread nD τ) ((cfg0.win 12).blk t0_3) fullShare X : sProp 𝕄) = pt c main_v2_5 X :=
  owns_full c main_v2_5 (fun a => (cfg0.win 12).kind.off ((cfg0.win 12).index t0_3 a) ((cfg0.win 12).size a)) (by decide) _ _ X
theorem stgE12_3 (c : Dev nD) (X : cc0_stg12_0.ty.Contents (Elt F)) : (owns (c : Thread nD τ) ((cfg0.win 12).stg t0_3 (cfg0.slots t0_3 12)) fullShare X : sProp 𝕄) = pt c cc0_stg12_0 X :=
  owns_full c cc0_stg12_0 (fun _ => 0) (fun _ => rfl) _ _ X
theorem blkE13_3 (c : Dev nD) (X : main_v2_6.ty.Contents (Elt F)) : (owns (c : Thread nD τ) ((cfg0.win 13).blk t0_3) fullShare X : sProp 𝕄) = pt c main_v2_6 X :=
  owns_full c main_v2_6 (fun a => (cfg0.win 13).kind.off ((cfg0.win 13).index t0_3 a) ((cfg0.win 13).size a)) (by decide) _ _ X
theorem stgE13_3 (c : Dev nD) (X : cc0_stg13_0.ty.Contents (Elt F)) : (owns (c : Thread nD τ) ((cfg0.win 13).stg t0_3 (cfg0.slots t0_3 13)) fullShare X : sProp 𝕄) = pt c cc0_stg13_0 X :=
  owns_full c cc0_stg13_0 (fun _ => 0) (fun _ => rfl) _ _ X
theorem blkE14_3 (c : Dev nD) (X : main_v2_7.ty.Contents (Elt F)) : (owns (c : Thread nD τ) ((cfg0.win 14).blk t0_3) fullShare X : sProp 𝕄) = pt c main_v2_7 X :=
  owns_full c main_v2_7 (fun a => (cfg0.win 14).kind.off ((cfg0.win 14).index t0_3 a) ((cfg0.win 14).size a)) (by decide) _ _ X
theorem stgE14_3 (c : Dev nD) (X : cc0_stg14_0.ty.Contents (Elt F)) : (owns (c : Thread nD τ) ((cfg0.win 14).stg t0_3 (cfg0.slots t0_3 14)) fullShare X : sProp 𝕄) = pt c cc0_stg14_0 X :=
  owns_full c cc0_stg14_0 (fun _ => 0) (fun _ => rfl) _ _ X
theorem blkE15_3 (c : Dev nD) (X : main_v2_8.ty.Contents (Elt F)) : (owns (c : Thread nD τ) ((cfg0.win 15).blk t0_3) fullShare X : sProp 𝕄) = pt c main_v2_8 X :=
  owns_full c main_v2_8 (fun a => (cfg0.win 15).kind.off ((cfg0.win 15).index t0_3 a) ((cfg0.win 15).size a)) (by decide) _ _ X
theorem stgE15_3 (c : Dev nD) (X : cc0_stg15_0.ty.Contents (Elt F)) : (owns (c : Thread nD τ) ((cfg0.win 15).stg t0_3 (cfg0.slots t0_3 15)) fullShare X : sProp 𝕄) = pt c cc0_stg15_0 X :=
  owns_full c cc0_stg15_0 (fun _ => 0) (fun _ => rfl) _ _ X
theorem stgE4_1 (c : Dev nD) (X : cc0_stg4_1.ty.Contents (Elt F)) : (owns (c : Thread nD τ) ((cfg0.win 4).stg t0_1 (cfg0.slots t0_1 4)) fullShare X : sProp 𝕄) = pt c cc0_stg4_1 X :=
  owns_full c cc0_stg4_1 (fun _ => 0) (fun _ => rfl) _ _ X
theorem stgE4_2 (c : Dev nD) (X : cc0_stg4_0.ty.Contents (Elt F)) : (owns (c : Thread nD τ) ((cfg0.win 4).stg t0_2 (cfg0.slots t0_2 4)) fullShare X : sProp 𝕄) = pt c cc0_stg4_0 X :=
  owns_full c cc0_stg4_0 (fun _ => 0) (fun _ => rfl) _ _ X
theorem stgE4_3 (c : Dev nD) (X : cc0_stg4_1.ty.Contents (Elt F)) : (owns (c : Thread nD τ) ((cfg0.win 4).stg t0_3 (cfg0.slots t0_3 4)) fullShare X : sProp 𝕄) = pt c cc0_stg4_1 X :=
  owns_full c cc0_stg4_1 (fun _ => 0) (fun _ => rfl) _ _ X
theorem stgE7_0 (c : Dev nD) (X : cc0_stg7_0.ty.Contents (Elt F)) : (owns (c : Thread nD τ) ((cfg0.win 7).stg t0_0 (cfg0.slots t0_0 7)) fullShare X : sProp 𝕄) = pt c cc0_stg7_0 X :=
  owns_full c cc0_stg7_0 (fun _ => 0) (fun _ => rfl) _ _ X
theorem stgE7_1 (c : Dev nD) (X : cc0_stg7_1.ty.Contents (Elt F)) : (owns (c : Thread nD τ) ((cfg0.win 7).stg t0_1 (cfg0.slots t0_1 7)) fullShare X : sProp 𝕄) = pt c cc0_stg7_1 X :=
  owns_full c cc0_stg7_1 (fun _ => 0) (fun _ => rfl) _ _ X
theorem stgE7_2 (c : Dev nD) (X : cc0_stg7_0.ty.Contents (Elt F)) : (owns (c : Thread nD τ) ((cfg0.win 7).stg t0_2 (cfg0.slots t0_2 7)) fullShare X : sProp 𝕄) = pt c cc0_stg7_0 X :=
  owns_full c cc0_stg7_0 (fun _ => 0) (fun _ => rfl) _ _ X
theorem stgE7_3 (c : Dev nD) (X : cc0_stg7_1.ty.Contents (Elt F)) : (owns (c : Thread nD τ) ((cfg0.win 7).stg t0_3 (cfg0.slots t0_3 7)) fullShare X : sProp 𝕄) = pt c cc0_stg7_1 X :=
  owns_full c cc0_stg7_1 (fun _ => 0) (fun _ => rfl) _ _ X

/-- What a fetch of window `w` at point `t` raises its cell by, and what a write-back does. -/
abbrev NI (w : Fin 16) (t : Fin grid0.N) : ℕ := ((cfg0.win w).stg t (cfg0.slots t w)).view.dmaCredit
abbrev NO (w : Fin 16) (t : Fin grid0.N) : ℕ := ((cfg0.win w).blk t).view.dmaCredit

/-- The block of the query weights at point `t`, and of the queries. -/
abbrev wBlk (c : Dev nD) (t : Fin grid0.N) (X : Vec F S2048x512 .f32) : sProp 𝕄 := owns (c : Thread nD τ) (win0_4.blk t) fullShare X
abbrev qBlk (c : Dev nD) (t : Fin grid0.N) (X : Vec F S1024x512 .bf16) : sProp 𝕄 := owns (c : Thread nD τ) (win0_7.blk t) fullShare X

section Any

variable (c : Dev nD) (bd : Option 𝒱.V) (w : Fin 16) (t : Fin grid0.N) {k : HProg (F := F)}

/-- Starting the copy of a block into its staging buffer. -/
theorem fetchS {Q : PUnit → sProp 𝕄} (X : ((cfg0.win w).xblock (grid0.coords t)).Idx → Elt F (cfg0.win w).elt) (A : sProp 𝕄)
    (B : (((cfg0.win w).xblock (grid0.coords t)).Idx → Elt F (cfg0.win w).elt) → sProp 𝕄)
    (hA : owns (c : Thread nD τ) ((cfg0.win w).blk t) fullShare X = A)
    (hB : ∀ Y, owns (c : Thread nD τ) ((cfg0.win w).stg t (cfg0.slots t w)) fullShare Y = B Y) (hpos : 0 < NI w t) :
    iprop(A ∗ (∃ Y, B Y) ∗ semVal ((c : Thread nD τ), .dma ((cfg0.win w).sem (cfg0.slots t w))) 0)
      ⊢ iprop((Fly c ((cfg0.win w).sem (cfg0.slots t w)) (NI w t) iprop(B X ∗ A) -∗ wp frame (wpE (DD (F := F)) 𝒱 (c : Thread nD τ) bd) Set.univ k Q)
          -∗ wp frame (wpE (DD (F := F)) 𝒱 (c : Thread nD τ) bd) Set.univ (inS w t k) Q) :=
  copyS 𝒱 c bd (src := (cfg0.win w).blk t) (dst := (cfg0.win w).stg t (cfg0.slots t w)) (sm := (cfg0.win w).sem (cfg0.slots t w))
    (k := fun _ => k) X A B hA hB hpos

/-- Starting the copy of a staging buffer into its block. -/
theorem flushS {Q : PUnit → sProp 𝕄} (X : ((cfg0.win w).xblock (grid0.coords t)).Idx → Elt F (cfg0.win w).elt) (A : sProp 𝕄)
    (B : (((cfg0.win w).xblock (grid0.coords t)).Idx → Elt F (cfg0.win w).elt) → sProp 𝕄)
    (hA : owns (c : Thread nD τ) ((cfg0.win w).stg t (cfg0.slots t w)) fullShare X = A)
    (hB : ∀ Y, owns (c : Thread nD τ) ((cfg0.win w).blk t) fullShare Y = B Y) (hpos : 0 < NO w t) :
    iprop(A ∗ (∃ Y, B Y) ∗ semVal ((c : Thread nD τ), .dma ((cfg0.win w).sem (cfg0.slots t w))) 0)
      ⊢ iprop((Fly c ((cfg0.win w).sem (cfg0.slots t w)) (NO w t) iprop(B X ∗ A) -∗ wp frame (wpE (DD (F := F)) 𝒱 (c : Thread nD τ) bd) Set.univ k Q)
          -∗ wp frame (wpE (DD (F := F)) 𝒱 (c : Thread nD τ) bd) Set.univ (outS w t k) Q) :=
  copyS 𝒱 c bd (src := (cfg0.win w).stg t (cfg0.slots t w)) (dst := (cfg0.win w).blk t) (sm := (cfg0.win w).sem (cfg0.slots t w))
    (k := fun _ => k) X A B hA hB hpos

/-- Waiting for a copy into a staging buffer. -/
theorem fetchW {Q : PUnit → sProp 𝕄} (D : sProp 𝕄) (O : CellTallies nD τ sig Unit) :
    iprop(Fly c ((cfg0.win w).sem (cfg0.slots t w)) (NI w t) D ∗ (∃ W, owes (c : Thread nD τ) O W)
        ∗ MayWait (c : Thread nD τ) (.dma ((cfg0.win w).sem (cfg0.slots t w))) () O)
      ⊢ iprop((iprop(D ∗ semVal ((c : Thread nD τ), .dma ((cfg0.win w).sem (cfg0.slots t w))) 0 ∗ (∃ W, owes (c : Thread nD τ) O W))
            -∗ wp frame (wpE (DD (F := F)) 𝒱 (c : Thread nD τ) bd) Set.univ k Q)
          -∗ wp frame (wpE (DD (F := F)) 𝒱 (c : Thread nD τ) bd) Set.univ (inW w t k) Q) :=
  copyW 𝒱 c bd (src := (cfg0.win w).blk t) (dst := (cfg0.win w).stg t (cfg0.slots t w)) (sm := (cfg0.win w).sem (cfg0.slots t w))
    (hsrc := (cfg0.win w).wordExact_blk t) (hdst := (cfg0.win w).wordExact_stg t _) (k := fun _ => k) (NI w t) rfl D O

/-- Waiting for a copy into a block. -/
theorem flushW {Q : PUnit → sProp 𝕄} (D : sProp 𝕄) (O : CellTallies nD τ sig Unit) :
    iprop(Fly c ((cfg0.win w).sem (cfg0.slots t w)) (NO w t) D ∗ (∃ W, owes (c : Thread nD τ) O W)
        ∗ MayWait (c : Thread nD τ) (.dma ((cfg0.win w).sem (cfg0.slots t w))) () O)
      ⊢ iprop((iprop(D ∗ semVal ((c : Thread nD τ), .dma ((cfg0.win w).sem (cfg0.slots t w))) 0 ∗ (∃ W, owes (c : Thread nD τ) O W))
            -∗ wp frame (wpE (DD (F := F)) 𝒱 (c : Thread nD τ) bd) Set.univ k Q)
          -∗ wp frame (wpE (DD (F := F)) 𝒱 (c : Thread nD τ) bd) Set.univ (outW w t k) Q) :=
  copyW 𝒱 c bd (src := (cfg0.win w).stg t (cfg0.slots t w)) (dst := (cfg0.win w).blk t) (sm := (cfg0.win w).sem (cfg0.slots t w))
    (hsrc := (cfg0.win w).wordExact_stg t _) (hdst := (cfg0.win w).wordExact_blk t) (k := fun _ => k) (NO w t) rfl D O

end Any

section Copies

variable (c : Dev nD) (bd : Option 𝒱.V) {k : HProg (F := F)}

/-- The starts and waits of the call, each the one for its window and point: the operands first, -/
theorem inS0_0 {Q : PUnit → sProp 𝕄} (X : main_v1.ty.Contents (Elt F)) : iprop(pt c main_v1 X ∗ ptAny c cc0_stg0_0 ∗ semVal ((c : Thread nD τ), SemLoc.dma (⟨0, by decide⟩ : DmaSem sig)) 0)
    ⊢ iprop((Fly c ⟨0, by decide⟩ (NI 0 t0_0) iprop(pt c cc0_stg0_0 X ∗ pt c main_v1 X) -∗ wp frame (wpE (DD (F := F)) 𝒱 (c : Thread nD τ) bd) Set.univ (k) Q) -∗ wp frame (wpE (DD (F := F)) 𝒱 (c : Thread nD τ) bd) Set.univ (inS 0 t0_0 k) Q) :=
  fetchS c bd 0 t0_0 X _ (fun Y => pt c cc0_stg0_0 Y) (blkE0_0 c _) (fun _ => (stgE0_0 c _)) (View.dmaCredit_pos _ (by decide))
theorem inW0_0 {Q : PUnit → sProp 𝕄} (X : main_v1.ty.Contents (Elt F)) (O : CellTallies nD τ sig Unit) :
    iprop(Fly c ⟨0, by decide⟩ (NI 0 t0_0) iprop(pt c cc0_stg0_0 X ∗ pt c main_v1 X) ∗ (∃ W, owes (c : Thread nD τ) O W) ∗ MayWait (c : Thread nD τ) (.dma ⟨0, by decide⟩) () O)
    ⊢ iprop((iprop((pt c cc0_stg0_0 X ∗ pt c main_v1 X) ∗ semVal ((c : Thread nD τ), SemLoc.dma (⟨0, by decide⟩ : DmaSem sig)) 0 ∗ (∃ W, owes (c : Thread nD τ) O W)) -∗ wp frame (wpE (DD (F := F)) 𝒱 (c : Thread nD τ) bd) Set.univ (k) Q) -∗ wp frame (wpE (DD (F := F)) 𝒱 (c : Thread nD τ) bd) Set.univ (inW 0 t0_0 k) Q) :=
  fetchW c bd 0 t0_0 _ O
theorem inS1_0 {Q : PUnit → sProp 𝕄} (X : main_arg1.ty.Contents (Elt F)) : iprop(pt c main_arg1 X ∗ ptAny c cc0_stg1_0 ∗ semVal ((c : Thread nD τ), SemLoc.dma (⟨1, by decide⟩ : DmaSem sig)) 0)
    ⊢ iprop((Fly c ⟨1, by decide⟩ (NI 1 t0_0) iprop(pt c cc0_stg1_0 X ∗ pt c main_arg1 X) -∗ wp frame (wpE (DD (F := F)) 𝒱 (c : Thread nD τ) bd) Set.univ (k) Q) -∗ wp frame (wpE (DD (F := F)) 𝒱 (c : Thread nD τ) bd) Set.univ (inS 1 t0_0 k) Q) :=
  fetchS c bd 1 t0_0 X _ (fun Y => pt c cc0_stg1_0 Y) (blkE1_0 c _) (fun _ => (stgE1_0 c _)) (View.dmaCredit_pos _ (by decide))
theorem inW1_0 {Q : PUnit → sProp 𝕄} (X : main_arg1.ty.Contents (Elt F)) (O : CellTallies nD τ sig Unit) :
    iprop(Fly c ⟨1, by decide⟩ (NI 1 t0_0) iprop(pt c cc0_stg1_0 X ∗ pt c main_arg1 X) ∗ (∃ W, owes (c : Thread nD τ) O W) ∗ MayWait (c : Thread nD τ) (.dma ⟨1, by decide⟩) () O)
    ⊢ iprop((iprop((pt c cc0_stg1_0 X ∗ pt c main_arg1 X) ∗ semVal ((c : Thread nD τ), SemLoc.dma (⟨1, by decide⟩ : DmaSem sig)) 0 ∗ (∃ W, owes (c : Thread nD τ) O W)) -∗ wp frame (wpE (DD (F := F)) 𝒱 (c : Thread nD τ) bd) Set.univ (k) Q) -∗ wp frame (wpE (DD (F := F)) 𝒱 (c : Thread nD τ) bd) Set.univ (inW 1 t0_0 k) Q) :=
  fetchW c bd 1 t0_0 _ O
theorem inS2_0 {Q : PUnit → sProp 𝕄} (X : main_arg2.ty.Contents (Elt F)) : iprop(pt c main_arg2 X ∗ ptAny c cc0_stg2_0 ∗ semVal ((c : Thread nD τ), SemLoc.dma (⟨2, by decide⟩ : DmaSem sig)) 0)
    ⊢ iprop((Fly c ⟨2, by decide⟩ (NI 2 t0_0) iprop(pt c cc0_stg2_0 X ∗ pt c main_arg2 X) -∗ wp frame (wpE (DD (F := F)) 𝒱 (c : Thread nD τ) bd) Set.univ (k) Q) -∗ wp frame (wpE (DD (F := F)) 𝒱 (c : Thread nD τ) bd) Set.univ (inS 2 t0_0 k) Q) :=
  fetchS c bd 2 t0_0 X _ (fun Y => pt c cc0_stg2_0 Y) (blkE2_0 c _) (fun _ => (stgE2_0 c _)) (View.dmaCredit_pos _ (by decide))
theorem inW2_0 {Q : PUnit → sProp 𝕄} (X : main_arg2.ty.Contents (Elt F)) (O : CellTallies nD τ sig Unit) :
    iprop(Fly c ⟨2, by decide⟩ (NI 2 t0_0) iprop(pt c cc0_stg2_0 X ∗ pt c main_arg2 X) ∗ (∃ W, owes (c : Thread nD τ) O W) ∗ MayWait (c : Thread nD τ) (.dma ⟨2, by decide⟩) () O)
    ⊢ iprop((iprop((pt c cc0_stg2_0 X ∗ pt c main_arg2 X) ∗ semVal ((c : Thread nD τ), SemLoc.dma (⟨2, by decide⟩ : DmaSem sig)) 0 ∗ (∃ W, owes (c : Thread nD τ) O W)) -∗ wp frame (wpE (DD (F := F)) 𝒱 (c : Thread nD τ) bd) Set.univ (k) Q) -∗ wp frame (wpE (DD (F := F)) 𝒱 (c : Thread nD τ) bd) Set.univ (inW 2 t0_0 k) Q) :=
  fetchW c bd 2 t0_0 _ O
theorem inS3_0 {Q : PUnit → sProp 𝕄} (X : main_arg3.ty.Contents (Elt F)) : iprop(pt c main_arg3 X ∗ ptAny c cc0_stg3_0 ∗ semVal ((c : Thread nD τ), SemLoc.dma (⟨3, by decide⟩ : DmaSem sig)) 0)
    ⊢ iprop((Fly c ⟨3, by decide⟩ (NI 3 t0_0) iprop(pt c cc0_stg3_0 X ∗ pt c main_arg3 X) -∗ wp frame (wpE (DD (F := F)) 𝒱 (c : Thread nD τ) bd) Set.univ (k) Q) -∗ wp frame (wpE (DD (F := F)) 𝒱 (c : Thread nD τ) bd) Set.univ (inS 3 t0_0 k) Q) :=
  fetchS c bd 3 t0_0 X _ (fun Y => pt c cc0_stg3_0 Y) (blkE3_0 c _) (fun _ => (stgE3_0 c _)) (View.dmaCredit_pos _ (by decide))
theorem inW3_0 {Q : PUnit → sProp 𝕄} (X : main_arg3.ty.Contents (Elt F)) (O : CellTallies nD τ sig Unit) :
    iprop(Fly c ⟨3, by decide⟩ (NI 3 t0_0) iprop(pt c cc0_stg3_0 X ∗ pt c main_arg3 X) ∗ (∃ W, owes (c : Thread nD τ) O W) ∗ MayWait (c : Thread nD τ) (.dma ⟨3, by decide⟩) () O)
    ⊢ iprop((iprop((pt c cc0_stg3_0 X ∗ pt c main_arg3 X) ∗ semVal ((c : Thread nD τ), SemLoc.dma (⟨3, by decide⟩ : DmaSem sig)) 0 ∗ (∃ W, owes (c : Thread nD τ) O W)) -∗ wp frame (wpE (DD (F := F)) 𝒱 (c : Thread nD τ) bd) Set.univ (k) Q) -∗ wp frame (wpE (DD (F := F)) 𝒱 (c : Thread nD τ) bd) Set.univ (inW 3 t0_0 k) Q) :=
  fetchW c bd 3 t0_0 _ O
theorem inS5_0 {Q : PUnit → sProp 𝕄} (X : main_arg5.ty.Contents (Elt F)) : iprop(pt c main_arg5 X ∗ ptAny c cc0_stg5_0 ∗ semVal ((c : Thread nD τ), SemLoc.dma (⟨6, by decide⟩ : DmaSem sig)) 0)
    ⊢ iprop((Fly c ⟨6, by decide⟩ (NI 5 t0_0) iprop(pt c cc0_stg5_0 X ∗ pt c main_arg5 X) -∗ wp frame (wpE (DD (F := F)) 𝒱 (c : Thread nD τ) bd) Set.univ (k) Q) -∗ wp frame (wpE (DD (F := F)) 𝒱 (c : Thread nD τ) bd) Set.univ (inS 5 t0_0 k) Q) :=
  fetchS c bd 5 t0_0 X _ (fun Y => pt c cc0_stg5_0 Y) (blkE5_0 c _) (fun _ => (stgE5_0 c _)) (View.dmaCredit_pos _ (by decide))
theorem inW5_0 {Q : PUnit → sProp 𝕄} (X : main_arg5.ty.Contents (Elt F)) (O : CellTallies nD τ sig Unit) :
    iprop(Fly c ⟨6, by decide⟩ (NI 5 t0_0) iprop(pt c cc0_stg5_0 X ∗ pt c main_arg5 X) ∗ (∃ W, owes (c : Thread nD τ) O W) ∗ MayWait (c : Thread nD τ) (.dma ⟨6, by decide⟩) () O)
    ⊢ iprop((iprop((pt c cc0_stg5_0 X ∗ pt c main_arg5 X) ∗ semVal ((c : Thread nD τ), SemLoc.dma (⟨6, by decide⟩ : DmaSem sig)) 0 ∗ (∃ W, owes (c : Thread nD τ) O W)) -∗ wp frame (wpE (DD (F := F)) 𝒱 (c : Thread nD τ) bd) Set.univ (k) Q) -∗ wp frame (wpE (DD (F := F)) 𝒱 (c : Thread nD τ) bd) Set.univ (inW 5 t0_0 k) Q) :=
  fetchW c bd 5 t0_0 _ O
theorem inS6_0 {Q : PUnit → sProp 𝕄} (X : main_arg6.ty.Contents (Elt F)) : iprop(pt c main_arg6 X ∗ ptAny c cc0_stg6_0 ∗ semVal ((c : Thread nD τ), SemLoc.dma (⟨7, by decide⟩ : DmaSem sig)) 0)
    ⊢ iprop((Fly c ⟨7, by decide⟩ (NI 6 t0_0) iprop(pt c cc0_stg6_0 X ∗ pt c main_arg6 X) -∗ wp frame (wpE (DD (F := F)) 𝒱 (c : Thread nD τ) bd) Set.univ (k) Q) -∗ wp frame (wpE (DD (F := F)) 𝒱 (c : Thread nD τ) bd) Set.univ (inS 6 t0_0 k) Q) :=
  fetchS c bd 6 t0_0 X _ (fun Y => pt c cc0_stg6_0 Y) (blkE6_0 c _) (fun _ => (stgE6_0 c _)) (View.dmaCredit_pos _ (by decide))
theorem inW6_0 {Q : PUnit → sProp 𝕄} (X : main_arg6.ty.Contents (Elt F)) (O : CellTallies nD τ sig Unit) :
    iprop(Fly c ⟨7, by decide⟩ (NI 6 t0_0) iprop(pt c cc0_stg6_0 X ∗ pt c main_arg6 X) ∗ (∃ W, owes (c : Thread nD τ) O W) ∗ MayWait (c : Thread nD τ) (.dma ⟨7, by decide⟩) () O)
    ⊢ iprop((iprop((pt c cc0_stg6_0 X ∗ pt c main_arg6 X) ∗ semVal ((c : Thread nD τ), SemLoc.dma (⟨7, by decide⟩ : DmaSem sig)) 0 ∗ (∃ W, owes (c : Thread nD τ) O W)) -∗ wp frame (wpE (DD (F := F)) 𝒱 (c : Thread nD τ) bd) Set.univ (k) Q) -∗ wp frame (wpE (DD (F := F)) 𝒱 (c : Thread nD τ) bd) Set.univ (inW 6 t0_0 k) Q) :=
  fetchW c bd 6 t0_0 _ O
theorem inS4_0 {Q : PUnit → sProp 𝕄} (X : Vec F S2048x512 .f32) : iprop(wBlk c t0_0 X ∗ ptAny c cc0_stg4_0 ∗ semVal ((c : Thread nD τ), SemLoc.dma (⟨4, by decide⟩ : DmaSem sig)) 0)
    ⊢ iprop((Fly c ⟨4, by decide⟩ (NI 4 t0_0) iprop(pt c cc0_stg4_0 X ∗ wBlk c t0_0 X) -∗ wp frame (wpE (DD (F := F)) 𝒱 (c : Thread nD τ) bd) Set.univ (k) Q) -∗ wp frame (wpE (DD (F := F)) 𝒱 (c : Thread nD τ) bd) Set.univ (inS 4 t0_0 k) Q) :=
  fetchS c bd 4 t0_0 X _ (fun Y => pt c cc0_stg4_0 Y) rfl (fun _ => (stgE4_0 c _)) (View.dmaCredit_pos _ (by decide))
theorem inW4_0 {Q : PUnit → sProp 𝕄} (X : Vec F S2048x512 .f32) (O : CellTallies nD τ sig Unit) :
    iprop(Fly c ⟨4, by decide⟩ (NI 4 t0_0) iprop(pt c cc0_stg4_0 X ∗ wBlk c t0_0 X) ∗ (∃ W, owes (c : Thread nD τ) O W) ∗ MayWait (c : Thread nD τ) (.dma ⟨4, by decide⟩) () O)
    ⊢ iprop((iprop((pt c cc0_stg4_0 X ∗ wBlk c t0_0 X) ∗ semVal ((c : Thread nD τ), SemLoc.dma (⟨4, by decide⟩ : DmaSem sig)) 0 ∗ (∃ W, owes (c : Thread nD τ) O W)) -∗ wp frame (wpE (DD (F := F)) 𝒱 (c : Thread nD τ) bd) Set.univ (k) Q) -∗ wp frame (wpE (DD (F := F)) 𝒱 (c : Thread nD τ) bd) Set.univ (inW 4 t0_0 k) Q) :=
  fetchW c bd 4 t0_0 _ O
theorem inS4_1 {Q : PUnit → sProp 𝕄} (X : Vec F S2048x512 .f32) : iprop(wBlk c t0_1 X ∗ ptAny c cc0_stg4_1 ∗ semVal ((c : Thread nD τ), SemLoc.dma (⟨5, by decide⟩ : DmaSem sig)) 0)
    ⊢ iprop((Fly c ⟨5, by decide⟩ (NI 4 t0_1) iprop(pt c cc0_stg4_1 X ∗ wBlk c t0_1 X) -∗ wp frame (wpE (DD (F := F)) 𝒱 (c : Thread nD τ) bd) Set.univ (k) Q) -∗ wp frame (wpE (DD (F := F)) 𝒱 (c : Thread nD τ) bd) Set.univ (inS 4 t0_1 k) Q) :=
  fetchS c bd 4 t0_1 X _ (fun Y => pt c cc0_stg4_1 Y) rfl (fun _ => (stgE4_1 c _)) (View.dmaCredit_pos _ (by decide))
theorem inW4_1 {Q : PUnit → sProp 𝕄} (X : Vec F S2048x512 .f32) (O : CellTallies nD τ sig Unit) :
    iprop(Fly c ⟨5, by decide⟩ (NI 4 t0_1) iprop(pt c cc0_stg4_1 X ∗ wBlk c t0_1 X) ∗ (∃ W, owes (c : Thread nD τ) O W) ∗ MayWait (c : Thread nD τ) (.dma ⟨5, by decide⟩) () O)
    ⊢ iprop((iprop((pt c cc0_stg4_1 X ∗ wBlk c t0_1 X) ∗ semVal ((c : Thread nD τ), SemLoc.dma (⟨5, by decide⟩ : DmaSem sig)) 0 ∗ (∃ W, owes (c : Thread nD τ) O W)) -∗ wp frame (wpE (DD (F := F)) 𝒱 (c : Thread nD τ) bd) Set.univ (k) Q) -∗ wp frame (wpE (DD (F := F)) 𝒱 (c : Thread nD τ) bd) Set.univ (inW 4 t0_1 k) Q) :=
  fetchW c bd 4 t0_1 _ O
theorem inS4_2 {Q : PUnit → sProp 𝕄} (X : Vec F S2048x512 .f32) : iprop(wBlk c t0_2 X ∗ ptAny c cc0_stg4_0 ∗ semVal ((c : Thread nD τ), SemLoc.dma (⟨4, by decide⟩ : DmaSem sig)) 0)
    ⊢ iprop((Fly c ⟨4, by decide⟩ (NI 4 t0_2) iprop(pt c cc0_stg4_0 X ∗ wBlk c t0_2 X) -∗ wp frame (wpE (DD (F := F)) 𝒱 (c : Thread nD τ) bd) Set.univ (k) Q) -∗ wp frame (wpE (DD (F := F)) 𝒱 (c : Thread nD τ) bd) Set.univ (inS 4 t0_2 k) Q) :=
  fetchS c bd 4 t0_2 X _ (fun Y => pt c cc0_stg4_0 Y) rfl (fun _ => (stgE4_2 c _)) (View.dmaCredit_pos _ (by decide))
theorem inW4_2 {Q : PUnit → sProp 𝕄} (X : Vec F S2048x512 .f32) (O : CellTallies nD τ sig Unit) :
    iprop(Fly c ⟨4, by decide⟩ (NI 4 t0_2) iprop(pt c cc0_stg4_0 X ∗ wBlk c t0_2 X) ∗ (∃ W, owes (c : Thread nD τ) O W) ∗ MayWait (c : Thread nD τ) (.dma ⟨4, by decide⟩) () O)
    ⊢ iprop((iprop((pt c cc0_stg4_0 X ∗ wBlk c t0_2 X) ∗ semVal ((c : Thread nD τ), SemLoc.dma (⟨4, by decide⟩ : DmaSem sig)) 0 ∗ (∃ W, owes (c : Thread nD τ) O W)) -∗ wp frame (wpE (DD (F := F)) 𝒱 (c : Thread nD τ) bd) Set.univ (k) Q) -∗ wp frame (wpE (DD (F := F)) 𝒱 (c : Thread nD τ) bd) Set.univ (inW 4 t0_2 k) Q) :=
  fetchW c bd 4 t0_2 _ O
theorem inS4_3 {Q : PUnit → sProp 𝕄} (X : Vec F S2048x512 .f32) : iprop(wBlk c t0_3 X ∗ ptAny c cc0_stg4_1 ∗ semVal ((c : Thread nD τ), SemLoc.dma (⟨5, by decide⟩ : DmaSem sig)) 0)
    ⊢ iprop((Fly c ⟨5, by decide⟩ (NI 4 t0_3) iprop(pt c cc0_stg4_1 X ∗ wBlk c t0_3 X) -∗ wp frame (wpE (DD (F := F)) 𝒱 (c : Thread nD τ) bd) Set.univ (k) Q) -∗ wp frame (wpE (DD (F := F)) 𝒱 (c : Thread nD τ) bd) Set.univ (inS 4 t0_3 k) Q) :=
  fetchS c bd 4 t0_3 X _ (fun Y => pt c cc0_stg4_1 Y) rfl (fun _ => (stgE4_3 c _)) (View.dmaCredit_pos _ (by decide))
theorem inW4_3 {Q : PUnit → sProp 𝕄} (X : Vec F S2048x512 .f32) (O : CellTallies nD τ sig Unit) :
    iprop(Fly c ⟨5, by decide⟩ (NI 4 t0_3) iprop(pt c cc0_stg4_1 X ∗ wBlk c t0_3 X) ∗ (∃ W, owes (c : Thread nD τ) O W) ∗ MayWait (c : Thread nD τ) (.dma ⟨5, by decide⟩) () O)
    ⊢ iprop((iprop((pt c cc0_stg4_1 X ∗ wBlk c t0_3 X) ∗ semVal ((c : Thread nD τ), SemLoc.dma (⟨5, by decide⟩ : DmaSem sig)) 0 ∗ (∃ W, owes (c : Thread nD τ) O W)) -∗ wp frame (wpE (DD (F := F)) 𝒱 (c : Thread nD τ) bd) Set.univ (k) Q) -∗ wp frame (wpE (DD (F := F)) 𝒱 (c : Thread nD τ) bd) Set.univ (inW 4 t0_3 k) Q) :=
  fetchW c bd 4 t0_3 _ O
/-- then the results. -/
theorem outS8_3 {Q : PUnit → sProp 𝕄} (X : main_v2_1.ty.Contents (Elt F)) : iprop(pt c cc0_stg8_0 X ∗ ptAny c main_v2_1 ∗ semVal ((c : Thread nD τ), SemLoc.dma (⟨10, by decide⟩ : DmaSem sig)) 0)
    ⊢ iprop((Fly c ⟨10, by decide⟩ (NO 8 t0_3) iprop(pt c main_v2_1 X ∗ pt c cc0_stg8_0 X) -∗ wp frame (wpE (DD (F := F)) 𝒱 (c : Thread nD τ) bd) Set.univ (k) Q) -∗ wp frame (wpE (DD (F := F)) 𝒱 (c : Thread nD τ) bd) Set.univ (outS 8 t0_3 k) Q) :=
  flushS c bd 8 t0_3 X _ (fun Y => pt c main_v2_1 Y) (stgE8_3 c _) (fun _ => (blkE8_3 c _)) (View.dmaCredit_pos _ (by decide))
theorem outW8_3 {Q : PUnit → sProp 𝕄} (X : main_v2_1.ty.Contents (Elt F)) :
    iprop(Fly c ⟨10, by decide⟩ (NO 8 t0_3) iprop(pt c main_v2_1 X ∗ pt c cc0_stg8_0 X) ∗ (∃ W, owes (c : Thread nD τ) 0 W) ∗ MayWait (c : Thread nD τ) (.dma ⟨10, by decide⟩) () 0)
    ⊢ iprop((iprop((pt c main_v2_1 X ∗ pt c cc0_stg8_0 X) ∗ semVal ((c : Thread nD τ), SemLoc.dma (⟨10, by decide⟩ : DmaSem sig)) 0 ∗ (∃ W, owes (c : Thread nD τ) 0 W)) -∗ wp frame (wpE (DD (F := F)) 𝒱 (c : Thread nD τ) bd) Set.univ (k) Q) -∗ wp frame (wpE (DD (F := F)) 𝒱 (c : Thread nD τ) bd) Set.univ (outW 8 t0_3 k) Q) :=
  flushW c bd 8 t0_3 _ 0
theorem outS9_3 {Q : PUnit → sProp 𝕄} (X : main_v2_2.ty.Contents (Elt F)) : iprop(pt c cc0_stg9_0 X ∗ ptAny c main_v2_2 ∗ semVal ((c : Thread nD τ), SemLoc.dma (⟨11, by decide⟩ : DmaSem sig)) 0)
    ⊢ iprop((Fly c ⟨11, by decide⟩ (NO 9 t0_3) iprop(pt c main_v2_2 X ∗ pt c cc0_stg9_0 X) -∗ wp frame (wpE (DD (F := F)) 𝒱 (c : Thread nD τ) bd) Set.univ (k) Q) -∗ wp frame (wpE (DD (F := F)) 𝒱 (c : Thread nD τ) bd) Set.univ (outS 9 t0_3 k) Q) :=
  flushS c bd 9 t0_3 X _ (fun Y => pt c main_v2_2 Y) (stgE9_3 c _) (fun _ => (blkE9_3 c _)) (View.dmaCredit_pos _ (by decide))
theorem outW9_3 {Q : PUnit → sProp 𝕄} (X : main_v2_2.ty.Contents (Elt F)) :
    iprop(Fly c ⟨11, by decide⟩ (NO 9 t0_3) iprop(pt c main_v2_2 X ∗ pt c cc0_stg9_0 X) ∗ (∃ W, owes (c : Thread nD τ) 0 W) ∗ MayWait (c : Thread nD τ) (.dma ⟨11, by decide⟩) () 0)
    ⊢ iprop((iprop((pt c main_v2_2 X ∗ pt c cc0_stg9_0 X) ∗ semVal ((c : Thread nD τ), SemLoc.dma (⟨11, by decide⟩ : DmaSem sig)) 0 ∗ (∃ W, owes (c : Thread nD τ) 0 W)) -∗ wp frame (wpE (DD (F := F)) 𝒱 (c : Thread nD τ) bd) Set.univ (k) Q) -∗ wp frame (wpE (DD (F := F)) 𝒱 (c : Thread nD τ) bd) Set.univ (outW 9 t0_3 k) Q) :=
  flushW c bd 9 t0_3 _ 0
theorem outS10_3 {Q : PUnit → sProp 𝕄} (X : main_v2_3.ty.Contents (Elt F)) : iprop(pt c cc0_stg10_0 X ∗ ptAny c main_v2_3 ∗ semVal ((c : Thread nD τ), SemLoc.dma (⟨12, by decide⟩ : DmaSem sig)) 0)
    ⊢ iprop((Fly c ⟨12, by decide⟩ (NO 10 t0_3) iprop(pt c main_v2_3 X ∗ pt c cc0_stg10_0 X) -∗ wp frame (wpE (DD (F := F)) 𝒱 (c : Thread nD τ) bd) Set.univ (k) Q) -∗ wp frame (wpE (DD (F := F)) 𝒱 (c : Thread nD τ) bd) Set.univ (outS 10 t0_3 k) Q) :=
  flushS c bd 10 t0_3 X _ (fun Y => pt c main_v2_3 Y) (stgE10_3 c _) (fun _ => (blkE10_3 c _)) (View.dmaCredit_pos _ (by decide))
theorem outW10_3 {Q : PUnit → sProp 𝕄} (X : main_v2_3.ty.Contents (Elt F)) :
    iprop(Fly c ⟨12, by decide⟩ (NO 10 t0_3) iprop(pt c main_v2_3 X ∗ pt c cc0_stg10_0 X) ∗ (∃ W, owes (c : Thread nD τ) 0 W) ∗ MayWait (c : Thread nD τ) (.dma ⟨12, by decide⟩) () 0)
    ⊢ iprop((iprop((pt c main_v2_3 X ∗ pt c cc0_stg10_0 X) ∗ semVal ((c : Thread nD τ), SemLoc.dma (⟨12, by decide⟩ : DmaSem sig)) 0 ∗ (∃ W, owes (c : Thread nD τ) 0 W)) -∗ wp frame (wpE (DD (F := F)) 𝒱 (c : Thread nD τ) bd) Set.univ (k) Q) -∗ wp frame (wpE (DD (F := F)) 𝒱 (c : Thread nD τ) bd) Set.univ (outW 10 t0_3 k) Q) :=
  flushW c bd 10 t0_3 _ 0
theorem outS11_3 {Q : PUnit → sProp 𝕄} (X : main_v2_4.ty.Contents (Elt F)) : iprop(pt c cc0_stg11_0 X ∗ ptAny c main_v2_4 ∗ semVal ((c : Thread nD τ), SemLoc.dma (⟨13, by decide⟩ : DmaSem sig)) 0)
    ⊢ iprop((Fly c ⟨13, by decide⟩ (NO 11 t0_3) iprop(pt c main_v2_4 X ∗ pt c cc0_stg11_0 X) -∗ wp frame (wpE (DD (F := F)) 𝒱 (c : Thread nD τ) bd) Set.univ (k) Q) -∗ wp frame (wpE (DD (F := F)) 𝒱 (c : Thread nD τ) bd) Set.univ (outS 11 t0_3 k) Q) :=
  flushS c bd 11 t0_3 X _ (fun Y => pt c main_v2_4 Y) (stgE11_3 c _) (fun _ => (blkE11_3 c _)) (View.dmaCredit_pos _ (by decide))
theorem outW11_3 {Q : PUnit → sProp 𝕄} (X : main_v2_4.ty.Contents (Elt F)) :
    iprop(Fly c ⟨13, by decide⟩ (NO 11 t0_3) iprop(pt c main_v2_4 X ∗ pt c cc0_stg11_0 X) ∗ (∃ W, owes (c : Thread nD τ) 0 W) ∗ MayWait (c : Thread nD τ) (.dma ⟨13, by decide⟩) () 0)
    ⊢ iprop((iprop((pt c main_v2_4 X ∗ pt c cc0_stg11_0 X) ∗ semVal ((c : Thread nD τ), SemLoc.dma (⟨13, by decide⟩ : DmaSem sig)) 0 ∗ (∃ W, owes (c : Thread nD τ) 0 W)) -∗ wp frame (wpE (DD (F := F)) 𝒱 (c : Thread nD τ) bd) Set.univ (k) Q) -∗ wp frame (wpE (DD (F := F)) 𝒱 (c : Thread nD τ) bd) Set.univ (outW 11 t0_3 k) Q) :=
  flushW c bd 11 t0_3 _ 0
theorem outS12_3 {Q : PUnit → sProp 𝕄} (X : main_v2_5.ty.Contents (Elt F)) : iprop(pt c cc0_stg12_0 X ∗ ptAny c main_v2_5 ∗ semVal ((c : Thread nD τ), SemLoc.dma (⟨14, by decide⟩ : DmaSem sig)) 0)
    ⊢ iprop((Fly c ⟨14, by decide⟩ (NO 12 t0_3) iprop(pt c main_v2_5 X ∗ pt c cc0_stg12_0 X) -∗ wp frame (wpE (DD (F := F)) 𝒱 (c : Thread nD τ) bd) Set.univ (k) Q) -∗ wp frame (wpE (DD (F := F)) 𝒱 (c : Thread nD τ) bd) Set.univ (outS 12 t0_3 k) Q) :=
  flushS c bd 12 t0_3 X _ (fun Y => pt c main_v2_5 Y) (stgE12_3 c _) (fun _ => (blkE12_3 c _)) (View.dmaCredit_pos _ (by decide))
theorem outW12_3 {Q : PUnit → sProp 𝕄} (X : main_v2_5.ty.Contents (Elt F)) :
    iprop(Fly c ⟨14, by decide⟩ (NO 12 t0_3) iprop(pt c main_v2_5 X ∗ pt c cc0_stg12_0 X) ∗ (∃ W, owes (c : Thread nD τ) 0 W) ∗ MayWait (c : Thread nD τ) (.dma ⟨14, by decide⟩) () 0)
    ⊢ iprop((iprop((pt c main_v2_5 X ∗ pt c cc0_stg12_0 X) ∗ semVal ((c : Thread nD τ), SemLoc.dma (⟨14, by decide⟩ : DmaSem sig)) 0 ∗ (∃ W, owes (c : Thread nD τ) 0 W)) -∗ wp frame (wpE (DD (F := F)) 𝒱 (c : Thread nD τ) bd) Set.univ (k) Q) -∗ wp frame (wpE (DD (F := F)) 𝒱 (c : Thread nD τ) bd) Set.univ (outW 12 t0_3 k) Q) :=
  flushW c bd 12 t0_3 _ 0
theorem outS13_3 {Q : PUnit → sProp 𝕄} (X : main_v2_6.ty.Contents (Elt F)) : iprop(pt c cc0_stg13_0 X ∗ ptAny c main_v2_6 ∗ semVal ((c : Thread nD τ), SemLoc.dma (⟨15, by decide⟩ : DmaSem sig)) 0)
    ⊢ iprop((Fly c ⟨15, by decide⟩ (NO 13 t0_3) iprop(pt c main_v2_6 X ∗ pt c cc0_stg13_0 X) -∗ wp frame (wpE (DD (F := F)) 𝒱 (c : Thread nD τ) bd) Set.univ (k) Q) -∗ wp frame (wpE (DD (F := F)) 𝒱 (c : Thread nD τ) bd) Set.univ (outS 13 t0_3 k) Q) :=
  flushS c bd 13 t0_3 X _ (fun Y => pt c main_v2_6 Y) (stgE13_3 c _) (fun _ => (blkE13_3 c _)) (View.dmaCredit_pos _ (by decide))
theorem outW13_3 {Q : PUnit → sProp 𝕄} (X : main_v2_6.ty.Contents (Elt F)) :
    iprop(Fly c ⟨15, by decide⟩ (NO 13 t0_3) iprop(pt c main_v2_6 X ∗ pt c cc0_stg13_0 X) ∗ (∃ W, owes (c : Thread nD τ) 0 W) ∗ MayWait (c : Thread nD τ) (.dma ⟨15, by decide⟩) () 0)
    ⊢ iprop((iprop((pt c main_v2_6 X ∗ pt c cc0_stg13_0 X) ∗ semVal ((c : Thread nD τ), SemLoc.dma (⟨15, by decide⟩ : DmaSem sig)) 0 ∗ (∃ W, owes (c : Thread nD τ) 0 W)) -∗ wp frame (wpE (DD (F := F)) 𝒱 (c : Thread nD τ) bd) Set.univ (k) Q) -∗ wp frame (wpE (DD (F := F)) 𝒱 (c : Thread nD τ) bd) Set.univ (outW 13 t0_3 k) Q) :=
  flushW c bd 13 t0_3 _ 0
theorem outS14_3 {Q : PUnit → sProp 𝕄} (X : main_v2_7.ty.Contents (Elt F)) : iprop(pt c cc0_stg14_0 X ∗ ptAny c main_v2_7 ∗ semVal ((c : Thread nD τ), SemLoc.dma (⟨16, by decide⟩ : DmaSem sig)) 0)
    ⊢ iprop((Fly c ⟨16, by decide⟩ (NO 14 t0_3) iprop(pt c main_v2_7 X ∗ pt c cc0_stg14_0 X) -∗ wp frame (wpE (DD (F := F)) 𝒱 (c : Thread nD τ) bd) Set.univ (k) Q) -∗ wp frame (wpE (DD (F := F)) 𝒱 (c : Thread nD τ) bd) Set.univ (outS 14 t0_3 k) Q) :=
  flushS c bd 14 t0_3 X _ (fun Y => pt c main_v2_7 Y) (stgE14_3 c _) (fun _ => (blkE14_3 c _)) (View.dmaCredit_pos _ (by decide))
theorem outW14_3 {Q : PUnit → sProp 𝕄} (X : main_v2_7.ty.Contents (Elt F)) :
    iprop(Fly c ⟨16, by decide⟩ (NO 14 t0_3) iprop(pt c main_v2_7 X ∗ pt c cc0_stg14_0 X) ∗ (∃ W, owes (c : Thread nD τ) 0 W) ∗ MayWait (c : Thread nD τ) (.dma ⟨16, by decide⟩) () 0)
    ⊢ iprop((iprop((pt c main_v2_7 X ∗ pt c cc0_stg14_0 X) ∗ semVal ((c : Thread nD τ), SemLoc.dma (⟨16, by decide⟩ : DmaSem sig)) 0 ∗ (∃ W, owes (c : Thread nD τ) 0 W)) -∗ wp frame (wpE (DD (F := F)) 𝒱 (c : Thread nD τ) bd) Set.univ (k) Q) -∗ wp frame (wpE (DD (F := F)) 𝒱 (c : Thread nD τ) bd) Set.univ (outW 14 t0_3 k) Q) :=
  flushW c bd 14 t0_3 _ 0
theorem outS15_3 {Q : PUnit → sProp 𝕄} (X : main_v2_8.ty.Contents (Elt F)) : iprop(pt c cc0_stg15_0 X ∗ ptAny c main_v2_8 ∗ semVal ((c : Thread nD τ), SemLoc.dma (⟨17, by decide⟩ : DmaSem sig)) 0)
    ⊢ iprop((Fly c ⟨17, by decide⟩ (NO 15 t0_3) iprop(pt c main_v2_8 X ∗ pt c cc0_stg15_0 X) -∗ wp frame (wpE (DD (F := F)) 𝒱 (c : Thread nD τ) bd) Set.univ (k) Q) -∗ wp frame (wpE (DD (F := F)) 𝒱 (c : Thread nD τ) bd) Set.univ (outS 15 t0_3 k) Q) :=
  flushS c bd 15 t0_3 X _ (fun Y => pt c main_v2_8 Y) (stgE15_3 c _) (fun _ => (blkE15_3 c _)) (View.dmaCredit_pos _ (by decide))
theorem outW15_3 {Q : PUnit → sProp 𝕄} (X : main_v2_8.ty.Contents (Elt F)) :
    iprop(Fly c ⟨17, by decide⟩ (NO 15 t0_3) iprop(pt c main_v2_8 X ∗ pt c cc0_stg15_0 X) ∗ (∃ W, owes (c : Thread nD τ) 0 W) ∗ MayWait (c : Thread nD τ) (.dma ⟨17, by decide⟩) () 0)
    ⊢ iprop((iprop((pt c main_v2_8 X ∗ pt c cc0_stg15_0 X) ∗ semVal ((c : Thread nD τ), SemLoc.dma (⟨17, by decide⟩ : DmaSem sig)) 0 ∗ (∃ W, owes (c : Thread nD τ) 0 W)) -∗ wp frame (wpE (DD (F := F)) 𝒱 (c : Thread nD τ) bd) Set.univ (k) Q) -∗ wp frame (wpE (DD (F := F)) 𝒱 (c : Thread nD τ) bd) Set.univ (outW 15 t0_3 k) Q) :=
  flushW c bd 15 t0_3 _ 0
theorem outS7_0 {Q : PUnit → sProp 𝕄} (X : Vec F S1024x512 .bf16) : iprop(pt c cc0_stg7_0 X ∗ (∃ Y, qBlk c t0_0 Y) ∗ semVal ((c : Thread nD τ), SemLoc.dma (⟨8, by decide⟩ : DmaSem sig)) 0)
    ⊢ iprop((Fly c ⟨8, by decide⟩ (NO 7 t0_0) iprop(qBlk c t0_0 X ∗ pt c cc0_stg7_0 X) -∗ wp frame (wpE (DD (F := F)) 𝒱 (c : Thread nD τ) bd) Set.univ (k) Q) -∗ wp frame (wpE (DD (F := F)) 𝒱 (c : Thread nD τ) bd) Set.univ (outS 7 t0_0 k) Q) :=
  flushS c bd 7 t0_0 X _ (fun Y => qBlk c t0_0 Y) (stgE7_0 c _) (fun _ => rfl) (View.dmaCredit_pos _ (by decide))
theorem outW7_0 {Q : PUnit → sProp 𝕄} (X : Vec F S1024x512 .bf16) :
    iprop(Fly c ⟨8, by decide⟩ (NO 7 t0_0) iprop(qBlk c t0_0 X ∗ pt c cc0_stg7_0 X) ∗ (∃ W, owes (c : Thread nD τ) 0 W) ∗ MayWait (c : Thread nD τ) (.dma ⟨8, by decide⟩) () 0)
    ⊢ iprop((iprop((qBlk c t0_0 X ∗ pt c cc0_stg7_0 X) ∗ semVal ((c : Thread nD τ), SemLoc.dma (⟨8, by decide⟩ : DmaSem sig)) 0 ∗ (∃ W, owes (c : Thread nD τ) 0 W)) -∗ wp frame (wpE (DD (F := F)) 𝒱 (c : Thread nD τ) bd) Set.univ (k) Q) -∗ wp frame (wpE (DD (F := F)) 𝒱 (c : Thread nD τ) bd) Set.univ (outW 7 t0_0 k) Q) :=
  flushW c bd 7 t0_0 _ 0
theorem outS7_1 {Q : PUnit → sProp 𝕄} (X : Vec F S1024x512 .bf16) : iprop(pt c cc0_stg7_1 X ∗ (∃ Y, qBlk c t0_1 Y) ∗ semVal ((c : Thread nD τ), SemLoc.dma (⟨9, by decide⟩ : DmaSem sig)) 0)
    ⊢ iprop((Fly c ⟨9, by decide⟩ (NO 7 t0_1) iprop(qBlk c t0_1 X ∗ pt c cc0_stg7_1 X) -∗ wp frame (wpE (DD (F := F)) 𝒱 (c : Thread nD τ) bd) Set.univ (k) Q) -∗ wp frame (wpE (DD (F := F)) 𝒱 (c : Thread nD τ) bd) Set.univ (outS 7 t0_1 k) Q) :=
  flushS c bd 7 t0_1 X _ (fun Y => qBlk c t0_1 Y) (stgE7_1 c _) (fun _ => rfl) (View.dmaCredit_pos _ (by decide))
theorem outW7_1 {Q : PUnit → sProp 𝕄} (X : Vec F S1024x512 .bf16) :
    iprop(Fly c ⟨9, by decide⟩ (NO 7 t0_1) iprop(qBlk c t0_1 X ∗ pt c cc0_stg7_1 X) ∗ (∃ W, owes (c : Thread nD τ) 0 W) ∗ MayWait (c : Thread nD τ) (.dma ⟨9, by decide⟩) () 0)
    ⊢ iprop((iprop((qBlk c t0_1 X ∗ pt c cc0_stg7_1 X) ∗ semVal ((c : Thread nD τ), SemLoc.dma (⟨9, by decide⟩ : DmaSem sig)) 0 ∗ (∃ W, owes (c : Thread nD τ) 0 W)) -∗ wp frame (wpE (DD (F := F)) 𝒱 (c : Thread nD τ) bd) Set.univ (k) Q) -∗ wp frame (wpE (DD (F := F)) 𝒱 (c : Thread nD τ) bd) Set.univ (outW 7 t0_1 k) Q) :=
  flushW c bd 7 t0_1 _ 0
theorem outS7_2 {Q : PUnit → sProp 𝕄} (X : Vec F S1024x512 .bf16) : iprop(pt c cc0_stg7_0 X ∗ (∃ Y, qBlk c t0_2 Y) ∗ semVal ((c : Thread nD τ), SemLoc.dma (⟨8, by decide⟩ : DmaSem sig)) 0)
    ⊢ iprop((Fly c ⟨8, by decide⟩ (NO 7 t0_2) iprop(qBlk c t0_2 X ∗ pt c cc0_stg7_0 X) -∗ wp frame (wpE (DD (F := F)) 𝒱 (c : Thread nD τ) bd) Set.univ (k) Q) -∗ wp frame (wpE (DD (F := F)) 𝒱 (c : Thread nD τ) bd) Set.univ (outS 7 t0_2 k) Q) :=
  flushS c bd 7 t0_2 X _ (fun Y => qBlk c t0_2 Y) (stgE7_2 c _) (fun _ => rfl) (View.dmaCredit_pos _ (by decide))
theorem outW7_2 {Q : PUnit → sProp 𝕄} (X : Vec F S1024x512 .bf16) :
    iprop(Fly c ⟨8, by decide⟩ (NO 7 t0_2) iprop(qBlk c t0_2 X ∗ pt c cc0_stg7_0 X) ∗ (∃ W, owes (c : Thread nD τ) 0 W) ∗ MayWait (c : Thread nD τ) (.dma ⟨8, by decide⟩) () 0)
    ⊢ iprop((iprop((qBlk c t0_2 X ∗ pt c cc0_stg7_0 X) ∗ semVal ((c : Thread nD τ), SemLoc.dma (⟨8, by decide⟩ : DmaSem sig)) 0 ∗ (∃ W, owes (c : Thread nD τ) 0 W)) -∗ wp frame (wpE (DD (F := F)) 𝒱 (c : Thread nD τ) bd) Set.univ (k) Q) -∗ wp frame (wpE (DD (F := F)) 𝒱 (c : Thread nD τ) bd) Set.univ (outW 7 t0_2 k) Q) :=
  flushW c bd 7 t0_2 _ 0
theorem outS7_3 {Q : PUnit → sProp 𝕄} (X : Vec F S1024x512 .bf16) : iprop(pt c cc0_stg7_1 X ∗ (∃ Y, qBlk c t0_3 Y) ∗ semVal ((c : Thread nD τ), SemLoc.dma (⟨9, by decide⟩ : DmaSem sig)) 0)
    ⊢ iprop((Fly c ⟨9, by decide⟩ (NO 7 t0_3) iprop(qBlk c t0_3 X ∗ pt c cc0_stg7_1 X) -∗ wp frame (wpE (DD (F := F)) 𝒱 (c : Thread nD τ) bd) Set.univ (k) Q) -∗ wp frame (wpE (DD (F := F)) 𝒱 (c : Thread nD τ) bd) Set.univ (outS 7 t0_3 k) Q) :=
  flushS c bd 7 t0_3 X _ (fun Y => qBlk c t0_3 Y) (stgE7_3 c _) (fun _ => rfl) (View.dmaCredit_pos _ (by decide))
theorem outW7_3 {Q : PUnit → sProp 𝕄} (X : Vec F S1024x512 .bf16) :
    iprop(Fly c ⟨9, by decide⟩ (NO 7 t0_3) iprop(qBlk c t0_3 X ∗ pt c cc0_stg7_1 X) ∗ (∃ W, owes (c : Thread nD τ) 0 W) ∗ MayWait (c : Thread nD τ) (.dma ⟨9, by decide⟩) () 0)
    ⊢ iprop((iprop((qBlk c t0_3 X ∗ pt c cc0_stg7_1 X) ∗ semVal ((c : Thread nD τ), SemLoc.dma (⟨9, by decide⟩ : DmaSem sig)) 0 ∗ (∃ W, owes (c : Thread nD τ) 0 W)) -∗ wp frame (wpE (DD (F := F)) 𝒱 (c : Thread nD τ) bd) Set.univ (k) Q) -∗ wp frame (wpE (DD (F := F)) 𝒱 (c : Thread nD τ) bd) Set.univ (outW 7 t0_3 k) Q) :=
  flushW c bd 7 t0_3 _ 0

end Copies

/-- The call of the body at point `t`, from what is proved of the body there. -/
theorem call_body (c : Dev nD) (n : ℕ) (t : Fin grid0.N) {k : HProg (F := F)} {Q : PUnit → sProp 𝕄} (P R : sProp 𝕄)
    (h : ∀ Kt : PUnit → sProp 𝕄, iprop(P ∗ (R -∗ Kt ⟨⟩))
      ⊢ wp frame (wpE (defs₀ (F := F)) 𝒱₀ (c : Thread nD τ) none) Set.univ (defs₀ (F := F) .tc cfg0.body (cfg0.bodyArgs t (cfg0.slots t))) Kt) :
    P ⊢ iprop((R -∗ wp frame (wpE (DD (F := F)) 𝒱 (c : Thread nD τ) (some (Sum.inr n : 𝒱.V))) Set.univ k Q)
      -∗ wp frame (wpE (DD (F := F)) 𝒱 (c : Thread nD τ) (some (Sum.inr n : 𝒱.V))) Set.univ (bodyC t k) Q) := by
  iintro HP Hk
  iapply (wp_call 𝒱 (c : Thread nD τ) (some (Sum.inr n : 𝒱.V)) Set.univ (Q := Q) (ℓ := Pipeline.kernel cfg0.body)
    (a := cfg0.bodyArgs t (cfg0.slots t)) (k := fun _ => k) (Sum.inl none) (fun u hu => by cases hu; exact Sum.Lex.sep _ _))
  iapply (show wp frame (wpE (DD (F := F)) 𝒱 (c : Thread nD τ) (some (.inl none))) Set.univ
        (Pipeline.liftProg (defs₀ (F := F) .tc cfg0.body (cfg0.bodyArgs t (cfg0.slots t)))) _
      ⊢ wp frame (wpE (DD (F := F)) 𝒱 (c : Thread nD τ) (some (.inl none))) Set.univ
        (DD .tc (Pipeline.kernel cfg0.body) (cfg0.bodyArgs t (cfg0.slots t))) _ from
      Entails.of_eq (congrArg (fun p => wp frame (wpE (DD (F := F)) 𝒱 (c : Thread nD τ) (some (.inl none))) Set.univ p _) (Pipeline.defs_kernel pcfgs defs₀ .tc cfg0.body (cfg0.bodyArgs t (cfg0.slots t))).symm))
  iapply (Pipeline.wp_liftProg (DD (F := F)) (Pipeline.defs_kernel pcfgs defs₀) 𝒱₀ (c : Thread nD τ) Set.univ none)
  iapply (h _)
  isplitl [HP] <;> iassumption

end Cert.KernelIdeal.Run
-- ==== Proof.K.Loop.lean ====
module

public import proofs.«01_k».proof.Proof.K.Copies

/-!
The exchange call, trip by trip of its loop: which copies are under way between two trips, and where the body's four points
fall among them.
-/

@[expose] public section

set_option maxRecDepth 4096

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ)

/-- The block of the query weights at point `t`, and the block of the queries computed there. -/
def wqB (c : Dev nD) (t : Fin grid0.N) : Vec F S2048x512 .f32 := fun j => wqA m c ((win0_4.rect t).emb j)
def qB (c : Dev nD) (t : Fin grid0.N) : Vec F S1024x512 .bf16 := k0_pay2 (xA m c) (wqB m c t)

/-- A staging semaphore has no part in the exchange. -/
theorem part_none0 : part (.dma (⟨0, by decide⟩ : DmaSem sig)) = none := by decide
theorem part_none1 : part (.dma (⟨1, by decide⟩ : DmaSem sig)) = none := by decide
theorem part_none2 : part (.dma (⟨2, by decide⟩ : DmaSem sig)) = none := by decide
theorem part_none3 : part (.dma (⟨3, by decide⟩ : DmaSem sig)) = none := by decide
theorem part_none4 : part (.dma (⟨4, by decide⟩ : DmaSem sig)) = none := by decide
theorem part_none5 : part (.dma (⟨5, by decide⟩ : DmaSem sig)) = none := by decide
theorem part_none6 : part (.dma (⟨6, by decide⟩ : DmaSem sig)) = none := by decide
theorem part_none7 : part (.dma (⟨7, by decide⟩ : DmaSem sig)) = none := by decide

set_option maxHeartbeats 1600000 in
/-- The trips of the loop one by one, each from what it needs to what it leaves. The first starts the fetch of the first block. -/
theorem run_trip0 (K : GSem nD τ sig → ℕ) (c : Dev nD) (n : ℕ) (a : (pcfgs (F := F) 0).Adm) {Q : PUnit → sProp 𝕄} :
    iprop(wBlk c t0_0 (wqB m c t0_0)
        ∗ ptAny c cc0_stg4_0
        ∗ semVal ((c : Thread nD τ), SemLoc.dma (⟨4, by decide⟩ : DmaSem sig)) 0)
      ⊢ iprop((iprop(Fly c ⟨4, by decide⟩ (NI 4 t0_0) iprop(pt c cc0_stg4_0 (wqB m c t0_0) ∗ wBlk c t0_0 (wqB m c t0_0)))
          -∗ wp frame (wpE (DD (F := F)) 𝒱 (c : Thread nD τ) (some (Sum.inr n : 𝒱.V))) Set.univ (next a 1) Q)
        -∗ wp frame (wpE (DD (F := F)) 𝒱 (c : Thread nD τ) (some (Sum.inr n : 𝒱.V))) Set.univ (cfg0.iter (nD := nD) (τ := τ) (Val := Elt F) (P := Fin 3) (A := fun p => (pcfgs (F := F) p).Adm) 0 a 0) Q) := by
  rw [trip0 a]
  iintro ⟨B4_0, S4_0, Z4⟩ Hk
  iapply (inS4_0 c (some (Sum.inr n : 𝒱.V)) (wqB m c t0_0)) $$ [B4_0 S4_0 Z4]
  · isplitl [B4_0]; · iexact B4_0
    isplitl [S4_0]; · iexact S4_0
    iexact Z4
  iintro F4_0
  iapply Hk
  iexact F4_0

set_option maxHeartbeats 1600000 in
/-- The first point: the operands are fetched and the exchange begins. -/
theorem run_trip1 (K : GSem nD τ sig → ℕ) (c : Dev nD) (n : ℕ) (a : (pcfgs (F := F) 0).Adm) {Q : PUnit → sProp 𝕄} :
    iprop(levAts L lv
        ∗ pt c main_v1 (xA m c)
        ∗ ptAny c cc0_stg0_0
        ∗ semVal ((c : Thread nD τ), SemLoc.dma (⟨0, by decide⟩ : DmaSem sig)) 0
        ∗ pt c main_arg1 (wdkvA m c)
        ∗ ptAny c cc0_stg1_0
        ∗ semVal ((c : Thread nD τ), SemLoc.dma (⟨1, by decide⟩ : DmaSem sig)) 0
        ∗ pt c main_arg2 (wukA m c)
        ∗ ptAny c cc0_stg2_0
        ∗ semVal ((c : Thread nD τ), SemLoc.dma (⟨2, by decide⟩ : DmaSem sig)) 0
        ∗ pt c main_arg3 (wuvA m c)
        ∗ ptAny c cc0_stg3_0
        ∗ semVal ((c : Thread nD τ), SemLoc.dma (⟨3, by decide⟩ : DmaSem sig)) 0
        ∗ pt c main_arg5 (wqrA m c)
        ∗ ptAny c cc0_stg5_0
        ∗ semVal ((c : Thread nD τ), SemLoc.dma (⟨6, by decide⟩ : DmaSem sig)) 0
        ∗ pt c main_arg6 (wkrA m c)
        ∗ ptAny c cc0_stg6_0
        ∗ semVal ((c : Thread nD τ), SemLoc.dma (⟨7, by decide⟩ : DmaSem sig)) 0
        ∗ wBlk c t0_1 (wqB m c t0_1)
        ∗ ptAny c cc0_stg4_1
        ∗ semVal ((c : Thread nD τ), SemLoc.dma (⟨5, by decide⟩ : DmaSem sig)) 0
        ∗ (∃ W, owes (c : Thread nD τ) (O₀ c) W)
        ∗ Fly c ⟨4, by decide⟩ (NI 4 t0_0) iprop(pt c cc0_stg4_0 (wqB m c t0_0) ∗ wBlk c t0_0 (wqB m c t0_0))
        ∗ opened m K c
        ∗ creds c
        ∗ ptAny c cc0_stg7_0
        ∗ ptAny c cc0_stg8_0
        ∗ ptAny c cc0_stg9_0
        ∗ ptAny c cc0_stg10_0
        ∗ ptAny c cc0_stg11_0
        ∗ ptAny c cc0_stg12_0
        ∗ ptAny c cc0_stg13_0
        ∗ ptAny c cc0_stg14_0
        ∗ ptAny c cc0_stg15_0
        ∗ (∃ Y, qBlk c t0_0 Y)
        ∗ semVal ((c : Thread nD τ), SemLoc.dma (⟨8, by decide⟩ : DmaSem sig)) 0)
      ⊢ iprop((iprop(pt c main_v1 (xA m c)
        ∗ pt c cc0_stg0_0 (xA m c)
        ∗ semVal ((c : Thread nD τ), SemLoc.dma (⟨0, by decide⟩ : DmaSem sig)) 0
        ∗ pt c main_arg1 (wdkvA m c)
        ∗ pt c cc0_stg1_0 (wdkvA m c)
        ∗ semVal ((c : Thread nD τ), SemLoc.dma (⟨1, by decide⟩ : DmaSem sig)) 0
        ∗ pt c main_arg2 (wukA m c)
        ∗ pt c cc0_stg2_0 (wukA m c)
        ∗ semVal ((c : Thread nD τ), SemLoc.dma (⟨2, by decide⟩ : DmaSem sig)) 0
        ∗ pt c main_arg3 (wuvA m c)
        ∗ pt c cc0_stg3_0 (wuvA m c)
        ∗ semVal ((c : Thread nD τ), SemLoc.dma (⟨3, by decide⟩ : DmaSem sig)) 0
        ∗ pt c main_arg5 (wqrA m c)
        ∗ pt c cc0_stg5_0 (wqrA m c)
        ∗ semVal ((c : Thread nD τ), SemLoc.dma (⟨6, by decide⟩ : DmaSem sig)) 0
        ∗ pt c main_arg6 (wkrA m c)
        ∗ pt c cc0_stg6_0 (wkrA m c)
        ∗ semVal ((c : Thread nD τ), SemLoc.dma (⟨7, by decide⟩ : DmaSem sig)) 0
        ∗ Fly c ⟨5, by decide⟩ (NI 4 t0_1) iprop(pt c cc0_stg4_1 (wqB m c t0_1) ∗ wBlk c t0_1 (wqB m c t0_1))
        ∗ (∃ W, owes (c : Thread nD τ) 0 W)
        ∗ wBlk c t0_0 (wqB m c t0_0)
        ∗ pt c cc0_stg4_0 (wqB m c t0_0)
        ∗ semVal ((c : Thread nD τ), SemLoc.dma (⟨4, by decide⟩ : DmaSem sig)) 0
        ∗ pt c cc0_stg8_0 (qrA m c)
        ∗ pt c cc0_stg9_0 (krA m c)
        ∗ underway m K c
        ∗ Fly c ⟨8, by decide⟩ (NO 7 t0_0) iprop(qBlk c t0_0 (qB m c t0_0) ∗ pt c cc0_stg7_0 (qB m c t0_0)))
          -∗ wp frame (wpE (DD (F := F)) 𝒱 (c : Thread nD τ) (some (Sum.inr n : 𝒱.V))) Set.univ (next a 2) Q)
        -∗ wp frame (wpE (DD (F := F)) 𝒱 (c : Thread nD τ) (some (Sum.inr n : 𝒱.V))) Set.univ (cfg0.iter (nD := nD) (τ := τ) (Val := Elt F) (P := Fin 3) (A := fun p => (pcfgs (F := F) p).Adm) 0 a 1) Q) := by
  rw [trip1 a]
  iintro ⟨#L, A0, S0, Z0, A1, S1, Z1, A2, S2, Z2, A3, S3, Z3, A5, S5, Z6, A6, S6, Z7, B4_1, S4_1, Z5, O, F4_0, P, C, S7_0, S8, S9, S10, S11, S12, S13, S14, S15, B7_0, Z8⟩ Hk
  iapply (inS0_0 c (some (Sum.inr n : 𝒱.V)) (xA m c)) $$ [A0 S0 Z0]
  · isplitl [A0]; · iexact A0
    isplitl [S0]; · iexact S0
    iexact Z0
  iintro F0_0
  iapply (inS1_0 c (some (Sum.inr n : 𝒱.V)) (wdkvA m c)) $$ [A1 S1 Z1]
  · isplitl [A1]; · iexact A1
    isplitl [S1]; · iexact S1
    iexact Z1
  iintro F1_0
  iapply (inS2_0 c (some (Sum.inr n : 𝒱.V)) (wukA m c)) $$ [A2 S2 Z2]
  · isplitl [A2]; · iexact A2
    isplitl [S2]; · iexact S2
    iexact Z2
  iintro F2_0
  iapply (inS3_0 c (some (Sum.inr n : 𝒱.V)) (wuvA m c)) $$ [A3 S3 Z3]
  · isplitl [A3]; · iexact A3
    isplitl [S3]; · iexact S3
    iexact Z3
  iintro F3_0
  iapply (inS5_0 c (some (Sum.inr n : 𝒱.V)) (wqrA m c)) $$ [A5 S5 Z6]
  · isplitl [A5]; · iexact A5
    isplitl [S5]; · iexact S5
    iexact Z6
  iintro F5_0
  iapply (inS6_0 c (some (Sum.inr n : 𝒱.V)) (wkrA m c)) $$ [A6 S6 Z7]
  · isplitl [A6]; · iexact A6
    isplitl [S6]; · iexact S6
    iexact Z7
  iintro F6_0
  iapply (inS4_1 c (some (Sum.inr n : 𝒱.V)) (wqB m c t0_1)) $$ [B4_1 S4_1 Z5]
  · isplitl [B4_1]; · iexact B4_1
    isplitl [S4_1]; · iexact S4_1
    iexact Z5
  iintro F4_1
  iapply (inW0_0 c (some (Sum.inr n : 𝒱.V)) (xA m c) (O₀ c)) $$ [F0_0 O]
  · isplitl [F0_0]; · iexact F0_0
    isplitl [O]; · iexact O
    iapply (mayWait_stage c _ part_none0); iexact L
  iintro ⟨⟨S0, A0⟩, Z0, O⟩
  iapply (inW1_0 c (some (Sum.inr n : 𝒱.V)) (wdkvA m c) (O₀ c)) $$ [F1_0 O]
  · isplitl [F1_0]; · iexact F1_0
    isplitl [O]; · iexact O
    iapply (mayWait_stage c _ part_none1); iexact L
  iintro ⟨⟨S1, A1⟩, Z1, O⟩
  iapply (inW2_0 c (some (Sum.inr n : 𝒱.V)) (wukA m c) (O₀ c)) $$ [F2_0 O]
  · isplitl [F2_0]; · iexact F2_0
    isplitl [O]; · iexact O
    iapply (mayWait_stage c _ part_none2); iexact L
  iintro ⟨⟨S2, A2⟩, Z2, O⟩
  iapply (inW3_0 c (some (Sum.inr n : 𝒱.V)) (wuvA m c) (O₀ c)) $$ [F3_0 O]
  · isplitl [F3_0]; · iexact F3_0
    isplitl [O]; · iexact O
    iapply (mayWait_stage c _ part_none3); iexact L
  iintro ⟨⟨S3, A3⟩, Z3, O⟩
  iapply (inW4_0 c (some (Sum.inr n : 𝒱.V)) (wqB m c t0_0) (O₀ c)) $$ [F4_0 O]
  · isplitl [F4_0]; · iexact F4_0
    isplitl [O]; · iexact O
    iapply (mayWait_stage c _ part_none4); iexact L
  iintro ⟨⟨S4_0, B4_0⟩, Z4, O⟩
  iapply (inW5_0 c (some (Sum.inr n : 𝒱.V)) (wqrA m c) (O₀ c)) $$ [F5_0 O]
  · isplitl [F5_0]; · iexact F5_0
    isplitl [O]; · iexact O
    iapply (mayWait_stage c _ part_none6); iexact L
  iintro ⟨⟨S5, A5⟩, Z6, O⟩
  iapply (inW6_0 c (some (Sum.inr n : 𝒱.V)) (wkrA m c) (O₀ c)) $$ [F6_0 O]
  · isplitl [F6_0]; · iexact F6_0
    isplitl [O]; · iexact O
    iapply (mayWait_stage c _ part_none7); iexact L
  iintro ⟨⟨S6, A6⟩, Z7, O⟩
  iapply (call_body c n t0_0 _ _ (fun Kt => body_t0_0 m K c (wqB m c t0_0) Kt)) $$ [P C S0 S1 S2 S3 S4_0 S5 S6 S7_0 S8 S9 S10 S11 S12 S13 S14 S15 O]
  · isplitl [P]; · iexact P
    isplitl [C]; · iexact C
    isplitr; · iexact L
    isplitl [S0 S1 S2 S3 S4_0 S5 S6]
    · isplitl [S0]; · iexact S0
      isplitl [S1]; · iexact S1
      isplitl [S2]; · iexact S2
      isplitl [S3]; · iexact S3
      isplitl [S4_0]; · iexact S4_0
      isplitl [S5]; · iexact S5
      iexact S6
    isplitl [S7_0]; · iexact S7_0
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    iexact O
  iintro ⟨U, ⟨S0, S1, S2, S3, S4_0, S5, S6⟩, S7_0, S8, S9, O⟩
  iapply (outS7_0 c (some (Sum.inr n : 𝒱.V)) (qB m c t0_0)) $$ [S7_0 B7_0 Z8]
  · isplitl [S7_0]; · iexact S7_0
    isplitl [B7_0]; · iexact B7_0
    iexact Z8
  iintro F7_0
  iapply Hk
  isplitl [A0]; · iexact A0
  isplitl [S0]; · iexact S0
  isplitl [Z0]; · iexact Z0
  isplitl [A1]; · iexact A1
  isplitl [S1]; · iexact S1
  isplitl [Z1]; · iexact Z1
  isplitl [A2]; · iexact A2
  isplitl [S2]; · iexact S2
  isplitl [Z2]; · iexact Z2
  isplitl [A3]; · iexact A3
  isplitl [S3]; · iexact S3
  isplitl [Z3]; · iexact Z3
  isplitl [A5]; · iexact A5
  isplitl [S5]; · iexact S5
  isplitl [Z6]; · iexact Z6
  isplitl [A6]; · iexact A6
  isplitl [S6]; · iexact S6
  isplitl [Z7]; · iexact Z7
  isplitl [F4_1]; · iexact F4_1
  isplitl [O]; · iexact O
  isplitl [B4_0]; · iexact B4_0
  isplitl [S4_0]; · iexact S4_0
  isplitl [Z4]; · iexact Z4
  isplitl [S8]; · iexact S8
  isplitl [S9]; · iexact S9
  isplitl [U]; · iexact U
  iexact F7_0

set_option maxHeartbeats 1600000 in
/-- The second point. -/
theorem run_trip2 (K : GSem nD τ sig → ℕ) (c : Dev nD) (n : ℕ) (a : (pcfgs (F := F) 0).Adm) {Q : PUnit → sProp 𝕄} :
    iprop(wBlk c t0_2 (wqB m c t0_2)
        ∗ pt c cc0_stg4_0 (wqB m c t0_0)
        ∗ semVal ((c : Thread nD τ), SemLoc.dma (⟨4, by decide⟩ : DmaSem sig)) 0
        ∗ Fly c ⟨5, by decide⟩ (NI 4 t0_1) iprop(pt c cc0_stg4_1 (wqB m c t0_1) ∗ wBlk c t0_1 (wqB m c t0_1))
        ∗ (∃ W, owes (c : Thread nD τ) 0 W)
        ∗ pt c cc0_stg0_0 (xA m c)
        ∗ ptAny c cc0_stg7_1
        ∗ (∃ Y, qBlk c t0_1 Y)
        ∗ semVal ((c : Thread nD τ), SemLoc.dma (⟨9, by decide⟩ : DmaSem sig)) 0
        ∗ Fly c ⟨8, by decide⟩ (NO 7 t0_0) iprop(qBlk c t0_0 (qB m c t0_0) ∗ pt c cc0_stg7_0 (qB m c t0_0)))
      ⊢ iprop((iprop(Fly c ⟨4, by decide⟩ (NI 4 t0_2) iprop(pt c cc0_stg4_0 (wqB m c t0_2) ∗ wBlk c t0_2 (wqB m c t0_2))
        ∗ (∃ W, owes (c : Thread nD τ) 0 W)
        ∗ wBlk c t0_1 (wqB m c t0_1)
        ∗ pt c cc0_stg4_1 (wqB m c t0_1)
        ∗ semVal ((c : Thread nD τ), SemLoc.dma (⟨5, by decide⟩ : DmaSem sig)) 0
        ∗ pt c cc0_stg0_0 (xA m c)
        ∗ Fly c ⟨9, by decide⟩ (NO 7 t0_1) iprop(qBlk c t0_1 (qB m c t0_1) ∗ pt c cc0_stg7_1 (qB m c t0_1))
        ∗ qBlk c t0_0 (qB m c t0_0)
        ∗ pt c cc0_stg7_0 (qB m c t0_0)
        ∗ semVal ((c : Thread nD τ), SemLoc.dma (⟨8, by decide⟩ : DmaSem sig)) 0)
          -∗ wp frame (wpE (DD (F := F)) 𝒱 (c : Thread nD τ) (some (Sum.inr n : 𝒱.V))) Set.univ (next a 3) Q)
        -∗ wp frame (wpE (DD (F := F)) 𝒱 (c : Thread nD τ) (some (Sum.inr n : 𝒱.V))) Set.univ (cfg0.iter (nD := nD) (τ := τ) (Val := Elt F) (P := Fin 3) (A := fun p => (pcfgs (F := F) p).Adm) 0 a 2) Q) := by
  rw [trip2 a]
  iintro ⟨B4_2, S4_0, Z4, F4_1, O, S0, S7_1, B7_1, Z9, F7_0⟩ Hk
  iapply (inS4_2 c (some (Sum.inr n : 𝒱.V)) (wqB m c t0_2)) $$ [B4_2 S4_0 Z4]
  · isplitl [B4_2]; · iexact B4_2
    isplitl [S4_0]; · iexists _; iexact S4_0
    iexact Z4
  iintro F4_2
  iapply (inW4_1 c (some (Sum.inr n : 𝒱.V)) (wqB m c t0_1) 0) $$ [F4_1 O]
  · isplitl [F4_1]; · iexact F4_1
    isplitl [O]; · iexact O
    rw [MayWait_zero]; iempintro
  iintro ⟨⟨S4_1, B4_1⟩, Z5, O⟩
  iapply (call_body c n t0_1 _ _ (fun Kt => body_t0_1 c (xA m c) (wqB m c t0_1) Kt)) $$ [S0 S4_1 S7_1]
  · isplitl [S0]; · iexact S0
    isplitl [S4_1]; · iexact S4_1
    iexact S7_1
  iintro ⟨S0, S4_1, S7_1⟩
  iapply (outS7_1 c (some (Sum.inr n : 𝒱.V)) (qB m c t0_1)) $$ [S7_1 B7_1 Z9]
  · isplitl [S7_1]; · iexact S7_1
    isplitl [B7_1]; · iexact B7_1
    iexact Z9
  iintro F7_1
  iapply (outW7_0 c (some (Sum.inr n : 𝒱.V)) (qB m c t0_0)) $$ [F7_0 O]
  · isplitl [F7_0]; · iexact F7_0
    isplitl [O]; · iexact O
    rw [MayWait_zero]; iempintro
  iintro ⟨⟨B7_0, S7_0⟩, Z8, O⟩
  iapply Hk
  isplitl [F4_2]; · iexact F4_2
  isplitl [O]; · iexact O
  isplitl [B4_1]; · iexact B4_1
  isplitl [S4_1]; · iexact S4_1
  isplitl [Z5]; · iexact Z5
  isplitl [S0]; · iexact S0
  isplitl [F7_1]; · iexact F7_1
  isplitl [B7_0]; · iexact B7_0
  isplitl [S7_0]; · iexact S7_0
  iexact Z8

set_option maxHeartbeats 1600000 in
/-- The third point. -/
theorem run_trip3 (K : GSem nD τ sig → ℕ) (c : Dev nD) (n : ℕ) (a : (pcfgs (F := F) 0).Adm) {Q : PUnit → sProp 𝕄} :
    iprop(wBlk c t0_3 (wqB m c t0_3)
        ∗ pt c cc0_stg4_1 (wqB m c t0_1)
        ∗ semVal ((c : Thread nD τ), SemLoc.dma (⟨5, by decide⟩ : DmaSem sig)) 0
        ∗ Fly c ⟨4, by decide⟩ (NI 4 t0_2) iprop(pt c cc0_stg4_0 (wqB m c t0_2) ∗ wBlk c t0_2 (wqB m c t0_2))
        ∗ (∃ W, owes (c : Thread nD τ) 0 W)
        ∗ pt c cc0_stg0_0 (xA m c)
        ∗ pt c cc0_stg7_0 (qB m c t0_0)
        ∗ (∃ Y, qBlk c t0_2 Y)
        ∗ semVal ((c : Thread nD τ), SemLoc.dma (⟨8, by decide⟩ : DmaSem sig)) 0
        ∗ Fly c ⟨9, by decide⟩ (NO 7 t0_1) iprop(qBlk c t0_1 (qB m c t0_1) ∗ pt c cc0_stg7_1 (qB m c t0_1)))
      ⊢ iprop((iprop(Fly c ⟨5, by decide⟩ (NI 4 t0_3) iprop(pt c cc0_stg4_1 (wqB m c t0_3) ∗ wBlk c t0_3 (wqB m c t0_3))
        ∗ (∃ W, owes (c : Thread nD τ) 0 W)
        ∗ wBlk c t0_2 (wqB m c t0_2)
        ∗ pt c cc0_stg4_0 (wqB m c t0_2)
        ∗ semVal ((c : Thread nD τ), SemLoc.dma (⟨4, by decide⟩ : DmaSem sig)) 0
        ∗ pt c cc0_stg0_0 (xA m c)
        ∗ Fly c ⟨8, by decide⟩ (NO 7 t0_2) iprop(qBlk c t0_2 (qB m c t0_2) ∗ pt c cc0_stg7_0 (qB m c t0_2))
        ∗ qBlk c t0_1 (qB m c t0_1)
        ∗ pt c cc0_stg7_1 (qB m c t0_1)
        ∗ semVal ((c : Thread nD τ), SemLoc.dma (⟨9, by decide⟩ : DmaSem sig)) 0)
          -∗ wp frame (wpE (DD (F := F)) 𝒱 (c : Thread nD τ) (some (Sum.inr n : 𝒱.V))) Set.univ (next a 4) Q)
        -∗ wp frame (wpE (DD (F := F)) 𝒱 (c : Thread nD τ) (some (Sum.inr n : 𝒱.V))) Set.univ (cfg0.iter (nD := nD) (τ := τ) (Val := Elt F) (P := Fin 3) (A := fun p => (pcfgs (F := F) p).Adm) 0 a 3) Q) := by
  rw [trip3 a]
  iintro ⟨B4_3, S4_1, Z5, F4_2, O, S0, S7_0, B7_2, Z8, F7_1⟩ Hk
  iapply (inS4_3 c (some (Sum.inr n : 𝒱.V)) (wqB m c t0_3)) $$ [B4_3 S4_1 Z5]
  · isplitl [B4_3]; · iexact B4_3
    isplitl [S4_1]; · iexists _; iexact S4_1
    iexact Z5
  iintro F4_3
  iapply (inW4_2 c (some (Sum.inr n : 𝒱.V)) (wqB m c t0_2) 0) $$ [F4_2 O]
  · isplitl [F4_2]; · iexact F4_2
    isplitl [O]; · iexact O
    rw [MayWait_zero]; iempintro
  iintro ⟨⟨S4_0, B4_2⟩, Z4, O⟩
  iapply (call_body c n t0_2 _ _ (fun Kt => body_t0_2 c (xA m c) (wqB m c t0_2) Kt)) $$ [S0 S4_0 S7_0]
  · isplitl [S0]; · iexact S0
    isplitl [S4_0]; · iexact S4_0
    iexists _; iexact S7_0
  iintro ⟨S0, S4_0, S7_0⟩
  iapply (outS7_2 c (some (Sum.inr n : 𝒱.V)) (qB m c t0_2)) $$ [S7_0 B7_2 Z8]
  · isplitl [S7_0]; · iexact S7_0
    isplitl [B7_2]; · iexact B7_2
    iexact Z8
  iintro F7_2
  iapply (outW7_1 c (some (Sum.inr n : 𝒱.V)) (qB m c t0_1)) $$ [F7_1 O]
  · isplitl [F7_1]; · iexact F7_1
    isplitl [O]; · iexact O
    rw [MayWait_zero]; iempintro
  iintro ⟨⟨B7_1, S7_1⟩, Z9, O⟩
  iapply Hk
  isplitl [F4_3]; · iexact F4_3
  isplitl [O]; · iexact O
  isplitl [B4_2]; · iexact B4_2
  isplitl [S4_0]; · iexact S4_0
  isplitl [Z4]; · iexact Z4
  isplitl [S0]; · iexact S0
  isplitl [F7_2]; · iexact F7_2
  isplitl [B7_1]; · iexact B7_1
  isplitl [S7_1]; · iexact S7_1
  iexact Z9

set_option maxHeartbeats 1600000 in
/-- The last point: the exchange ends, and the results are on their way out. -/
theorem run_trip4 (K : GSem nD τ sig → ℕ) (c : Dev nD) (n : ℕ) (a : (pcfgs (F := F) 0).Adm) {Q : PUnit → sProp 𝕄} :
    iprop(Fly c ⟨5, by decide⟩ (NI 4 t0_3) iprop(pt c cc0_stg4_1 (wqB m c t0_3) ∗ wBlk c t0_3 (wqB m c t0_3))
        ∗ (∃ W, owes (c : Thread nD τ) 0 W)
        ∗ underway m K c
        ∗ pt c cc0_stg0_0 (xA m c)
        ∗ pt c cc0_stg7_1 (qB m c t0_1)
        ∗ (∃ Y, qBlk c t0_3 Y)
        ∗ semVal ((c : Thread nD τ), SemLoc.dma (⟨9, by decide⟩ : DmaSem sig)) 0
        ∗ pt c cc0_stg8_0 (qrA m c)
        ∗ ptAny c main_v2_1
        ∗ semVal ((c : Thread nD τ), SemLoc.dma (⟨10, by decide⟩ : DmaSem sig)) 0
        ∗ pt c cc0_stg9_0 (krA m c)
        ∗ ptAny c main_v2_2
        ∗ semVal ((c : Thread nD τ), SemLoc.dma (⟨11, by decide⟩ : DmaSem sig)) 0
        ∗ ptAny c main_v2_3
        ∗ semVal ((c : Thread nD τ), SemLoc.dma (⟨12, by decide⟩ : DmaSem sig)) 0
        ∗ ptAny c main_v2_4
        ∗ semVal ((c : Thread nD τ), SemLoc.dma (⟨13, by decide⟩ : DmaSem sig)) 0
        ∗ ptAny c main_v2_5
        ∗ semVal ((c : Thread nD τ), SemLoc.dma (⟨14, by decide⟩ : DmaSem sig)) 0
        ∗ ptAny c main_v2_6
        ∗ semVal ((c : Thread nD τ), SemLoc.dma (⟨15, by decide⟩ : DmaSem sig)) 0
        ∗ ptAny c main_v2_7
        ∗ semVal ((c : Thread nD τ), SemLoc.dma (⟨16, by decide⟩ : DmaSem sig)) 0
        ∗ ptAny c main_v2_8
        ∗ semVal ((c : Thread nD τ), SemLoc.dma (⟨17, by decide⟩ : DmaSem sig)) 0
        ∗ Fly c ⟨8, by decide⟩ (NO 7 t0_2) iprop(qBlk c t0_2 (qB m c t0_2) ∗ pt c cc0_stg7_0 (qB m c t0_2)))
      ⊢ iprop((iprop((∃ W, owes (c : Thread nD τ) 0 W)
        ∗ wBlk c t0_3 (wqB m c t0_3)
        ∗ pt c cc0_stg4_1 (wqB m c t0_3)
        ∗ semVal ((c : Thread nD τ), SemLoc.dma (⟨5, by decide⟩ : DmaSem sig)) 0
        ∗ pt c cc0_stg0_0 (xA m c)
        ∗ pt c cc0_stg10_0 (cA m c)
        ∗ pt c cc0_stg11_0 (cA m (pr c))
        ∗ pt c cc0_stg12_0 (ukA m c)
        ∗ pt c cc0_stg13_0 (ukA m (pr c))
        ∗ pt c cc0_stg14_0 (uvA m c)
        ∗ pt c cc0_stg15_0 (uvA m (pr c))
        ∗ semVal (sendCell c 0) 0
        ∗ semVal (recvCell c 0) 0
        ∗ semVal (sendCell c 1) 0
        ∗ semVal (recvCell c 1) 0
        ∗ semVal (sendCell c 2) 0
        ∗ semVal (recvCell c 2) 0
        ∗ semVal (barCell c) 0
        ∗ Fly c ⟨9, by decide⟩ (NO 7 t0_3) iprop(qBlk c t0_3 (qB m c t0_3) ∗ pt c cc0_stg7_1 (qB m c t0_3))
        ∗ pt c cc0_stg8_0 (qrA m c)
        ∗ pt c main_v2_1 (qrA m c)
        ∗ semVal ((c : Thread nD τ), SemLoc.dma (⟨10, by decide⟩ : DmaSem sig)) 0
        ∗ pt c cc0_stg9_0 (krA m c)
        ∗ pt c main_v2_2 (krA m c)
        ∗ semVal ((c : Thread nD τ), SemLoc.dma (⟨11, by decide⟩ : DmaSem sig)) 0
        ∗ pt c main_v2_3 (cA m c)
        ∗ semVal ((c : Thread nD τ), SemLoc.dma (⟨12, by decide⟩ : DmaSem sig)) 0
        ∗ pt c main_v2_4 (cA m (pr c))
        ∗ semVal ((c : Thread nD τ), SemLoc.dma (⟨13, by decide⟩ : DmaSem sig)) 0
        ∗ pt c main_v2_5 (ukA m c)
        ∗ semVal ((c : Thread nD τ), SemLoc.dma (⟨14, by decide⟩ : DmaSem sig)) 0
        ∗ pt c main_v2_6 (ukA m (pr c))
        ∗ semVal ((c : Thread nD τ), SemLoc.dma (⟨15, by decide⟩ : DmaSem sig)) 0
        ∗ pt c main_v2_7 (uvA m c)
        ∗ semVal ((c : Thread nD τ), SemLoc.dma (⟨16, by decide⟩ : DmaSem sig)) 0
        ∗ pt c main_v2_8 (uvA m (pr c))
        ∗ semVal ((c : Thread nD τ), SemLoc.dma (⟨17, by decide⟩ : DmaSem sig)) 0
        ∗ qBlk c t0_2 (qB m c t0_2)
        ∗ pt c cc0_stg7_0 (qB m c t0_2)
        ∗ semVal ((c : Thread nD τ), SemLoc.dma (⟨8, by decide⟩ : DmaSem sig)) 0)
          -∗ wp frame (wpE (DD (F := F)) 𝒱 (c : Thread nD τ) (some (Sum.inr n : 𝒱.V))) Set.univ (next a 5) Q)
        -∗ wp frame (wpE (DD (F := F)) 𝒱 (c : Thread nD τ) (some (Sum.inr n : 𝒱.V))) Set.univ (cfg0.iter (nD := nD) (τ := τ) (Val := Elt F) (P := Fin 3) (A := fun p => (pcfgs (F := F) p).Adm) 0 a 4) Q) := by
  rw [trip4 a]
  iintro ⟨F4_3, O, U, S0, S7_1, B7_3, Z9, S8, A8, Z10, S9, A9, Z11, A10, Z12, A11, Z13, A12, Z14, A13, Z15, A14, Z16, A15, Z17, F7_2⟩ Hk
  iapply (inW4_3 c (some (Sum.inr n : 𝒱.V)) (wqB m c t0_3) 0) $$ [F4_3 O]
  · isplitl [F4_3]; · iexact F4_3
    isplitl [O]; · iexact O
    rw [MayWait_zero]; iempintro
  iintro ⟨⟨S4_1, B4_3⟩, Z5, O⟩
  iapply (call_body c n t0_3 _ _ (fun Kt => body_t0_3 m K c (xA m c) (wqB m c t0_3) Kt)) $$ [U S0 S4_1 S7_1 O]
  · isplitl [U]; · iexact U
    isplitl [S0]; · iexact S0
    isplitl [S4_1]; · iexact S4_1
    isplitl [S7_1]; · iexists _; iexact S7_1
    iexact O
  iintro ⟨⟨S0, S4_1, S7_1⟩, ⟨S10, S11, S12, S13, S14, S15⟩, ⟨Y0, Y1, Y2⟩, ⟨R0, R1, R2⟩, V, O⟩
  iapply (outS7_3 c (some (Sum.inr n : 𝒱.V)) (qB m c t0_3)) $$ [S7_1 B7_3 Z9]
  · isplitl [S7_1]; · iexact S7_1
    isplitl [B7_3]; · iexact B7_3
    iexact Z9
  iintro F7_3
  iapply (outS8_3 c (some (Sum.inr n : 𝒱.V)) (qrA m c)) $$ [S8 A8 Z10]
  · isplitl [S8]; · iexact S8
    isplitl [A8]; · iexact A8
    iexact Z10
  iintro F8_3
  iapply (outS9_3 c (some (Sum.inr n : 𝒱.V)) (krA m c)) $$ [S9 A9 Z11]
  · isplitl [S9]; · iexact S9
    isplitl [A9]; · iexact A9
    iexact Z11
  iintro F9_3
  iapply (outS10_3 c (some (Sum.inr n : 𝒱.V)) (cA m c)) $$ [S10 A10 Z12]
  · isplitl [S10]; · iexact S10
    isplitl [A10]; · iexact A10
    iexact Z12
  iintro F10_3
  iapply (outS11_3 c (some (Sum.inr n : 𝒱.V)) (cA m (pr c))) $$ [S11 A11 Z13]
  · isplitl [S11]; · iexact S11
    isplitl [A11]; · iexact A11
    iexact Z13
  iintro F11_3
  iapply (outS12_3 c (some (Sum.inr n : 𝒱.V)) (ukA m c)) $$ [S12 A12 Z14]
  · isplitl [S12]; · iexact S12
    isplitl [A12]; · iexact A12
    iexact Z14
  iintro F12_3
  iapply (outS13_3 c (some (Sum.inr n : 𝒱.V)) (ukA m (pr c))) $$ [S13 A13 Z15]
  · isplitl [S13]; · iexact S13
    isplitl [A13]; · iexact A13
    iexact Z15
  iintro F13_3
  iapply (outS14_3 c (some (Sum.inr n : 𝒱.V)) (uvA m c)) $$ [S14 A14 Z16]
  · isplitl [S14]; · iexact S14
    isplitl [A14]; · iexact A14
    iexact Z16
  iintro F14_3
  iapply (outS15_3 c (some (Sum.inr n : 𝒱.V)) (uvA m (pr c))) $$ [S15 A15 Z17]
  · isplitl [S15]; · iexact S15
    isplitl [A15]; · iexact A15
    iexact Z17
  iintro F15_3
  iapply (outW8_3 c (some (Sum.inr n : 𝒱.V)) (qrA m c)) $$ [F8_3 O]
  · isplitl [F8_3]; · iexact F8_3
    isplitl [O]; · iexact O
    rw [MayWait_zero]; iempintro
  iintro ⟨⟨A8, S8⟩, Z10, O⟩
  iapply (outW9_3 c (some (Sum.inr n : 𝒱.V)) (krA m c)) $$ [F9_3 O]
  · isplitl [F9_3]; · iexact F9_3
    isplitl [O]; · iexact O
    rw [MayWait_zero]; iempintro
  iintro ⟨⟨A9, S9⟩, Z11, O⟩
  iapply (outW10_3 c (some (Sum.inr n : 𝒱.V)) (cA m c)) $$ [F10_3 O]
  · isplitl [F10_3]; · iexact F10_3
    isplitl [O]; · iexact O
    rw [MayWait_zero]; iempintro
  iintro ⟨⟨A10, S10⟩, Z12, O⟩
  iapply (outW11_3 c (some (Sum.inr n : 𝒱.V)) (cA m (pr c))) $$ [F11_3 O]
  · isplitl [F11_3]; · iexact F11_3
    isplitl [O]; · iexact O
    rw [MayWait_zero]; iempintro
  iintro ⟨⟨A11, S11⟩, Z13, O⟩
  iapply (outW12_3 c (some (Sum.inr n : 𝒱.V)) (ukA m c)) $$ [F12_3 O]
  · isplitl [F12_3]; · iexact F12_3
    isplitl [O]; · iexact O
    rw [MayWait_zero]; iempintro
  iintro ⟨⟨A12, S12⟩, Z14, O⟩
  iapply (outW13_3 c (some (Sum.inr n : 𝒱.V)) (ukA m (pr c))) $$ [F13_3 O]
  · isplitl [F13_3]; · iexact F13_3
    isplitl [O]; · iexact O
    rw [MayWait_zero]; iempintro
  iintro ⟨⟨A13, S13⟩, Z15, O⟩
  iapply (outW14_3 c (some (Sum.inr n : 𝒱.V)) (uvA m c)) $$ [F14_3 O]
  · isplitl [F14_3]; · iexact F14_3
    isplitl [O]; · iexact O
    rw [MayWait_zero]; iempintro
  iintro ⟨⟨A14, S14⟩, Z16, O⟩
  iapply (outW15_3 c (some (Sum.inr n : 𝒱.V)) (uvA m (pr c))) $$ [F15_3 O]
  · isplitl [F15_3]; · iexact F15_3
    isplitl [O]; · iexact O
    rw [MayWait_zero]; iempintro
  iintro ⟨⟨A15, S15⟩, Z17, O⟩
  iapply (outW7_2 c (some (Sum.inr n : 𝒱.V)) (qB m c t0_2)) $$ [F7_2 O]
  · isplitl [F7_2]; · iexact F7_2
    isplitl [O]; · iexact O
    rw [MayWait_zero]; iempintro
  iintro ⟨⟨B7_2, S7_0⟩, Z8, O⟩
  iapply Hk
  isplitl [O]; · iexact O
  isplitl [B4_3]; · iexact B4_3
  isplitl [S4_1]; · iexact S4_1
  isplitl [Z5]; · iexact Z5
  isplitl [S0]; · iexact S0
  isplitl [S10]; · iexact S10
  isplitl [S11]; · iexact S11
  isplitl [S12]; · iexact S12
  isplitl [S13]; · iexact S13
  isplitl [S14]; · iexact S14
  isplitl [S15]; · iexact S15
  isplitl [Y0]; · iexact Y0
  isplitl [R0]; · iexact R0
  isplitl [Y1]; · iexact Y1
  isplitl [R1]; · iexact R1
  isplitl [Y2]; · iexact Y2
  isplitl [R2]; · iexact R2
  isplitl [V]; · iexact V
  isplitl [F7_3]; · iexact F7_3
  isplitl [S8]; · iexact S8
  isplitl [A8]; · iexact A8
  isplitl [Z10]; · iexact Z10
  isplitl [S9]; · iexact S9
  isplitl [A9]; · iexact A9
  isplitl [Z11]; · iexact Z11
  isplitl [A10]; · iexact A10
  isplitl [Z12]; · iexact Z12
  isplitl [A11]; · iexact A11
  isplitl [Z13]; · iexact Z13
  isplitl [A12]; · iexact A12
  isplitl [Z14]; · iexact Z14
  isplitl [A13]; · iexact A13
  isplitl [Z15]; · iexact Z15
  isplitl [A14]; · iexact A14
  isplitl [Z16]; · iexact Z16
  isplitl [A15]; · iexact A15
  isplitl [Z17]; · iexact Z17
  isplitl [B7_2]; · iexact B7_2
  isplitl [S7_0]; · iexact S7_0
  iexact Z8

set_option maxHeartbeats 1600000 in
/-- The last trip waits for what is still on its way. -/
theorem run_trip5 (K : GSem nD τ sig → ℕ) (c : Dev nD) (n : ℕ) (a : (pcfgs (F := F) 0).Adm) {Q : PUnit → sProp 𝕄} :
    iprop(Fly c ⟨9, by decide⟩ (NO 7 t0_3) iprop(qBlk c t0_3 (qB m c t0_3) ∗ pt c cc0_stg7_1 (qB m c t0_3))
        ∗ (∃ W, owes (c : Thread nD τ) 0 W))
      ⊢ iprop((iprop((∃ W, owes (c : Thread nD τ) 0 W)
        ∗ qBlk c t0_3 (qB m c t0_3)
        ∗ pt c cc0_stg7_1 (qB m c t0_3)
        ∗ semVal ((c : Thread nD τ), SemLoc.dma (⟨9, by decide⟩ : DmaSem sig)) 0)
          -∗ wp frame (wpE (DD (F := F)) 𝒱 (c : Thread nD τ) (some (Sum.inr n : 𝒱.V))) Set.univ (.ret ⟨⟩) Q)
        -∗ wp frame (wpE (DD (F := F)) 𝒱 (c : Thread nD τ) (some (Sum.inr n : 𝒱.V))) Set.univ (cfg0.iter (nD := nD) (τ := τ) (Val := Elt F) (P := Fin 3) (A := fun p => (pcfgs (F := F) p).Adm) 0 a 5) Q) := by
  rw [trip5 a]
  iintro ⟨F7_3, O⟩ Hk
  iapply (outW7_3 c (some (Sum.inr n : 𝒱.V)) (qB m c t0_3)) $$ [F7_3 O]
  · isplitl [F7_3]; · iexact F7_3
    isplitl [O]; · iexact O
    rw [MayWait_zero]; iempintro
  iintro ⟨⟨B7_3, S7_1⟩, Z9, O⟩
  iapply Hk
  isplitl [O]; · iexact O
  isplitl [B7_3]; · iexact B7_3
  isplitl [S7_1]; · iexact S7_1
  iexact Z9

/-- What device `c` holds as the loop starts. -/
def exPre (K : GSem nD τ sig → ℕ) (c : Dev nD) : sProp 𝕄 :=
  iprop(levAts L lv
        ∗ pt c main_v1 (xA m c)
        ∗ pt c main_arg1 (wdkvA m c)
        ∗ pt c main_arg2 (wukA m c)
        ∗ pt c main_arg3 (wuvA m c)
        ∗ pt c main_arg5 (wqrA m c)
        ∗ pt c main_arg6 (wkrA m c)
        ∗ wBlk c t0_0 (wqB m c t0_0)
        ∗ wBlk c t0_1 (wqB m c t0_1)
        ∗ wBlk c t0_2 (wqB m c t0_2)
        ∗ wBlk c t0_3 (wqB m c t0_3)
        ∗ (∃ Y, qBlk c t0_0 Y)
        ∗ (∃ Y, qBlk c t0_1 Y)
        ∗ (∃ Y, qBlk c t0_2 Y)
        ∗ (∃ Y, qBlk c t0_3 Y)
        ∗ ptAny c main_v2_1
        ∗ ptAny c main_v2_2
        ∗ ptAny c main_v2_3
        ∗ ptAny c main_v2_4
        ∗ ptAny c main_v2_5
        ∗ ptAny c main_v2_6
        ∗ ptAny c main_v2_7
        ∗ ptAny c main_v2_8
        ∗ ptAny c cc0_stg0_0
        ∗ semVal ((c : Thread nD τ), SemLoc.dma (⟨0, by decide⟩ : DmaSem sig)) 0
        ∗ ptAny c cc0_stg1_0
        ∗ semVal ((c : Thread nD τ), SemLoc.dma (⟨1, by decide⟩ : DmaSem sig)) 0
        ∗ ptAny c cc0_stg2_0
        ∗ semVal ((c : Thread nD τ), SemLoc.dma (⟨2, by decide⟩ : DmaSem sig)) 0
        ∗ ptAny c cc0_stg3_0
        ∗ semVal ((c : Thread nD τ), SemLoc.dma (⟨3, by decide⟩ : DmaSem sig)) 0
        ∗ ptAny c cc0_stg4_0
        ∗ semVal ((c : Thread nD τ), SemLoc.dma (⟨4, by decide⟩ : DmaSem sig)) 0
        ∗ ptAny c cc0_stg4_1
        ∗ semVal ((c : Thread nD τ), SemLoc.dma (⟨5, by decide⟩ : DmaSem sig)) 0
        ∗ ptAny c cc0_stg5_0
        ∗ semVal ((c : Thread nD τ), SemLoc.dma (⟨6, by decide⟩ : DmaSem sig)) 0
        ∗ ptAny c cc0_stg6_0
        ∗ semVal ((c : Thread nD τ), SemLoc.dma (⟨7, by decide⟩ : DmaSem sig)) 0
        ∗ ptAny c cc0_stg7_0
        ∗ semVal ((c : Thread nD τ), SemLoc.dma (⟨8, by decide⟩ : DmaSem sig)) 0
        ∗ ptAny c cc0_stg7_1
        ∗ semVal ((c : Thread nD τ), SemLoc.dma (⟨9, by decide⟩ : DmaSem sig)) 0
        ∗ ptAny c cc0_stg8_0
        ∗ semVal ((c : Thread nD τ), SemLoc.dma (⟨10, by decide⟩ : DmaSem sig)) 0
        ∗ ptAny c cc0_stg9_0
        ∗ semVal ((c : Thread nD τ), SemLoc.dma (⟨11, by decide⟩ : DmaSem sig)) 0
        ∗ ptAny c cc0_stg10_0
        ∗ semVal ((c : Thread nD τ), SemLoc.dma (⟨12, by decide⟩ : DmaSem sig)) 0
        ∗ ptAny c cc0_stg11_0
        ∗ semVal ((c : Thread nD τ), SemLoc.dma (⟨13, by decide⟩ : DmaSem sig)) 0
        ∗ ptAny c cc0_stg12_0
        ∗ semVal ((c : Thread nD τ), SemLoc.dma (⟨14, by decide⟩ : DmaSem sig)) 0
        ∗ ptAny c cc0_stg13_0
        ∗ semVal ((c : Thread nD τ), SemLoc.dma (⟨15, by decide⟩ : DmaSem sig)) 0
        ∗ ptAny c cc0_stg14_0
        ∗ semVal ((c : Thread nD τ), SemLoc.dma (⟨16, by decide⟩ : DmaSem sig)) 0
        ∗ ptAny c cc0_stg15_0
        ∗ semVal ((c : Thread nD τ), SemLoc.dma (⟨17, by decide⟩ : DmaSem sig)) 0
        ∗ opened m K c
        ∗ creds c
        ∗ (∃ W, owes (c : Thread nD τ) (O₀ c) W))
/-- What it holds when the loop is over. -/
def exPost (c : Dev nD) : sProp 𝕄 :=
  iprop((∃ W, owes (c : Thread nD τ) 0 W)
        ∗ pt c main_v1 (xA m c)
        ∗ pt c cc0_stg0_0 (xA m c)
        ∗ semVal ((c : Thread nD τ), SemLoc.dma (⟨0, by decide⟩ : DmaSem sig)) 0
        ∗ pt c main_arg1 (wdkvA m c)
        ∗ pt c cc0_stg1_0 (wdkvA m c)
        ∗ semVal ((c : Thread nD τ), SemLoc.dma (⟨1, by decide⟩ : DmaSem sig)) 0
        ∗ pt c main_arg2 (wukA m c)
        ∗ pt c cc0_stg2_0 (wukA m c)
        ∗ semVal ((c : Thread nD τ), SemLoc.dma (⟨2, by decide⟩ : DmaSem sig)) 0
        ∗ pt c main_arg3 (wuvA m c)
        ∗ pt c cc0_stg3_0 (wuvA m c)
        ∗ semVal ((c : Thread nD τ), SemLoc.dma (⟨3, by decide⟩ : DmaSem sig)) 0
        ∗ wBlk c t0_0 (wqB m c t0_0)
        ∗ pt c main_arg5 (wqrA m c)
        ∗ pt c cc0_stg5_0 (wqrA m c)
        ∗ semVal ((c : Thread nD τ), SemLoc.dma (⟨6, by decide⟩ : DmaSem sig)) 0
        ∗ pt c main_arg6 (wkrA m c)
        ∗ pt c cc0_stg6_0 (wkrA m c)
        ∗ semVal ((c : Thread nD τ), SemLoc.dma (⟨7, by decide⟩ : DmaSem sig)) 0
        ∗ wBlk c t0_1 (wqB m c t0_1)
        ∗ qBlk c t0_0 (qB m c t0_0)
        ∗ wBlk c t0_2 (wqB m c t0_2)
        ∗ pt c cc0_stg4_0 (wqB m c t0_2)
        ∗ semVal ((c : Thread nD τ), SemLoc.dma (⟨4, by decide⟩ : DmaSem sig)) 0
        ∗ qBlk c t0_1 (qB m c t0_1)
        ∗ wBlk c t0_3 (wqB m c t0_3)
        ∗ pt c cc0_stg4_1 (wqB m c t0_3)
        ∗ semVal ((c : Thread nD τ), SemLoc.dma (⟨5, by decide⟩ : DmaSem sig)) 0
        ∗ semVal (sendCell c 0) 0
        ∗ semVal (recvCell c 0) 0
        ∗ semVal (sendCell c 1) 0
        ∗ semVal (recvCell c 1) 0
        ∗ semVal (sendCell c 2) 0
        ∗ semVal (recvCell c 2) 0
        ∗ semVal (barCell c) 0
        ∗ pt c main_v2_1 (qrA m c)
        ∗ pt c cc0_stg8_0 (qrA m c)
        ∗ semVal ((c : Thread nD τ), SemLoc.dma (⟨10, by decide⟩ : DmaSem sig)) 0
        ∗ pt c main_v2_2 (krA m c)
        ∗ pt c cc0_stg9_0 (krA m c)
        ∗ semVal ((c : Thread nD τ), SemLoc.dma (⟨11, by decide⟩ : DmaSem sig)) 0
        ∗ pt c main_v2_3 (cA m c)
        ∗ pt c cc0_stg10_0 (cA m c)
        ∗ semVal ((c : Thread nD τ), SemLoc.dma (⟨12, by decide⟩ : DmaSem sig)) 0
        ∗ pt c main_v2_4 (cA m (pr c))
        ∗ pt c cc0_stg11_0 (cA m (pr c))
        ∗ semVal ((c : Thread nD τ), SemLoc.dma (⟨13, by decide⟩ : DmaSem sig)) 0
        ∗ pt c main_v2_5 (ukA m c)
        ∗ pt c cc0_stg12_0 (ukA m c)
        ∗ semVal ((c : Thread nD τ), SemLoc.dma (⟨14, by decide⟩ : DmaSem sig)) 0
        ∗ pt c main_v2_6 (ukA m (pr c))
        ∗ pt c cc0_stg13_0 (ukA m (pr c))
        ∗ semVal ((c : Thread nD τ), SemLoc.dma (⟨15, by decide⟩ : DmaSem sig)) 0
        ∗ pt c main_v2_7 (uvA m c)
        ∗ pt c cc0_stg14_0 (uvA m c)
        ∗ semVal ((c : Thread nD τ), SemLoc.dma (⟨16, by decide⟩ : DmaSem sig)) 0
        ∗ pt c main_v2_8 (uvA m (pr c))
        ∗ pt c cc0_stg15_0 (uvA m (pr c))
        ∗ semVal ((c : Thread nD τ), SemLoc.dma (⟨17, by decide⟩ : DmaSem sig)) 0
        ∗ qBlk c t0_2 (qB m c t0_2)
        ∗ pt c cc0_stg7_0 (qB m c t0_2)
        ∗ semVal ((c : Thread nD τ), SemLoc.dma (⟨8, by decide⟩ : DmaSem sig)) 0
        ∗ qBlk c t0_3 (qB m c t0_3)
        ∗ pt c cc0_stg7_1 (qB m c t0_3)
        ∗ semVal ((c : Thread nD τ), SemLoc.dma (⟨9, by decide⟩ : DmaSem sig)) 0)

/-- One call of the loop, its bound going down. -/
theorem call_trip (c : Dev nD) (n l : ℕ) (a : (pcfgs (F := F) 0).Adm) {Q : PUnit → sProp 𝕄} :
    wp frame (wpE (DD (F := F)) 𝒱 (c : Thread nD τ) (some (Sum.inr n : 𝒱.V))) Set.univ
        (cfg0.iter (nD := nD) (τ := τ) (Val := Elt F) (P := Fin 3) (A := fun p => (pcfgs (F := F) p).Adm) 0 a l) Q
      ⊢ wp frame (wpE (DD (F := F)) 𝒱 (c : Thread nD τ) (some (Sum.inr (n + 1) : 𝒱.V))) Set.univ (next a l) Q := by
  iintro H
  iapply (wp_call 𝒱 (c : Thread nD τ) (some (Sum.inr (n + 1) : 𝒱.V)) Set.univ (Q := Q) (ℓ := Pipeline.pipe 0)
    (a := (a, l)) (k := fun _ => .ret ⟨⟩) (Sum.inr n) (fun u hu => by cases hu; exact Sum.Lex.inr (Nat.lt_succ_self _)))
  iapply (wp_wand_r frame _ Set.univ)
  isplitl [H]; · iexact H
  iintro %x Hx
  rw [wp_ret]
  imodintro
  iexact Hx

set_option maxHeartbeats 1600000 in
/-- The six trips. -/
theorem run_loop (K : GSem nD τ sig → ℕ) (c : Dev nD) (a : (pcfgs (F := F) 0).Adm) {Q : PUnit → sProp 𝕄} :
    exPre m K c ⊢ iprop((exPost m c -∗ Q ⟨⟩)
      -∗ wp frame (wpE (DD (F := F)) 𝒱 (c : Thread nD τ) (some (Sum.inr 6 : 𝒱.V))) Set.univ (next a 0) Q) := by
  unfold exPre
  iintro ⟨#L, A0, A1, A2, A3, A5, A6, B4_0, B4_1, B4_2, B4_3, B7_0, B7_1, B7_2, B7_3, A8, A9, A10, A11, A12, A13, A14, A15, S0, Z0, S1, Z1, S2, Z2, S3, Z3, S4_0, Z4, S4_1, Z5, S5, Z6, S6, Z7, S7_0, Z8, S7_1, Z9, S8, Z10, S9, Z11, S10, Z12, S11, Z13, S12, Z14, S13, Z15, S14, Z16, S15, Z17, P, C, O⟩ Hk
  iapply (call_trip c 5 0 a)
  iapply (run_trip0 m K c 5 a) $$ [B4_0 S4_0 Z4]
  · isplitl [B4_0]; · iexact B4_0
    isplitl [S4_0]; · iexact S4_0
    iexact Z4
  iintro ⟨F4_0⟩
  iapply (call_trip c 4 1 a)
  iapply (run_trip1 m K c 4 a) $$ [A0 S0 Z0 A1 S1 Z1 A2 S2 Z2 A3 S3 Z3 A5 S5 Z6 A6 S6 Z7 B4_1 S4_1 Z5 O F4_0 P C S7_0 S8 S9 S10 S11 S12 S13 S14 S15 B7_0 Z8]
  · isplitr; · iexact L
    isplitl [A0]; · iexact A0
    isplitl [S0]; · iexact S0
    isplitl [Z0]; · iexact Z0
    isplitl [A1]; · iexact A1
    isplitl [S1]; · iexact S1
    isplitl [Z1]; · iexact Z1
    isplitl [A2]; · iexact A2
    isplitl [S2]; · iexact S2
    isplitl [Z2]; · iexact Z2
    isplitl [A3]; · iexact A3
    isplitl [S3]; · iexact S3
    isplitl [Z3]; · iexact Z3
    isplitl [A5]; · iexact A5
    isplitl [S5]; · iexact S5
    isplitl [Z6]; · iexact Z6
    isplitl [A6]; · iexact A6
    isplitl [S6]; · iexact S6
    isplitl [Z7]; · iexact Z7
    isplitl [B4_1]; · iexact B4_1
    isplitl [S4_1]; · iexact S4_1
    isplitl [Z5]; · iexact Z5
    isplitl [O]; · iexact O
    isplitl [F4_0]; · iexact F4_0
    isplitl [P]; · iexact P
    isplitl [C]; · iexact C
    isplitl [S7_0]; · iexact S7_0
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    isplitl [B7_0]; · iexact B7_0
    iexact Z8
  iintro ⟨A0, S0, Z0, A1, S1, Z1, A2, S2, Z2, A3, S3, Z3, A5, S5, Z6, A6, S6, Z7, F4_1, O, B4_0, S4_0, Z4, S8, S9, U, F7_0⟩
  iapply (call_trip c 3 2 a)
  iapply (run_trip2 m K c 3 a) $$ [B4_2 S4_0 Z4 F4_1 O S0 S7_1 B7_1 Z9 F7_0]
  · isplitl [B4_2]; · iexact B4_2
    isplitl [S4_0]; · iexact S4_0
    isplitl [Z4]; · iexact Z4
    isplitl [F4_1]; · iexact F4_1
    isplitl [O]; · iexact O
    isplitl [S0]; · iexact S0
    isplitl [S7_1]; · iexact S7_1
    isplitl [B7_1]; · iexact B7_1
    isplitl [Z9]; · iexact Z9
    iexact F7_0
  iintro ⟨F4_2, O, B4_1, S4_1, Z5, S0, F7_1, B7_0, S7_0, Z8⟩
  iapply (call_trip c 2 3 a)
  iapply (run_trip3 m K c 2 a) $$ [B4_3 S4_1 Z5 F4_2 O S0 S7_0 B7_2 Z8 F7_1]
  · isplitl [B4_3]; · iexact B4_3
    isplitl [S4_1]; · iexact S4_1
    isplitl [Z5]; · iexact Z5
    isplitl [F4_2]; · iexact F4_2
    isplitl [O]; · iexact O
    isplitl [S0]; · iexact S0
    isplitl [S7_0]; · iexact S7_0
    isplitl [B7_2]; · iexact B7_2
    isplitl [Z8]; · iexact Z8
    iexact F7_1
  iintro ⟨F4_3, O, B4_2, S4_0, Z4, S0, F7_2, B7_1, S7_1, Z9⟩
  iapply (call_trip c 1 4 a)
  iapply (run_trip4 m K c 1 a) $$ [F4_3 O U S0 S7_1 B7_3 Z9 S8 A8 Z10 S9 A9 Z11 A10 Z12 A11 Z13 A12 Z14 A13 Z15 A14 Z16 A15 Z17 F7_2]
  · isplitl [F4_3]; · iexact F4_3
    isplitl [O]; · iexact O
    isplitl [U]; · iexact U
    isplitl [S0]; · iexact S0
    isplitl [S7_1]; · iexact S7_1
    isplitl [B7_3]; · iexact B7_3
    isplitl [Z9]; · iexact Z9
    isplitl [S8]; · iexact S8
    isplitl [A8]; · iexact A8
    isplitl [Z10]; · iexact Z10
    isplitl [S9]; · iexact S9
    isplitl [A9]; · iexact A9
    isplitl [Z11]; · iexact Z11
    isplitl [A10]; · iexact A10
    isplitl [Z12]; · iexact Z12
    isplitl [A11]; · iexact A11
    isplitl [Z13]; · iexact Z13
    isplitl [A12]; · iexact A12
    isplitl [Z14]; · iexact Z14
    isplitl [A13]; · iexact A13
    isplitl [Z15]; · iexact Z15
    isplitl [A14]; · iexact A14
    isplitl [Z16]; · iexact Z16
    isplitl [A15]; · iexact A15
    isplitl [Z17]; · iexact Z17
    iexact F7_2
  iintro ⟨O, B4_3, S4_1, Z5, S0, S10, S11, S12, S13, S14, S15, Y0, R0, Y1, R1, Y2, R2, V, F7_3, S8, A8, Z10, S9, A9, Z11, A10, Z12, A11, Z13, A12, Z14, A13, Z15, A14, Z16, A15, Z17, B7_2, S7_0, Z8⟩
  iapply (call_trip c 0 5 a)
  iapply (run_trip5 m K c 0 a) $$ [F7_3 O]
  · isplitl [F7_3]; · iexact F7_3
    iexact O
  iintro ⟨O, B7_3, S7_1, Z9⟩
  rw [wp_ret]
  imodintro
  iapply Hk
  unfold exPost
  isplitl [O]; · iexact O
  isplitl [A0]; · iexact A0
  isplitl [S0]; · iexact S0
  isplitl [Z0]; · iexact Z0
  isplitl [A1]; · iexact A1
  isplitl [S1]; · iexact S1
  isplitl [Z1]; · iexact Z1
  isplitl [A2]; · iexact A2
  isplitl [S2]; · iexact S2
  isplitl [Z2]; · iexact Z2
  isplitl [A3]; · iexact A3
  isplitl [S3]; · iexact S3
  isplitl [Z3]; · iexact Z3
  isplitl [B4_0]; · iexact B4_0
  isplitl [A5]; · iexact A5
  isplitl [S5]; · iexact S5
  isplitl [Z6]; · iexact Z6
  isplitl [A6]; · iexact A6
  isplitl [S6]; · iexact S6
  isplitl [Z7]; · iexact Z7
  isplitl [B4_1]; · iexact B4_1
  isplitl [B7_0]; · iexact B7_0
  isplitl [B4_2]; · iexact B4_2
  isplitl [S4_0]; · iexact S4_0
  isplitl [Z4]; · iexact Z4
  isplitl [B7_1]; · iexact B7_1
  isplitl [B4_3]; · iexact B4_3
  isplitl [S4_1]; · iexact S4_1
  isplitl [Z5]; · iexact Z5
  isplitl [Y0]; · iexact Y0
  isplitl [R0]; · iexact R0
  isplitl [Y1]; · iexact Y1
  isplitl [R1]; · iexact R1
  isplitl [Y2]; · iexact Y2
  isplitl [R2]; · iexact R2
  isplitl [V]; · iexact V
  isplitl [A8]; · iexact A8
  isplitl [S8]; · iexact S8
  isplitl [Z10]; · iexact Z10
  isplitl [A9]; · iexact A9
  isplitl [S9]; · iexact S9
  isplitl [Z11]; · iexact Z11
  isplitl [A10]; · iexact A10
  isplitl [S10]; · iexact S10
  isplitl [Z12]; · iexact Z12
  isplitl [A11]; · iexact A11
  isplitl [S11]; · iexact S11
  isplitl [Z13]; · iexact Z13
  isplitl [A12]; · iexact A12
  isplitl [S12]; · iexact S12
  isplitl [Z14]; · iexact Z14
  isplitl [A13]; · iexact A13
  isplitl [S13]; · iexact S13
  isplitl [Z15]; · iexact Z15
  isplitl [A14]; · iexact A14
  isplitl [S14]; · iexact S14
  isplitl [Z16]; · iexact Z16
  isplitl [A15]; · iexact A15
  isplitl [S15]; · iexact S15
  isplitl [Z17]; · iexact Z17
  isplitl [B7_2]; · iexact B7_2
  isplitl [S7_0]; · iexact S7_0
  isplitl [Z8]; · iexact Z8
  isplitl [B7_3]; · iexact B7_3
  isplitl [S7_1]; · iexact S7_1
  iexact Z9

end Cert.KernelIdeal.Run
-- ==== Proof.K.Blocks.lean ====
module

public import proofs.«01_k».proof.Proof.K.Loop

/-!
The two arrays the exchange call moves block by block: the query weights and the queries, each four blocks of 512
columns. An array whole is its four blocks, and the queries' array is put together from the blocks the four grid points
write.
-/

@[expose] public section

set_option maxRecDepth 4096

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]
variable (m : (ℓ : Loc nD τ sig) → Buf (Elt F) ℓ)

local notation "𝕄" => MT nD τ sig Unit (Elt F) ℕ UU ℕ

/-- The grid's points listed, -/
theorem points_univ : (Finset.univ : Finset (Fin grid0.N)) = [t0_0, t0_1, t0_2, t0_3].toFinset := by decide
/-- each once. -/
theorem points_nodup : [t0_0, t0_1, t0_2, t0_3].Nodup := by decide

/-- Where the block of the query weights at a point starts, -/
theorem rect4_off0 (t : Fin grid0.N) : (win0_4.rect t).off (0 : Fin 2) = 0 := by revert t; decide
theorem rect4_off1 (t : Fin grid0.N) : (win0_4.rect t).off (1 : Fin 2) = t.val * 512 := by revert t; decide
/-- and where the block of the queries does. -/
theorem rect7_off0 (t : Fin grid0.N) : (win0_7.rect t).off (0 : Fin 2) = 0 := by revert t; decide
theorem rect7_off1 (t : Fin grid0.N) : (win0_7.rect t).off (1 : Fin 2) = t.val * 512 := by revert t; decide

/-- Blocks at different points have no element in common. -/
theorem rect4_disj (t t' : Fin grid0.N) (h : t ≠ t') : Disjoint (win0_4.rect t).set (win0_4.rect t').set :=
  win0_4.disjoint_rect ((by decide : ∀ t t' : Fin grid0.N, t ≠ t' → win0_4.index t ≠ win0_4.index t') t t' h)
theorem rect7_disj (t t' : Fin grid0.N) (h : t ≠ t') : Disjoint (win0_7.rect t).set (win0_7.rect t').set :=
  win0_7.disjoint_rect ((by decide : ∀ t t' : Fin grid0.N, t ≠ t' → win0_7.index t ≠ win0_7.index t') t t' h)

/-- The grid point whose block holds column `n`. -/
def colPt (n : ℕ) (h : n < 2048) : Fin grid0.N := ⟨n / 512, by show n / 512 < 4; omega⟩

/-- Every element is in the block of its column's point. -/
theorem rect4_mem (t : Fin grid0.N) (i : win0_4.shape.Idx) (h : t.val * 512 ≤ (i (1 : Fin 2)).val) (h' : (i (1 : Fin 2)).val < t.val * 512 + 512) :
    i ∈ (win0_4.rect t).set := by
  refine Rect.mem_set_unit.mpr fun a => ?_
  match a with
  | ⟨0, _⟩ => exact ⟨(rect4_off0 t).le.trans (Nat.zero_le _), lt_of_lt_of_eq (i (0 : Fin 2)).isLt ((congrArg (· + _) (rect4_off0 t)).trans (Nat.zero_add _)).symm⟩
  | ⟨1, _⟩ => exact ⟨(rect4_off1 t).le.trans h, lt_of_lt_of_eq h' (congrArg (· + 512) (rect4_off1 t)).symm⟩

/-- So the blocks cover the array. -/
theorem rect4_cov : (Finset.univ : Finset (Fin grid0.N)).biUnion (fun t => (win0_4.rect t).set) = Finset.univ := by
  refine Finset.eq_univ_iff_forall.mpr fun i => Finset.mem_biUnion.mpr ?_
  have h : (i (1 : Fin 2)).val < 2048 := (i (1 : Fin 2)).isLt
  exact ⟨colPt _ h, Finset.mem_univ _, rect4_mem _ i (by show _ / 512 * 512 ≤ _; omega) (by show _ < _ / 512 * 512 + 512; omega)⟩

theorem rect7_mem (t : Fin grid0.N) (i : win0_7.shape.Idx) (h : t.val * 512 ≤ (i (1 : Fin 2)).val) (h' : (i (1 : Fin 2)).val < t.val * 512 + 512) :
    i ∈ (win0_7.rect t).set := by
  refine Rect.mem_set_unit.mpr fun a => ?_
  match a with
  | ⟨0, _⟩ => exact ⟨(rect7_off0 t).le.trans (Nat.zero_le _), lt_of_lt_of_eq (i (0 : Fin 2)).isLt ((congrArg (· + _) (rect7_off0 t)).trans (Nat.zero_add _)).symm⟩
  | ⟨1, _⟩ => exact ⟨(rect7_off1 t).le.trans h, lt_of_lt_of_eq h' (congrArg (· + 512) (rect7_off1 t)).symm⟩

theorem rect7_cov : (Finset.univ : Finset (Fin grid0.N)).biUnion (fun t => (win0_7.rect t).set) = Finset.univ := by
  refine Finset.eq_univ_iff_forall.mpr fun i => Finset.mem_biUnion.mpr ?_
  have h : (i (1 : Fin 2)).val < 2048 := (i (1 : Fin 2)).isLt
  exact ⟨colPt _ h, Finset.mem_univ _, rect7_mem _ i (by show _ / 512 * 512 ≤ _; omega) (by show _ < _ / 512 * 512 + 512; omega)⟩

/-- The query weights whole are their four blocks. -/
theorem w_split (c : Dev nD) (X : main_arg4.ty.Contents (Elt F)) :
    (pt c main_arg4 X : sProp 𝕄) ⊢ iprop(wBlk c t0_0 (fun j => X ((win0_4.rect t0_0).emb j)) ∗ wBlk c t0_1 (fun j => X ((win0_4.rect t0_1).emb j))
      ∗ wBlk c t0_2 (fun j => X ((win0_4.rect t0_2).emb j)) ∗ wBlk c t0_3 (fun j => X ((win0_4.rect t0_3).emb j))) := by
  rw [show (pt c main_arg4 X : sProp 𝕄) = owns (c : Thread nD τ) (Memref.whole main_arg4) fullShare X from (owns_whole _ _ _ _).symm]
  refine (owns_rects (c : Thread nD τ) (Memref.whole main_arg4) fullShare (fun t => win0_4.rect t) (fun t a => rfl) rect4_disj rect4_cov X).trans ?_
  rw [bigSep_univ_eq_bigSepL _ points_univ points_nodup]
  exact .rfl

/-- The four blocks of the query weights make up the array. -/
theorem w_join (c : Dev nD) (X : main_arg4.ty.Contents (Elt F)) :
    iprop(wBlk c t0_0 (fun j => X ((win0_4.rect t0_0).emb j)) ∗ wBlk c t0_1 (fun j => X ((win0_4.rect t0_1).emb j))
      ∗ wBlk c t0_2 (fun j => X ((win0_4.rect t0_2).emb j)) ∗ wBlk c t0_3 (fun j => X ((win0_4.rect t0_3).emb j))) ⊢ (pt c main_arg4 X : sProp 𝕄) := by
  rw [show (pt c main_arg4 X : sProp 𝕄) = owns (c : Thread nD τ) (Memref.whole main_arg4) fullShare X from (owns_whole _ _ _ _).symm]
  refine BIBase.Entails.trans ?_ (owns_of_rects (c : Thread nD τ) (Memref.whole main_arg4) fullShare (fun t => win0_4.rect t) (fun t a => rfl) rect4_disj rect4_cov X)
  rw [bigSep_univ_eq_bigSepL _ points_univ points_nodup]
  exact .rfl

/-- The queries' array whole is its four blocks. -/
theorem q_split (c : Dev nD) (X : main_v2_0.ty.Contents (Elt F)) :
    (pt c main_v2_0 X : sProp 𝕄) ⊢ iprop(qBlk c t0_0 (fun j => X ((win0_7.rect t0_0).emb j)) ∗ qBlk c t0_1 (fun j => X ((win0_7.rect t0_1).emb j))
      ∗ qBlk c t0_2 (fun j => X ((win0_7.rect t0_2).emb j)) ∗ qBlk c t0_3 (fun j => X ((win0_7.rect t0_3).emb j))) := by
  rw [show (pt c main_v2_0 X : sProp 𝕄) = owns (c : Thread nD τ) (Memref.whole main_v2_0) fullShare X from (owns_whole _ _ _ _).symm]
  refine (owns_rects (c : Thread nD τ) (Memref.whole main_v2_0) fullShare (fun t => win0_7.rect t) (fun t a => rfl) rect7_disj rect7_cov X).trans ?_
  rw [bigSep_univ_eq_bigSepL _ points_univ points_nodup]
  exact .rfl

/-- The four blocks of the queries make up the array, -/
theorem q_join (c : Dev nD) (X : main_v2_0.ty.Contents (Elt F)) :
    iprop(qBlk c t0_0 (fun j => X ((win0_7.rect t0_0).emb j)) ∗ qBlk c t0_1 (fun j => X ((win0_7.rect t0_1).emb j))
      ∗ qBlk c t0_2 (fun j => X ((win0_7.rect t0_2).emb j)) ∗ qBlk c t0_3 (fun j => X ((win0_7.rect t0_3).emb j))) ⊢ (pt c main_v2_0 X : sProp 𝕄) := by
  rw [show (pt c main_v2_0 X : sProp 𝕄) = owns (c : Thread nD τ) (Memref.whole main_v2_0) fullShare X from (owns_whole _ _ _ _).symm]
  refine BIBase.Entails.trans ?_ (owns_of_rects (c : Thread nD τ) (Memref.whole main_v2_0) fullShare (fun t => win0_7.rect t) (fun t a => rfl) rect7_disj rect7_cov X)
  rw [bigSep_univ_eq_bigSepL _ points_univ points_nodup]
  exact .rfl

/-- The queries the four grid points leave: at column `n` the block of point `n / 512`, at its column `n % 512`. -/
def qArr (c : Dev nD) : main_v2_0.ty.Contents (Elt F) := fun i =>
  qB m c (colPt (i (1 : Fin 2)).val (i (1 : Fin 2)).isLt)
    (fun a => match a with
      | ⟨0, _⟩ => ⟨(i (0 : Fin 2)).val, (i (0 : Fin 2)).isLt⟩
      | ⟨1, _⟩ => ⟨(i (1 : Fin 2)).val % 512, Nat.mod_lt _ (by decide)⟩)

/-- with the contents that were computed block by block. -/
theorem qArr_blk (c : Dev nD) (t : Fin grid0.N) : (fun j => qArr m c ((win0_7.rect t).emb j)) = qB m c t := by
  funext j
  have h0 : ((win0_7.rect t).emb j (0 : Fin 2)).val = (j (0 : Fin 2)).val := by
    rw [Rect.emb_apply]; show (win0_7.rect t).off (0 : Fin 2) + 1 * _ = _; rw [rect7_off0]; omega
  have h1 : ((win0_7.rect t).emb j (1 : Fin 2)).val = t.val * 512 + (j (1 : Fin 2)).val := by
    rw [Rect.emb_apply]; show (win0_7.rect t).off (1 : Fin 2) + 1 * _ = _; rw [rect7_off1]; omega
  have hj : (j (1 : Fin 2)).val < 512 := (j (1 : Fin 2)).isLt
  have ht : colPt _ ((win0_7.rect t).emb j (1 : Fin 2)).isLt = t := Fin.ext (by show _ / 512 = _; rw [h1]; omega)
  unfold qArr
  rw [ht]
  congr 1
  funext a
  match a with
  | ⟨0, _⟩ => exact Fin.ext h0
  | ⟨1, _⟩ => exact Fin.ext (by show _ % 512 = (j (1 : Fin 2)).val; rw [h1]; omega)

end Cert.KernelIdeal.Run
-- ==== Proof.K.Exchange.lean ====
module

public import proofs.«01_k».proof.Proof.K.Blocks

/-!
The exchange call as a step of the whole program: from what a device holds between two items of the program, the call
runs to what it holds after it, the nine results at their contents.
-/

@[expose] public section

set_option maxRecDepth 4096

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]
variable (m : (ℓ : Loc nD τ sig) → Buf (Elt F) ℓ)

local notation "𝕄" => MT nD τ sig Unit (Elt F) ℕ UU ℕ

/-! ## Taking listed members out of a big separating conjunction -/

/-- A listed part of a finite conjunction comes out, and what is left stays. -/
theorem bigSep_take {I M : Type} [URA M] [DecidableEq I] (s : Finset I) (l : List I) (hl : l.Nodup) (h : ∀ i ∈ l, i ∈ s) (Φ : I → sProp M) :
    bigSep s Φ = iprop(bigSepL l Φ ∗ bigSep (s \ l.toFinset) Φ) := by
  rw [bigSep_sdiff_split (t := l.toFinset) (fun i hi => h i (List.mem_toFinset.mp hi)), bigSep_eq_bigSepL l hl]
  rfl

/-! ## What the call uses of what a device holds -/

/-- The staging buffers. -/
def stgs : List (DevRef τ sig) := [Proc.devRef .tc cc0_stg0_0, Proc.devRef .tc cc0_stg1_0, Proc.devRef .tc cc0_stg2_0, Proc.devRef .tc cc0_stg3_0, Proc.devRef .tc cc0_stg4_0, Proc.devRef .tc cc0_stg4_1, Proc.devRef .tc cc0_stg5_0, Proc.devRef .tc cc0_stg6_0, Proc.devRef .tc cc0_stg7_0, Proc.devRef .tc cc0_stg7_1, Proc.devRef .tc cc0_stg8_0, Proc.devRef .tc cc0_stg9_0, Proc.devRef .tc cc0_stg10_0, Proc.devRef .tc cc0_stg11_0, Proc.devRef .tc cc0_stg12_0, Proc.devRef .tc cc0_stg13_0, Proc.devRef .tc cc0_stg14_0, Proc.devRef .tc cc0_stg15_0]
/-- The semaphores of the staging copies, of the three sends and of the three receives. -/
def dmas : List (SemLoc sig) := [SemLoc.dma (⟨0, by decide⟩ : DmaSem sig), SemLoc.dma (⟨1, by decide⟩ : DmaSem sig), SemLoc.dma (⟨2, by decide⟩ : DmaSem sig), SemLoc.dma (⟨3, by decide⟩ : DmaSem sig), SemLoc.dma (⟨4, by decide⟩ : DmaSem sig), SemLoc.dma (⟨5, by decide⟩ : DmaSem sig), SemLoc.dma (⟨6, by decide⟩ : DmaSem sig), SemLoc.dma (⟨7, by decide⟩ : DmaSem sig), SemLoc.dma (⟨8, by decide⟩ : DmaSem sig), SemLoc.dma (⟨9, by decide⟩ : DmaSem sig), SemLoc.dma (⟨10, by decide⟩ : DmaSem sig), SemLoc.dma (⟨11, by decide⟩ : DmaSem sig), SemLoc.dma (⟨12, by decide⟩ : DmaSem sig), SemLoc.dma (⟨13, by decide⟩ : DmaSem sig), SemLoc.dma (⟨14, by decide⟩ : DmaSem sig), SemLoc.dma (⟨15, by decide⟩ : DmaSem sig), SemLoc.dma (⟨16, by decide⟩ : DmaSem sig), SemLoc.dma (⟨17, by decide⟩ : DmaSem sig), SemLoc.dma (sS 0), SemLoc.dma (sS 1), SemLoc.dma (sS 2), SemLoc.dma (rS 0), SemLoc.dma (rS 1), SemLoc.dma (rS 2)]
/-- The arrays. -/
def arrs : List (DevRef τ sig) := [Proc.devRef .tc main_v1, Proc.devRef .tc main_arg1, Proc.devRef .tc main_arg2, Proc.devRef .tc main_arg3, Proc.devRef .tc main_arg4, Proc.devRef .tc main_arg5, Proc.devRef .tc main_arg6, Proc.devRef .tc main_v2_0, Proc.devRef .tc main_v2_1, Proc.devRef .tc main_v2_2, Proc.devRef .tc main_v2_3, Proc.devRef .tc main_v2_4, Proc.devRef .tc main_v2_5, Proc.devRef .tc main_v2_6, Proc.devRef .tc main_v2_7, Proc.devRef .tc main_v2_8]

/-- The lists name nothing twice, and nothing that the call doesn't own. -/
theorem stgs_nodup : stgs.Nodup := by decide
theorem stgs_mem : ∀ b ∈ stgs, b ∈ scopedRefs sig (Proc.tc : Proc τ) := by
  intro b hb; rw [mem_scopedRefs]; revert b; decide
theorem dmas_nodup : dmas.Nodup := by decide
theorem dmas_scoped : ∀ s ∈ dmas, s.isScoped .tc = true := by decide
theorem arrs_nodup : arrs.Nodup := by decide
theorem arrs_mem : ∀ b ∈ arrs, b ∈ Pipeline.ucRefs τ sig := by
  intro b hb
  refine Finset.mem_filter.mpr ⟨?_, (by decide : ∀ b ∈ arrs, ¬ b.isScoped) b hb⟩
  unfold arrs at hb
  simp only [List.mem_cons, List.not_mem_nil, or_false] at hb
  rcases hb with rfl | rfl | rfl | rfl | rfl | rfl | rfl | rfl | rfl | rfl | rfl | rfl | rfl | rfl | rfl | rfl <;> exact StableHlo.devRef_mem_tcRefs _

def dcells (c : Dev nD) : List (GSem nD τ sig) := dmas.map fun s => ((c : Thread nD τ), s)
theorem dcells_nodup (c : Dev nD) : (dcells c).Nodup := dmas_nodup.map fun _ _ h => (Prod.mk.inj h).2
set_option maxRecDepth 100000 in
theorem scoped_cell (c : Dev nD) (s : SemLoc sig) (h : s.isScoped .tc = true) : ((c : Thread nD τ), s) ∈ scopedCells sig (c : Thread nD τ) :=
  self_mem_scopedCells (sig := sig) (c := (c : Thread nD τ)) (sm := s) h
set_option maxRecDepth 100000 in
theorem dcells_mem (c : Dev nD) : ∀ g ∈ dcells c, g ∈ scopedCells sig (c : Thread nD τ) :=
  List.forall_mem_map.mpr fun s hs => scoped_cell c s (dmas_scoped s hs)

/-- The scoped buffers and cells the call leaves alone. -/
def restBufs (c : Dev nD) : sProp 𝕄 := bigSep (scopedRefs sig (Proc.tc : Proc τ) \ stgs.toFinset) fun b => iprop(∃ f, (c, b) ↦{fullShare} f)
def restSems (c : Dev nD) : sProp 𝕄 := bigSep (scopedCells sig (c : Thread nD τ) \ (dcells c).toFinset) fun g => semVal g 0
def restArrs (c : Dev nD) (V : Valuation τ sig (Elt F)) : sProp 𝕄 := bigSep (Pipeline.ucRefs τ sig \ arrs.toFinset) fun b => (c, b) ↦{fullShare} V b
/-- What the call owns is what is listed and a rest: buffers, cells, arrays. -/
theorem bufs_eq (c : Dev nD) : (scopedBufs (c : Thread nD τ) : sProp 𝕄) = iprop((ptAny c cc0_stg0_0 ∗ ptAny c cc0_stg1_0 ∗ ptAny c cc0_stg2_0 ∗ ptAny c cc0_stg3_0 ∗ ptAny c cc0_stg4_0 ∗ ptAny c cc0_stg4_1 ∗ ptAny c cc0_stg5_0 ∗ ptAny c cc0_stg6_0 ∗ ptAny c cc0_stg7_0 ∗ ptAny c cc0_stg7_1 ∗ ptAny c cc0_stg8_0 ∗ ptAny c cc0_stg9_0 ∗ ptAny c cc0_stg10_0 ∗ ptAny c cc0_stg11_0 ∗ ptAny c cc0_stg12_0 ∗ ptAny c cc0_stg13_0 ∗ ptAny c cc0_stg14_0 ∗ ptAny c cc0_stg15_0) ∗ restBufs c) :=
  bigSep_take _ stgs stgs_nodup stgs_mem _
set_option maxRecDepth 100000 in
theorem sems_eq (c : Dev nD) : (scopedSems0 (c : Thread nD τ) : sProp 𝕄) = iprop((semVal ((c : Thread nD τ), SemLoc.dma (⟨0, by decide⟩ : DmaSem sig)) 0 ∗ semVal ((c : Thread nD τ), SemLoc.dma (⟨1, by decide⟩ : DmaSem sig)) 0 ∗ semVal ((c : Thread nD τ), SemLoc.dma (⟨2, by decide⟩ : DmaSem sig)) 0 ∗ semVal ((c : Thread nD τ), SemLoc.dma (⟨3, by decide⟩ : DmaSem sig)) 0 ∗ semVal ((c : Thread nD τ), SemLoc.dma (⟨4, by decide⟩ : DmaSem sig)) 0 ∗ semVal ((c : Thread nD τ), SemLoc.dma (⟨5, by decide⟩ : DmaSem sig)) 0 ∗ semVal ((c : Thread nD τ), SemLoc.dma (⟨6, by decide⟩ : DmaSem sig)) 0 ∗ semVal ((c : Thread nD τ), SemLoc.dma (⟨7, by decide⟩ : DmaSem sig)) 0 ∗ semVal ((c : Thread nD τ), SemLoc.dma (⟨8, by decide⟩ : DmaSem sig)) 0 ∗ semVal ((c : Thread nD τ), SemLoc.dma (⟨9, by decide⟩ : DmaSem sig)) 0 ∗ semVal ((c : Thread nD τ), SemLoc.dma (⟨10, by decide⟩ : DmaSem sig)) 0 ∗ semVal ((c : Thread nD τ), SemLoc.dma (⟨11, by decide⟩ : DmaSem sig)) 0 ∗ semVal ((c : Thread nD τ), SemLoc.dma (⟨12, by decide⟩ : DmaSem sig)) 0 ∗ semVal ((c : Thread nD τ), SemLoc.dma (⟨13, by decide⟩ : DmaSem sig)) 0 ∗ semVal ((c : Thread nD τ), SemLoc.dma (⟨14, by decide⟩ : DmaSem sig)) 0 ∗ semVal ((c : Thread nD τ), SemLoc.dma (⟨15, by decide⟩ : DmaSem sig)) 0 ∗ semVal ((c : Thread nD τ), SemLoc.dma (⟨16, by decide⟩ : DmaSem sig)) 0 ∗ semVal ((c : Thread nD τ), SemLoc.dma (⟨17, by decide⟩ : DmaSem sig)) 0 ∗ semVal (sendCell c 0) 0 ∗ semVal (sendCell c 1) 0 ∗ semVal (sendCell c 2) 0 ∗ semVal (recvCell c 0) 0 ∗ semVal (recvCell c 1) 0 ∗ semVal (recvCell c 2) 0) ∗ restSems c) :=
  (bigSep_take (scopedCells sig (c : Thread nD τ)) (dcells c) (dcells_nodup c) (dcells_mem c) (fun g => (semVal g 0 : sProp 𝕄))).trans (by unfold dcells dmas; simp only [List.map_cons, List.map_nil, bigSepL_cons_cons, bigSepL_singleton]; rfl)
theorem arrs_eq (c : Dev nD) (V : Valuation τ sig (Elt F)) : (StableHlo.held (c : Thread nD τ) (Pipeline.ucRefs τ sig) V : sProp 𝕄) = iprop((pt c main_v1 (V main_v1) ∗ pt c main_arg1 (V main_arg1) ∗ pt c main_arg2 (V main_arg2) ∗ pt c main_arg3 (V main_arg3) ∗ pt c main_arg4 (V main_arg4) ∗ pt c main_arg5 (V main_arg5) ∗ pt c main_arg6 (V main_arg6) ∗ pt c main_v2_0 (V main_v2_0) ∗ pt c main_v2_1 (V main_v2_1) ∗ pt c main_v2_2 (V main_v2_2) ∗ pt c main_v2_3 (V main_v2_3) ∗ pt c main_v2_4 (V main_v2_4) ∗ pt c main_v2_5 (V main_v2_5) ∗ pt c main_v2_6 (V main_v2_6) ∗ pt c main_v2_7 (V main_v2_7) ∗ pt c main_v2_8 (V main_v2_8)) ∗ restArrs c V) :=
  bigSep_take _ arrs arrs_nodup arrs_mem _

/-! ## The contents after the call -/

/-- `outs` names what the call leaves in its nine results. -/
structure Outs2 (outs : Outs (F := F)) : Prop where
  v0 : ∀ c, outs 2 main_v2_0 c = qArr m c
  v1 : ∀ c, outs 2 main_v2_1 c = qrA m c
  v2 : ∀ c, outs 2 main_v2_2 c = krA m c
  v3 : ∀ c, outs 2 main_v2_3 c = cA m c
  v4 : ∀ c, outs 2 main_v2_4 c = cA m (pr c)
  v5 : ∀ c, outs 2 main_v2_5 c = ukA m c
  v6 : ∀ c, outs 2 main_v2_6 c = ukA m (pr c)
  v7 : ∀ c, outs 2 main_v2_7 c = uvA m c
  v8 : ∀ c, outs 2 main_v2_8 c = uvA m (pr c)
variable (outs : Outs (F := F))
/-- What the nine results hold after the call, one by one. -/
theorem V2_v2_0 (h : Outs2 m outs) (c : Dev nD) : V2 m outs c main_v2_0 = qArr m c := by
  refine Eq.trans ?_ (h.v0 c)
  simp only [V2, Function.update_self, Function.update_of_ne (StableHlo.devRef_ne_of_ne (by decide) : (Proc.devRef .tc main_v2_0 : DevRef τ sig) ≠ Proc.devRef .tc main_v2_1), Function.update_of_ne (StableHlo.devRef_ne_of_ne (by decide) : (Proc.devRef .tc main_v2_0 : DevRef τ sig) ≠ Proc.devRef .tc main_v2_2), Function.update_of_ne (StableHlo.devRef_ne_of_ne (by decide) : (Proc.devRef .tc main_v2_0 : DevRef τ sig) ≠ Proc.devRef .tc main_v2_3), Function.update_of_ne (StableHlo.devRef_ne_of_ne (by decide) : (Proc.devRef .tc main_v2_0 : DevRef τ sig) ≠ Proc.devRef .tc main_v2_4), Function.update_of_ne (StableHlo.devRef_ne_of_ne (by decide) : (Proc.devRef .tc main_v2_0 : DevRef τ sig) ≠ Proc.devRef .tc main_v2_5), Function.update_of_ne (StableHlo.devRef_ne_of_ne (by decide) : (Proc.devRef .tc main_v2_0 : DevRef τ sig) ≠ Proc.devRef .tc main_v2_6), Function.update_of_ne (StableHlo.devRef_ne_of_ne (by decide) : (Proc.devRef .tc main_v2_0 : DevRef τ sig) ≠ Proc.devRef .tc main_v2_7), Function.update_of_ne (StableHlo.devRef_ne_of_ne (by decide) : (Proc.devRef .tc main_v2_0 : DevRef τ sig) ≠ Proc.devRef .tc main_v2_8)]
theorem V2_v2_1 (h : Outs2 m outs) (c : Dev nD) : V2 m outs c main_v2_1 = qrA m c := by
  refine Eq.trans ?_ (h.v1 c)
  simp only [V2, Function.update_self, Function.update_of_ne (StableHlo.devRef_ne_of_ne (by decide) : (Proc.devRef .tc main_v2_1 : DevRef τ sig) ≠ Proc.devRef .tc main_v2_2), Function.update_of_ne (StableHlo.devRef_ne_of_ne (by decide) : (Proc.devRef .tc main_v2_1 : DevRef τ sig) ≠ Proc.devRef .tc main_v2_3), Function.update_of_ne (StableHlo.devRef_ne_of_ne (by decide) : (Proc.devRef .tc main_v2_1 : DevRef τ sig) ≠ Proc.devRef .tc main_v2_4), Function.update_of_ne (StableHlo.devRef_ne_of_ne (by decide) : (Proc.devRef .tc main_v2_1 : DevRef τ sig) ≠ Proc.devRef .tc main_v2_5), Function.update_of_ne (StableHlo.devRef_ne_of_ne (by decide) : (Proc.devRef .tc main_v2_1 : DevRef τ sig) ≠ Proc.devRef .tc main_v2_6), Function.update_of_ne (StableHlo.devRef_ne_of_ne (by decide) : (Proc.devRef .tc main_v2_1 : DevRef τ sig) ≠ Proc.devRef .tc main_v2_7), Function.update_of_ne (StableHlo.devRef_ne_of_ne (by decide) : (Proc.devRef .tc main_v2_1 : DevRef τ sig) ≠ Proc.devRef .tc main_v2_8)]
theorem V2_v2_2 (h : Outs2 m outs) (c : Dev nD) : V2 m outs c main_v2_2 = krA m c := by
  refine Eq.trans ?_ (h.v2 c)
  simp only [V2, Function.update_self, Function.update_of_ne (StableHlo.devRef_ne_of_ne (by decide) : (Proc.devRef .tc main_v2_2 : DevRef τ sig) ≠ Proc.devRef .tc main_v2_3), Function.update_of_ne (StableHlo.devRef_ne_of_ne (by decide) : (Proc.devRef .tc main_v2_2 : DevRef τ sig) ≠ Proc.devRef .tc main_v2_4), Function.update_of_ne (StableHlo.devRef_ne_of_ne (by decide) : (Proc.devRef .tc main_v2_2 : DevRef τ sig) ≠ Proc.devRef .tc main_v2_5), Function.update_of_ne (StableHlo.devRef_ne_of_ne (by decide) : (Proc.devRef .tc main_v2_2 : DevRef τ sig) ≠ Proc.devRef .tc main_v2_6), Function.update_of_ne (StableHlo.devRef_ne_of_ne (by decide) : (Proc.devRef .tc main_v2_2 : DevRef τ sig) ≠ Proc.devRef .tc main_v2_7), Function.update_of_ne (StableHlo.devRef_ne_of_ne (by decide) : (Proc.devRef .tc main_v2_2 : DevRef τ sig) ≠ Proc.devRef .tc main_v2_8)]
theorem V2_v2_3 (h : Outs2 m outs) (c : Dev nD) : V2 m outs c main_v2_3 = cA m c := by
  refine Eq.trans ?_ (h.v3 c)
  simp only [V2, Function.update_self, Function.update_of_ne (StableHlo.devRef_ne_of_ne (by decide) : (Proc.devRef .tc main_v2_3 : DevRef τ sig) ≠ Proc.devRef .tc main_v2_4), Function.update_of_ne (StableHlo.devRef_ne_of_ne (by decide) : (Proc.devRef .tc main_v2_3 : DevRef τ sig) ≠ Proc.devRef .tc main_v2_5), Function.update_of_ne (StableHlo.devRef_ne_of_ne (by decide) : (Proc.devRef .tc main_v2_3 : DevRef τ sig) ≠ Proc.devRef .tc main_v2_6), Function.update_of_ne (StableHlo.devRef_ne_of_ne (by decide) : (Proc.devRef .tc main_v2_3 : DevRef τ sig) ≠ Proc.devRef .tc main_v2_7), Function.update_of_ne (StableHlo.devRef_ne_of_ne (by decide) : (Proc.devRef .tc main_v2_3 : DevRef τ sig) ≠ Proc.devRef .tc main_v2_8)]
theorem V2_v2_4 (h : Outs2 m outs) (c : Dev nD) : V2 m outs c main_v2_4 = cA m (pr c) := by
  refine Eq.trans ?_ (h.v4 c)
  simp only [V2, Function.update_self, Function.update_of_ne (StableHlo.devRef_ne_of_ne (by decide) : (Proc.devRef .tc main_v2_4 : DevRef τ sig) ≠ Proc.devRef .tc main_v2_5), Function.update_of_ne (StableHlo.devRef_ne_of_ne (by decide) : (Proc.devRef .tc main_v2_4 : DevRef τ sig) ≠ Proc.devRef .tc main_v2_6), Function.update_of_ne (StableHlo.devRef_ne_of_ne (by decide) : (Proc.devRef .tc main_v2_4 : DevRef τ sig) ≠ Proc.devRef .tc main_v2_7), Function.update_of_ne (StableHlo.devRef_ne_of_ne (by decide) : (Proc.devRef .tc main_v2_4 : DevRef τ sig) ≠ Proc.devRef .tc main_v2_8)]
theorem V2_v2_5 (h : Outs2 m outs) (c : Dev nD) : V2 m outs c main_v2_5 = ukA m c := by
  refine Eq.trans ?_ (h.v5 c)
  simp only [V2, Function.update_self, Function.update_of_ne (StableHlo.devRef_ne_of_ne (by decide) : (Proc.devRef .tc main_v2_5 : DevRef τ sig) ≠ Proc.devRef .tc main_v2_6), Function.update_of_ne (StableHlo.devRef_ne_of_ne (by decide) : (Proc.devRef .tc main_v2_5 : DevRef τ sig) ≠ Proc.devRef .tc main_v2_7), Function.update_of_ne (StableHlo.devRef_ne_of_ne (by decide) : (Proc.devRef .tc main_v2_5 : DevRef τ sig) ≠ Proc.devRef .tc main_v2_8)]
theorem V2_v2_6 (h : Outs2 m outs) (c : Dev nD) : V2 m outs c main_v2_6 = ukA m (pr c) := by
  refine Eq.trans ?_ (h.v6 c)
  simp only [V2, Function.update_self, Function.update_of_ne (StableHlo.devRef_ne_of_ne (by decide) : (Proc.devRef .tc main_v2_6 : DevRef τ sig) ≠ Proc.devRef .tc main_v2_7), Function.update_of_ne (StableHlo.devRef_ne_of_ne (by decide) : (Proc.devRef .tc main_v2_6 : DevRef τ sig) ≠ Proc.devRef .tc main_v2_8)]
theorem V2_v2_7 (h : Outs2 m outs) (c : Dev nD) : V2 m outs c main_v2_7 = uvA m c := by
  refine Eq.trans ?_ (h.v7 c)
  simp only [V2, Function.update_self, Function.update_of_ne (StableHlo.devRef_ne_of_ne (by decide) : (Proc.devRef .tc main_v2_7 : DevRef τ sig) ≠ Proc.devRef .tc main_v2_8)]
theorem V2_v2_8 (h : Outs2 m outs) (c : Dev nD) : V2 m outs c main_v2_8 = uvA m (pr c) := by
  refine Eq.trans ?_ (h.v8 c)
  simp only [V2, Function.update_self]

/-- The arrays that the call doesn't touch stay as they were. -/
theorem restArrs_after (c : Dev nD) : (restArrs c (V1 m c) : sProp 𝕄) = restArrs c (V2 m outs c) := by
  refine bigSep_congr fun b hb => ?_
  obtain ⟨hb, hn⟩ := Finset.mem_sdiff.mp hb
  have hne : ∀ r : Ref sig .tc, Proc.devRef .tc r ∈ arrs → b ≠ Proc.devRef .tc r := fun r hr h => hn (List.mem_toFinset.mpr (h ▸ hr))
  have e : V2 m outs c b = V1 m c b := by
    unfold V2
    rw [Function.update_of_ne (hne main_v2_8 (by decide)), Function.update_of_ne (hne main_v2_7 (by decide)), Function.update_of_ne (hne main_v2_6 (by decide)), Function.update_of_ne (hne main_v2_5 (by decide)), Function.update_of_ne (hne main_v2_4 (by decide)), Function.update_of_ne (hne main_v2_3 (by decide)), Function.update_of_ne (hne main_v2_2 (by decide)), Function.update_of_ne (hne main_v2_1 (by decide)), Function.update_of_ne (hne main_v2_0 (by decide))]
  rw [e]

/-! ## The call -/

/-- The call's entry in the body table, its two or more points run by the loop. -/
theorem entry_eq (c : Dev nD) : (DD (F := F)) (c : Thread nD τ).2 (Pipeline.entry 0) () = Pipeline.prun pcfgs 0 := rfl

/-- The call from its entry: from what is needed before it to what holds after it. -/
theorem wp_entry (c : Dev nD) {Q : PUnit → sProp 𝕄} (K : GSem nD τ sig → ℕ) :
    exPre m K c ⊢ iprop((exPost m c -∗ Q ⟨⟩)
      -∗ wp frame (wpE (DD (F := F)) 𝒱 (c : Thread nD τ) (some (Sum.inr 6 : 𝒱.V))) Set.univ (Pipeline.prun (pcfgs (F := F)) 0) Q) := by
  iintro H Hk
  unfold Pipeline.prun
  iapply (Pipeline.Prefetch.wp_readAll 𝒱 (some (Sum.inr 6 : 𝒱.V)) Set.univ ((pcfgs (F := F)) 0).pre c (fun _ => fullShare) (adm (F := F) 0).1 _) $$ []
  · unfold Pipeline.prefHeld; iempintro
  iintro -
  iapply (wp_assume 𝒱 _ (some (Sum.inr 6 : 𝒱.V)) Set.univ (adm (F := F) 0).2)
  iapply (run_loop m K c (adm 0) (Q := Q)) $$ H
  iexact Hk

/-- What a device holds before the exchange beside its arrays. -/
def E0 (c : Dev nD) : sProp 𝕄 := iprop((∃ K, ghost m K c) ∗ creds c ∗ (∃ W, owes (c : Thread nD τ) (O₀ c) W))
/-- What it holds after it beside its arrays. -/
def E1 (c : Dev nD) : sProp 𝕄 := iprop(semVal (barCell c) 0 ∗ (∃ W, owes (c : Thread nD τ) 0 W))

set_option maxHeartbeats 1600000 in
/-- What the loop starts from. -/
theorem enter (c : Dev nD) (K : GSem nD τ sig → ℕ) :
    iprop(levAts L lv ∗ (pt c main_v1 (V1 m c main_v1) ∗ pt c main_arg1 (V1 m c main_arg1) ∗ pt c main_arg2 (V1 m c main_arg2) ∗ pt c main_arg3 (V1 m c main_arg3) ∗ pt c main_arg4 (V1 m c main_arg4) ∗ pt c main_arg5 (V1 m c main_arg5) ∗ pt c main_arg6 (V1 m c main_arg6) ∗ pt c main_v2_0 (V1 m c main_v2_0) ∗ pt c main_v2_1 (V1 m c main_v2_1) ∗ pt c main_v2_2 (V1 m c main_v2_2) ∗ pt c main_v2_3 (V1 m c main_v2_3) ∗ pt c main_v2_4 (V1 m c main_v2_4) ∗ pt c main_v2_5 (V1 m c main_v2_5) ∗ pt c main_v2_6 (V1 m c main_v2_6) ∗ pt c main_v2_7 (V1 m c main_v2_7) ∗ pt c main_v2_8 (V1 m c main_v2_8))
        ∗ (ptAny c cc0_stg0_0 ∗ ptAny c cc0_stg1_0 ∗ ptAny c cc0_stg2_0 ∗ ptAny c cc0_stg3_0 ∗ ptAny c cc0_stg4_0 ∗ ptAny c cc0_stg4_1 ∗ ptAny c cc0_stg5_0 ∗ ptAny c cc0_stg6_0 ∗ ptAny c cc0_stg7_0 ∗ ptAny c cc0_stg7_1 ∗ ptAny c cc0_stg8_0 ∗ ptAny c cc0_stg9_0 ∗ ptAny c cc0_stg10_0 ∗ ptAny c cc0_stg11_0 ∗ ptAny c cc0_stg12_0 ∗ ptAny c cc0_stg13_0 ∗ ptAny c cc0_stg14_0 ∗ ptAny c cc0_stg15_0)
        ∗ (semVal ((c : Thread nD τ), SemLoc.dma (⟨0, by decide⟩ : DmaSem sig)) 0 ∗ semVal ((c : Thread nD τ), SemLoc.dma (⟨1, by decide⟩ : DmaSem sig)) 0 ∗ semVal ((c : Thread nD τ), SemLoc.dma (⟨2, by decide⟩ : DmaSem sig)) 0 ∗ semVal ((c : Thread nD τ), SemLoc.dma (⟨3, by decide⟩ : DmaSem sig)) 0 ∗ semVal ((c : Thread nD τ), SemLoc.dma (⟨4, by decide⟩ : DmaSem sig)) 0 ∗ semVal ((c : Thread nD τ), SemLoc.dma (⟨5, by decide⟩ : DmaSem sig)) 0 ∗ semVal ((c : Thread nD τ), SemLoc.dma (⟨6, by decide⟩ : DmaSem sig)) 0 ∗ semVal ((c : Thread nD τ), SemLoc.dma (⟨7, by decide⟩ : DmaSem sig)) 0 ∗ semVal ((c : Thread nD τ), SemLoc.dma (⟨8, by decide⟩ : DmaSem sig)) 0 ∗ semVal ((c : Thread nD τ), SemLoc.dma (⟨9, by decide⟩ : DmaSem sig)) 0 ∗ semVal ((c : Thread nD τ), SemLoc.dma (⟨10, by decide⟩ : DmaSem sig)) 0 ∗ semVal ((c : Thread nD τ), SemLoc.dma (⟨11, by decide⟩ : DmaSem sig)) 0 ∗ semVal ((c : Thread nD τ), SemLoc.dma (⟨12, by decide⟩ : DmaSem sig)) 0 ∗ semVal ((c : Thread nD τ), SemLoc.dma (⟨13, by decide⟩ : DmaSem sig)) 0 ∗ semVal ((c : Thread nD τ), SemLoc.dma (⟨14, by decide⟩ : DmaSem sig)) 0 ∗ semVal ((c : Thread nD τ), SemLoc.dma (⟨15, by decide⟩ : DmaSem sig)) 0 ∗ semVal ((c : Thread nD τ), SemLoc.dma (⟨16, by decide⟩ : DmaSem sig)) 0 ∗ semVal ((c : Thread nD τ), SemLoc.dma (⟨17, by decide⟩ : DmaSem sig)) 0)
        ∗ opened m K c ∗ creds c ∗ (∃ W, owes (c : Thread nD τ) (O₀ c) W)) ⊢ (exPre m K c : sProp 𝕄) := by
  iintro ⟨#L, ⟨A0, A1, A2, A3, A4, A5, A6, A7, A8, A9, A10, A11, A12, A13, A14, A15⟩, ⟨S0, S1, S2, S3, S4_0, S4_1, S5, S6, S7_0, S7_1, S8, S9, S10, S11, S12, S13, S14, S15⟩, ⟨Z0, Z1, Z2, Z3, Z4, Z5, Z6, Z7, Z8, Z9, Z10, Z11, Z12, Z13, Z14, Z15, Z16, Z17⟩, P, C, O⟩
  ihave Hw := (w_split c (V1 m c main_arg4)) $$ A4
  icases Hw with ⟨B4_0, B4_1, B4_2, B4_3⟩
  ihave Hq := (q_split c (V1 m c main_v2_0)) $$ A7
  icases Hq with ⟨B7_0, B7_1, B7_2, B7_3⟩
  unfold exPre
  isplitr; · iexact L
  isplitl [A0]; · iexact A0
  isplitl [A1]; · iexact A1
  isplitl [A2]; · iexact A2
  isplitl [A3]; · iexact A3
  isplitl [A5]; · iexact A5
  isplitl [A6]; · iexact A6
  isplitl [B4_0]; · iexact B4_0
  isplitl [B4_1]; · iexact B4_1
  isplitl [B4_2]; · iexact B4_2
  isplitl [B4_3]; · iexact B4_3
  isplitl [B7_0]; · iexists _; iexact B7_0
  isplitl [B7_1]; · iexists _; iexact B7_1
  isplitl [B7_2]; · iexists _; iexact B7_2
  isplitl [B7_3]; · iexists _; iexact B7_3
  isplitl [A8]; · iexists _; iexact A8
  isplitl [A9]; · iexists _; iexact A9
  isplitl [A10]; · iexists _; iexact A10
  isplitl [A11]; · iexists _; iexact A11
  isplitl [A12]; · iexists _; iexact A12
  isplitl [A13]; · iexists _; iexact A13
  isplitl [A14]; · iexists _; iexact A14
  isplitl [A15]; · iexists _; iexact A15
  isplitl [S0]; · iexact S0
  isplitl [Z0]; · iexact Z0
  isplitl [S1]; · iexact S1
  isplitl [Z1]; · iexact Z1
  isplitl [S2]; · iexact S2
  isplitl [Z2]; · iexact Z2
  isplitl [S3]; · iexact S3
  isplitl [Z3]; · iexact Z3
  isplitl [S4_0]; · iexact S4_0
  isplitl [Z4]; · iexact Z4
  isplitl [S4_1]; · iexact S4_1
  isplitl [Z5]; · iexact Z5
  isplitl [S5]; · iexact S5
  isplitl [Z6]; · iexact Z6
  isplitl [S6]; · iexact S6
  isplitl [Z7]; · iexact Z7
  isplitl [S7_0]; · iexact S7_0
  isplitl [Z8]; · iexact Z8
  isplitl [S7_1]; · iexact S7_1
  isplitl [Z9]; · iexact Z9
  isplitl [S8]; · iexact S8
  isplitl [Z10]; · iexact Z10
  isplitl [S9]; · iexact S9
  isplitl [Z11]; · iexact Z11
  isplitl [S10]; · iexact S10
  isplitl [Z12]; · iexact Z12
  isplitl [S11]; · iexact S11
  isplitl [Z13]; · iexact Z13
  isplitl [S12]; · iexact S12
  isplitl [Z14]; · iexact Z14
  isplitl [S13]; · iexact S13
  isplitl [Z15]; · iexact Z15
  isplitl [S14]; · iexact S14
  isplitl [Z16]; · iexact Z16
  isplitl [S15]; · iexact S15
  isplitl [Z17]; · iexact Z17
  isplitl [P]; · iexact P
  isplitl [C]; · iexact C
  iexact O

set_option maxHeartbeats 1600000 in
/-- What it leaves. -/
theorem leave (h : Outs2 m outs) (c : Dev nD) :
    exPost m c ⊢ (iprop((pt c main_v1 (V2 m outs c main_v1) ∗ pt c main_arg1 (V2 m outs c main_arg1) ∗ pt c main_arg2 (V2 m outs c main_arg2) ∗ pt c main_arg3 (V2 m outs c main_arg3) ∗ pt c main_arg4 (V2 m outs c main_arg4) ∗ pt c main_arg5 (V2 m outs c main_arg5) ∗ pt c main_arg6 (V2 m outs c main_arg6) ∗ pt c main_v2_0 (V2 m outs c main_v2_0) ∗ pt c main_v2_1 (V2 m outs c main_v2_1) ∗ pt c main_v2_2 (V2 m outs c main_v2_2) ∗ pt c main_v2_3 (V2 m outs c main_v2_3) ∗ pt c main_v2_4 (V2 m outs c main_v2_4) ∗ pt c main_v2_5 (V2 m outs c main_v2_5) ∗ pt c main_v2_6 (V2 m outs c main_v2_6) ∗ pt c main_v2_7 (V2 m outs c main_v2_7) ∗ pt c main_v2_8 (V2 m outs c main_v2_8))
        ∗ (ptAny c cc0_stg0_0 ∗ ptAny c cc0_stg1_0 ∗ ptAny c cc0_stg2_0 ∗ ptAny c cc0_stg3_0 ∗ ptAny c cc0_stg4_0 ∗ ptAny c cc0_stg4_1 ∗ ptAny c cc0_stg5_0 ∗ ptAny c cc0_stg6_0 ∗ ptAny c cc0_stg7_0 ∗ ptAny c cc0_stg7_1 ∗ ptAny c cc0_stg8_0 ∗ ptAny c cc0_stg9_0 ∗ ptAny c cc0_stg10_0 ∗ ptAny c cc0_stg11_0 ∗ ptAny c cc0_stg12_0 ∗ ptAny c cc0_stg13_0 ∗ ptAny c cc0_stg14_0 ∗ ptAny c cc0_stg15_0)
        ∗ (semVal ((c : Thread nD τ), SemLoc.dma (⟨0, by decide⟩ : DmaSem sig)) 0 ∗ semVal ((c : Thread nD τ), SemLoc.dma (⟨1, by decide⟩ : DmaSem sig)) 0 ∗ semVal ((c : Thread nD τ), SemLoc.dma (⟨2, by decide⟩ : DmaSem sig)) 0 ∗ semVal ((c : Thread nD τ), SemLoc.dma (⟨3, by decide⟩ : DmaSem sig)) 0 ∗ semVal ((c : Thread nD τ), SemLoc.dma (⟨4, by decide⟩ : DmaSem sig)) 0 ∗ semVal ((c : Thread nD τ), SemLoc.dma (⟨5, by decide⟩ : DmaSem sig)) 0 ∗ semVal ((c : Thread nD τ), SemLoc.dma (⟨6, by decide⟩ : DmaSem sig)) 0 ∗ semVal ((c : Thread nD τ), SemLoc.dma (⟨7, by decide⟩ : DmaSem sig)) 0 ∗ semVal ((c : Thread nD τ), SemLoc.dma (⟨8, by decide⟩ : DmaSem sig)) 0 ∗ semVal ((c : Thread nD τ), SemLoc.dma (⟨9, by decide⟩ : DmaSem sig)) 0 ∗ semVal ((c : Thread nD τ), SemLoc.dma (⟨10, by decide⟩ : DmaSem sig)) 0 ∗ semVal ((c : Thread nD τ), SemLoc.dma (⟨11, by decide⟩ : DmaSem sig)) 0 ∗ semVal ((c : Thread nD τ), SemLoc.dma (⟨12, by decide⟩ : DmaSem sig)) 0 ∗ semVal ((c : Thread nD τ), SemLoc.dma (⟨13, by decide⟩ : DmaSem sig)) 0 ∗ semVal ((c : Thread nD τ), SemLoc.dma (⟨14, by decide⟩ : DmaSem sig)) 0 ∗ semVal ((c : Thread nD τ), SemLoc.dma (⟨15, by decide⟩ : DmaSem sig)) 0 ∗ semVal ((c : Thread nD τ), SemLoc.dma (⟨16, by decide⟩ : DmaSem sig)) 0 ∗ semVal ((c : Thread nD τ), SemLoc.dma (⟨17, by decide⟩ : DmaSem sig)) 0 ∗ semVal (sendCell c 0) 0 ∗ semVal (sendCell c 1) 0 ∗ semVal (sendCell c 2) 0 ∗ semVal (recvCell c 0) 0 ∗ semVal (recvCell c 1) 0 ∗ semVal (recvCell c 2) 0)
        ∗ E1 c) : sProp 𝕄) := by
  unfold exPost E1
  rw [V2_v2_0 m outs h c, V2_v2_1 m outs h c, V2_v2_2 m outs h c, V2_v2_3 m outs h c, V2_v2_4 m outs h c, V2_v2_5 m outs h c, V2_v2_6 m outs h c, V2_v2_7 m outs h c, V2_v2_8 m outs h c, V2_of m outs c main_v1 (by decide), V2_of m outs c main_arg1 (by decide), V2_of m outs c main_arg2 (by decide), V2_of m outs c main_arg3 (by decide), V2_of m outs c main_arg4 (by decide), V2_of m outs c main_arg5 (by decide), V2_of m outs c main_arg6 (by decide)]
  iintro ⟨O, A0, S0, Z0, A1, S1, Z1, A2, S2, Z2, A3, S3, Z3, B4_0, A5, S5, Z6, A6, S6, Z7, B4_1, B7_0, B4_2, S4_0, Z4, B7_1, B4_3, S4_1, Z5, Y0, R0, Y1, R1, Y2, R2, V, A8, S8, Z10, A9, S9, Z11, A10, S10, Z12, A11, S11, Z13, A12, S12, Z14, A13, S13, Z15, A14, S14, Z16, A15, S15, Z17, B7_2, S7_0, Z8, B7_3, S7_1, Z9⟩
  ihave A4 := (w_join c (wqA m c)) $$ [B4_0 B4_1 B4_2 B4_3]
  · isplitl [B4_0]; · iexact B4_0
    isplitl [B4_1]; · iexact B4_1
    isplitl [B4_2]; · iexact B4_2
    iexact B4_3
  ihave A7 := (q_join c (qArr m c)) $$ [B7_0 B7_1 B7_2 B7_3]
  · isplitl [B7_0]; · iapply (Entails.of_eq (congrArg (qBlk c t0_0) (qArr_blk m c t0_0).symm)); iexact B7_0
    isplitl [B7_1]; · iapply (Entails.of_eq (congrArg (qBlk c t0_1) (qArr_blk m c t0_1).symm)); iexact B7_1
    isplitl [B7_2]; · iapply (Entails.of_eq (congrArg (qBlk c t0_2) (qArr_blk m c t0_2).symm)); iexact B7_2
    iapply (Entails.of_eq (congrArg (qBlk c t0_3) (qArr_blk m c t0_3).symm)); iexact B7_3
  isplitl [A0 A1 A2 A3 A4 A5 A6 A7 A8 A9 A10 A11 A12 A13 A14 A15]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [A12]; · iexact A12
    isplitl [A13]; · iexact A13
    isplitl [A14]; · iexact A14
    iexact A15
  isplitl [S0 S1 S2 S3 S4_0 S4_1 S5 S6 S7_0 S7_1 S8 S9 S10 S11 S12 S13 S14 S15]
  · isplitl [S0]; · iexists _; iexact S0
    isplitl [S1]; · iexists _; iexact S1
    isplitl [S2]; · iexists _; iexact S2
    isplitl [S3]; · iexists _; iexact S3
    isplitl [S4_0]; · iexists _; iexact S4_0
    isplitl [S4_1]; · iexists _; iexact S4_1
    isplitl [S5]; · iexists _; iexact S5
    isplitl [S6]; · iexists _; iexact S6
    isplitl [S7_0]; · iexists _; iexact S7_0
    isplitl [S7_1]; · iexists _; iexact S7_1
    isplitl [S8]; · iexists _; iexact S8
    isplitl [S9]; · iexists _; iexact S9
    isplitl [S10]; · iexists _; iexact S10
    isplitl [S11]; · iexists _; iexact S11
    isplitl [S12]; · iexists _; iexact S12
    isplitl [S13]; · iexists _; iexact S13
    isplitl [S14]; · iexists _; iexact S14
    iexists _; iexact S15
  isplitl [Z0 Z1 Z2 Z3 Z4 Z5 Z6 Z7 Z8 Z9 Z10 Z11 Z12 Z13 Z14 Z15 Z16 Z17 Y0 Y1 Y2 R0 R1 R2]
  · isplitl [Z0]; · iexact Z0
    isplitl [Z1]; · iexact Z1
    isplitl [Z2]; · iexact Z2
    isplitl [Z3]; · iexact Z3
    isplitl [Z4]; · iexact Z4
    isplitl [Z5]; · iexact Z5
    isplitl [Z6]; · iexact Z6
    isplitl [Z7]; · iexact Z7
    isplitl [Z8]; · iexact Z8
    isplitl [Z9]; · iexact Z9
    isplitl [Z10]; · iexact Z10
    isplitl [Z11]; · iexact Z11
    isplitl [Z12]; · iexact Z12
    isplitl [Z13]; · iexact Z13
    isplitl [Z14]; · iexact Z14
    isplitl [Z15]; · iexact Z15
    isplitl [Z16]; · iexact Z16
    isplitl [Z17]; · iexact Z17
    isplitl [Y0]; · iexact Y0
    isplitl [Y1]; · iexact Y1
    isplitl [Y2]; · iexact Y2
    isplitl [R0]; · iexact R0
    isplitl [R1]; · iexact R1
    iexact R2
  isplitl [V]; · iexact V
  iexact O

set_option maxHeartbeats 1600000 in
/-- The exchange call, between what a device holds before it and after it. -/
theorem run_exchange (h : Outs2 m outs) (c : Dev nD) {β : Type} (k : PUnit → Prog (TpuEff nD τ sig (Elt F) (Pipeline.Sig Λ₀ (Fin 3) fun p => (pcfgs (F := F) p).Adm) .tc) β) (Q : β → sProp 𝕄) :
    iprop((iprop(boundary (c.tc : Thread nD τ) ∗ StableHlo.held (c : Thread nD τ) (Pipeline.ucRefs τ sig) (V2 m outs c) ∗ E1 c)
          -∗ wp frame (wpE (DD (F := F)) 𝒱 (c.tc : Thread nD τ) none) Set.univ (k ⟨⟩) Q)
        ∗ boundary (c.tc : Thread nD τ) ∗ (StableHlo.held (c : Thread nD τ) (Pipeline.ucRefs τ sig) (V1 m c) ∗ E0 m c) ∗ levAts L lv)
      ⊢ wp frame (wpE (DD (F := F)) 𝒱 (c.tc : Thread nD τ) none) Set.univ (.op (.customCall (Pipeline.entry 0) ()) k) Q := by
  iintro ⟨Hk, Hbd, ⟨Hh, HE⟩, #Hla⟩
  ihave Hb := (Entails.of_eq (show (boundary (c.tc : Thread nD τ) : sProp 𝕄) = iprop(scopedBufs (c : Thread nD τ) ∗ scopedSems0 (c : Thread nD τ) ∗ opIdle (c : Thread nD τ)) from rfl)) $$ Hbd
  icases Hb with ⟨Hsc, Hss, Hid⟩
  ihave HE' := (Entails.of_eq (show (E0 m c : sProp 𝕄) = iprop((∃ K, ghost m K c) ∗ creds c ∗ (∃ W, owes (c : Thread nD τ) (O₀ c) W)) from rfl)) $$ HE
  icases HE' with ⟨⟨%K, G⟩, C, O⟩
  ihave Hss' := (Entails.of_eq (sems_eq c)) $$ Hss
  icases Hss' with ⟨⟨Z0, Z1, Z2, Z3, Z4, Z5, Z6, Z7, Z8, Z9, Z10, Z11, Z12, Z13, Z14, Z15, Z16, Z17, Y0, Y1, Y2, R0, R1, R2⟩, Hrs⟩
  ihave Hh' := (Entails.of_eq (arrs_eq c (V1 m c))) $$ Hh
  icases Hh' with ⟨HA, Hra⟩
  iapply (fupd_wp frame (wpE (DD (F := F)) 𝒱 (c.tc : Thread nD τ) none) Set.univ _ _)
  imod (open_cells m K c) $$ [G Y0 Y1 Y2 R0 R1 R2] with P
  · isplitl [G]; · iexact G
    isplitl [Y0 Y1 Y2]
    · isplitl [Y0]; · iexact Y0
      isplitl [Y1]; · iexact Y1
      iexact Y2
    isplitl [R0]; · iexact R0
    isplitl [R1]; · iexact R1
    iexact R2
  imodintro
  iapply (wp_customCall 𝒱 (c : Thread nD τ) none Set.univ (ℓ := Pipeline.entry 0) (a := ()) (k := k) (Q := Q) (Sum.inr 6 : 𝒱.V) (fun u hu => by cases hu)) $$ Hsc
  iintro Hsc
  ihave Hsc' := (Entails.of_eq (bufs_eq c)) $$ Hsc
  icases Hsc' with ⟨HS, Hrb⟩
  rw [entry_eq]
  iapply (wp_entry m c K) $$ [HA HS Z0 Z1 Z2 Z3 Z4 Z5 Z6 Z7 Z8 Z9 Z10 Z11 Z12 Z13 Z14 Z15 Z16 Z17 P C O]
  · iapply (enter m c K)
    isplitr; · iexact Hla
    isplitl [HA]; · iexact HA
    isplitl [HS]; · iexact HS
    isplitl [Z0 Z1 Z2 Z3 Z4 Z5 Z6 Z7 Z8 Z9 Z10 Z11 Z12 Z13 Z14 Z15 Z16 Z17]
    · isplitl [Z0]; · iexact Z0
      isplitl [Z1]; · iexact Z1
      isplitl [Z2]; · iexact Z2
      isplitl [Z3]; · iexact Z3
      isplitl [Z4]; · iexact Z4
      isplitl [Z5]; · iexact Z5
      isplitl [Z6]; · iexact Z6
      isplitl [Z7]; · iexact Z7
      isplitl [Z8]; · iexact Z8
      isplitl [Z9]; · iexact Z9
      isplitl [Z10]; · iexact Z10
      isplitl [Z11]; · iexact Z11
      isplitl [Z12]; · iexact Z12
      isplitl [Z13]; · iexact Z13
      isplitl [Z14]; · iexact Z14
      isplitl [Z15]; · iexact Z15
      isplitl [Z16]; · iexact Z16
      iexact Z17
    isplitl [P]; · iexact P
    isplitl [C]; · iexact C
    iexact O
  iintro Hpost
  ihave H := (leave m outs h c) $$ Hpost
  icases H with ⟨HA, HS, HZ, HE⟩
  rw [kernelExitSpec_apply]
  isplitl [HZ Hrs]
  · iapply (Entails.of_eq (sems_eq c).symm)
    isplitl [HZ]; · iexact HZ
    iexact Hrs
  iintro Hss
  isplitl [HS Hrb]
  · iapply (Entails.of_eq (bufs_eq c).symm)
    isplitl [HS]; · iexact HS
    iexact Hrb
  iintro Hsc
  iapply Hk
  isplitl [Hss Hsc Hid]
  · iapply (Entails.of_eq (show iprop(scopedBufs (c : Thread nD τ) ∗ scopedSems0 (c : Thread nD τ) ∗ opIdle (c : Thread nD τ)) = (boundary (c.tc : Thread nD τ) : sProp 𝕄) from rfl))
    isplitl [Hsc]; · iexact Hsc
    isplitl [Hss]; · iexact Hss
    iexact Hid
  isplitl [HA Hra]
  · iapply (Entails.of_eq (arrs_eq c (V2 m outs c)).symm)
    isplitl [HA]; · iexact HA
    iapply (Entails.of_eq (restArrs_after m outs c))
    iexact Hra
  iexact HE

/-- The exchange call as a segment of the program. -/
def segX (h : Outs2 m outs) : Pipeline.HostSeg (Ix := Unit) (Name := ℕ) (U := UU) (Lvl := ℕ) (pcfgs (F := F)) defs₀ 𝒱₀ L lv where
  prog := Prog.lift (.customCall (Pipeline.entry 0) ())
  pre c := iprop(StableHlo.held (c : Thread nD τ) (Pipeline.ucRefs τ sig) (V1 m c) ∗ E0 m c)
  post c := iprop(StableHlo.held (c : Thread nD τ) (Pipeline.ucRefs τ sig) (V2 m outs c) ∗ E1 c)
  run c _ k Q := run_exchange m outs h c k Q

end Cert.KernelIdeal.Run
-- ==== Proof.K.Start.lean ====
module

public import proofs.«01_k».proof.Proof.K.Exchange
public import Idealize.ShloMosaic.Harness.Basic
public import Idealize.ShloMosaic.Lib.Pipeline.Kit

/-! The launch: the exchange's cells funded, and what each device starts with dealt to it. The barrier cells are funded
from their counters, which exist from the start; the copies' cells are funded without theirs, which each device puts in
when its exchange call begins. -/

@[expose] public section

set_option maxRecDepth 4096

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]
variable (m : (ℓ : Loc nD τ sig) → Buf (Elt F) ℓ)

local notation "𝕄" => MT nD τ sig Unit (Elt F) ℕ UU ℕ

/-! ## The cells and the duties -/

/-- The six copy semaphores: the sends', then the receives'. -/
abbrev copySem : Fin 6 → SemLoc sig := fun
  | 0 => .dma (sS 0) | 1 => .dma (sS 1) | 2 => .dma (sS 2) | 3 => .dma (rS 0) | 4 => .dma (rS 1) | 5 => .dma (rS 2)
/-- The seven semaphores of the exchange, each with one duty. -/
abbrev dutySem : Fin 7 → SemLoc sig := fun
  | 0 => .reg bS | 1 => .dma (sS 0) | 2 => .dma (sS 1) | 3 => .dma (sS 2) | 4 => .dma (rS 0) | 5 => .dma (rS 1) | 6 => .dma (rS 2)

/-- The exchange's semaphores are different ones. -/
theorem copySem_inj : Function.Injective copySem := by decide
theorem dutySem_inj : Function.Injective dutySem := by decide
theorem copySem_ne_bar : ∀ k : Fin 6, copySem k ≠ .reg bS := by decide

def barAt : Dev nD ↪ GSem nD τ sig := ⟨barCell, fun _ _ h => congrArg (fun g : GSem nD τ sig => g.1.1) h⟩
def copyAt : Dev nD × Fin 6 ↪ GSem nD τ sig :=
  ⟨fun p => ((p.1 : Thread nD τ), copySem p.2), fun _ _ h =>
    Prod.ext (congrArg (fun g : GSem nD τ sig => g.1.1) h) (copySem_inj (congrArg Prod.snd h))⟩
def dutyAt : Dev nD × Fin 7 ↪ GSem nD τ sig × ℕ × Unit :=
  ⟨fun p => (((p.1 : Thread nD τ), dutySem p.2), 0, ()), fun _ _ h =>
    Prod.ext (congrArg (fun t : GSem nD τ sig × ℕ × Unit => t.1.1.1) h)
      (dutySem_inj (congrArg (fun t : GSem nD τ sig × ℕ × Unit => t.1.2) h))⟩

abbrev bars : Finset (GSem nD τ sig) := Finset.univ.map barAt
abbrev copies : Finset (GSem nD τ sig) := Finset.univ.map copyAt
abbrev duties : Finset (GSem nD τ sig × ℕ × Unit) := Finset.univ.map dutyAt

/-- No copy's cell is a barrier cell. -/
theorem bars_copies : Disjoint bars copies := by
  refine Finset.disjoint_left.mpr fun g hb hc => ?_
  obtain ⟨c, -, rfl⟩ := Finset.mem_map.mp hb
  obtain ⟨p, -, h⟩ := Finset.mem_map.mp hc
  exact copySem_ne_bar p.2 (congrArg Prod.snd h)

/-- The cells of the exchange: a barrier cell, -/
theorem mem_bar (c : Dev nD) : barCell c ∈ bars ∪ copies :=
  Finset.mem_union_left _ (Finset.mem_map_of_mem barAt (Finset.mem_univ c))
/-- and a copy's. -/
theorem mem_copy (c : Dev nD) (k : Fin 6) : ((c : Thread nD τ), copySem k) ∈ bars ∪ copies :=
  Finset.mem_union_right _ (Finset.mem_map_of_mem copyAt (Finset.mem_univ (c, k)))

/-- A conjunction over six, written out, -/
theorem over_six (Φ : Fin 6 → sProp 𝕄) : bigSep Finset.univ Φ = iprop(Φ 0 ∗ Φ 1 ∗ Φ 2 ∗ Φ 3 ∗ Φ 4 ∗ Φ 5) := by
  rw [show (Finset.univ : Finset (Fin 6)) = {0, 1, 2, 3, 4, 5} from by decide, bigSep_insert (by decide), bigSep_insert (by decide),
    bigSep_insert (by decide), bigSep_insert (by decide), bigSep_insert (by decide), bigSep_singleton]
  rfl
/-- and over seven. -/
theorem over_seven (Φ : Fin 7 → sProp 𝕄) : bigSep Finset.univ Φ = iprop(Φ 0 ∗ Φ 1 ∗ Φ 2 ∗ Φ 3 ∗ Φ 4 ∗ Φ 5 ∗ Φ 6) := by
  rw [show (Finset.univ : Finset (Fin 7)) = {0, 1, 2, 3, 4, 5, 6} from by decide, bigSep_insert (by decide), bigSep_insert (by decide),
    bigSep_insert (by decide), bigSep_insert (by decide), bigSep_insert (by decide), bigSep_insert (by decide), bigSep_singleton]
  rfl

/-! ## The launch element -/

/-- The exchange's part of what the launch starts from. -/
abbrev exchange₀ : UR sig nD τ := launchOf bars copies duties

/-- What the launch starts from: the calls' buffers' rounds, the exchange's, no copy counted yet. -/
def u₀ : UU :=
  (initOf (Pipeline.cells cfgs cellOf_inj) (Pipeline.launchToks cfgs cellOf_inj), (exchange₀, 1))

/-- The exchange's part, kept on device 0 until it is dealt. -/
def stock (c : Dev nD) : sProp 𝕄 := if c = 0 then BI.own (ER exchange₀) else iprop(emp)

/-- The schedule's starting resource is the devices' shares. -/
theorem stock_all : bigSep Finset.univ (stock (F := F)) = BI.own (ER exchange₀) := by
  rw [bigSep_univ_at _ (0 : Dev nD), bigSep_congr (s := Finset.univ.erase (0 : Dev nD)) (Ψ := fun _ => (BI.emp : sProp 𝕄))
    fun c hc => by unfold stock; rw [if_neg (Finset.ne_of_mem_erase hc)]; rfl, BI.bigSep_emp_const]
  unfold stock; rw [if_pos rfl]
  exact BI.equiv_iff.mp sep_emp

/-- The starting ghost state, split by what it is for. -/
theorem split₀ : (ownU u₀ : sProp 𝕄)
    ⊢ |={Set.univ}=> iprop(BI.own (EP (initOf (Pipeline.cells cfgs cellOf_inj) (Pipeline.launchToks cfgs cellOf_inj))) ∗ bigSep Finset.univ (stock (F := F))) := by
  unfold u₀
  iintro Hu
  ihave H := (ownU_pair _ _) $$ Hu
  icases H with ⟨HP, HX⟩
  imodintro
  isplitl [HP]; · iexact HP
  rw [stock_all]
  iapply (Entails.of_eq (show (BI.own (embR (exchange₀, (1 : Counters))) : sProp 𝕄) = BI.own (ER exchange₀) from rfl))
  iexact HX

/-! ## What is known to every device, and what is one device's -/

/-- Every cell's invariant under one choice of names, and that every barrier cell is at its first round. -/
def known (κ : GSem nD τ sig → ℕ) : sProp 𝕄 :=
  iprop((bigSep (bars ∪ copies) fun g => cellInv ER (Rd m) (κ g) g) ∗ bigSep bars fun g => reached ER g 0)
instance known_persistent (κ : GSem nD τ sig → ℕ) : BI.Persistent (known m κ) := by unfold known; infer_instance

/-- Device `c`'s own: its place on its barrier cell, the right to open its copy cells, the duties it pays. -/
def mine (c : Dev nD) : sProp 𝕄 :=
  iprop(atPos ER (barCell c) 0 ∅ 0
    ∗ (openTok ER (sendCell c 0) ∗ openTok ER (sendCell c 1) ∗ openTok ER (sendCell c 2)
      ∗ openTok ER (recvCell c 0) ∗ openTok ER (recvCell c 1) ∗ openTok ER (recvCell c 2))
    ∗ toks c)

/-- A cell's invariant, from those of all. -/
theorem inv_of (κ : GSem nD τ sig → ℕ) {g : GSem nD τ sig} (hg : g ∈ bars ∪ copies) :
    (bigSep (bars ∪ copies) fun g => (cellInv ER (Rd m) (κ g) g : sProp 𝕄)) ⊢ cellInv ER (Rd m) (κ g) g := bigSep_elim hg

/-- A barrier cell's first round is reached. -/
theorem reached_of (c : Dev nD) : (bigSep bars fun g => (reached ER g 0 : sProp 𝕄)) ⊢ reached ER (barCell c) 0 :=
  bigSep_elim (Finset.mem_map_of_mem barAt (Finset.mem_univ c))

/-- What a device starts the exchange with. -/
theorem ghost_of (κ : GSem nD τ sig → ℕ) (c : Dev nD) : iprop(known m κ ∗ mine c) ⊢ iprop(∃ K, ghost m K c) := by
  unfold known mine ghost invs
  iintro ⟨⟨#I, #R⟩, Hb, ⟨H0, H1, H2, H3, H4, H5⟩, Ht⟩
  iexists κ
  isplitr
  · isplitr; · iapply (inv_of m κ (mem_bar c)); iexact I
    isplitr
    · isplitr; · iapply (inv_of m κ (mem_copy c 0)); iexact I
      isplitr; · iapply (inv_of m κ (mem_copy c 1)); iexact I
      iapply (inv_of m κ (mem_copy c 2)); iexact I
    isplitr
    · isplitr; · iapply (inv_of m κ (mem_copy c 3)); iexact I
      isplitr; · iapply (inv_of m κ (mem_copy c 4)); iexact I
      iapply (inv_of m κ (mem_copy c 5)); iexact I
    isplitr; · iapply (inv_of m κ (mem_bar (pr c))); iexact I
    isplitr; · iapply (inv_of m κ (mem_copy (pr c) 3)); iexact I
    isplitr; · iapply (inv_of m κ (mem_copy (pr c) 4)); iexact I
    iapply (inv_of m κ (mem_copy (pr c) 5)); iexact I
  isplitl [Hb]; · iexact Hb
  isplitl [H0 H1 H2]
  · isplitl [H0]; · iexact H0
    isplitl [H1] <;> iassumption
  isplitl [H3 H4 H5]
  · isplitl [H3]; · iexact H3
    isplitl [H4] <;> iassumption
  isplitr; · iapply (reached_of (F := F) (pr c)); iexact R
  iexact Ht

/-- The duties' tokens: the barrier's and the receives' go to the peer, who pays them. -/
theorem deal_toks : bigSep duties (fun x => (dutyTok ER x.1 x.2.1 x.2.2 : sProp 𝕄)) ⊢ bigSep Finset.univ fun c : Dev nD => (toks c : sProp 𝕄) := by
  unfold duties
  rw [bigSep_map, bigSep_univ_prod]
  refine BIBase.Entails.trans (Entails.of_eq (bigSep_congr (Ψ := fun c : Dev nD => iprop(dutyTok ER (barCell c) 0 () ∗ dutyTok ER (sendCell c 0) 0 () ∗ dutyTok ER (sendCell c 1) 0 () ∗ dutyTok ER (sendCell c 2) 0 ()
      ∗ dutyTok ER (recvCell c 0) 0 () ∗ dutyTok ER (recvCell c 1) 0 () ∗ dutyTok ER (recvCell c 2) 0 ())) fun c _ => by rw [over_seven]; rfl)) ?_
  unfold toks
  simp only [bigSep_sep']
  rw [bigSep_univ_equiv swap (fun c : Dev nD => (dutyTok ER (barCell c) 0 () : sProp 𝕄)),
    bigSep_univ_equiv swap (fun c : Dev nD => (dutyTok ER (recvCell c 0) 0 () : sProp 𝕄)),
    bigSep_univ_equiv swap (fun c : Dev nD => (dutyTok ER (recvCell c 1) 0 () : sProp 𝕄)),
    bigSep_univ_equiv swap (fun c : Dev nD => (dutyTok ER (recvCell c 2) 0 () : sProp 𝕄))]
  iintro ⟨H0, H1, H2, H3, H4, H5, H6⟩
  isplitl [H0]; · iexact H0
  isplitl [H1 H2 H3]
  · isplitl [H1]; · iexact H1
    isplitl [H2] <;> iassumption
  isplitl [H4]; · iexact H4
  isplitl [H5]; · iexact H5
  iexact H6

/-! ## The credits -/

/-- What device `d` owes its peer counts at device `c` if `c` is that peer. -/
theorem tally_dev (d c : Dev nD) (s s' : SemLoc sig) (n : ℕ) :
    (tallyAt (((pr d : Thread nD τ), s) : GSem nD τ sig) () n : CellTallies nD τ sig Unit) ((c : Thread nD τ), s') () = if d = pr c ∧ s' = s then n else 0 := by
  rw [tallyAt_apply]
  refine if_congr ⟨fun ⟨h, _⟩ => ⟨?_, congrArg Prod.snd h⟩, fun ⟨h, h'⟩ => ⟨?_, rfl⟩⟩ rfl rfl
  · have e : c = pr d := congrArg (fun g : GSem nD τ sig => g.1.1) h
    rw [e, pr_pr]
  · rw [h, pr_pr, h']

/-- What device `d` owes at a cell of device `c`. -/
theorem owed_at (d c : Dev nD) (s : SemLoc sig) : O₀ d ((c : Thread nD τ), s) ()
    = if d = pr c then (if s = .dma (rS 0) then amt 0 else 0) + (if s = .dma (rS 2) then amt 2 else 0) + (if s = .dma (rS 1) then amt 1 else 0)
        + (if s = .reg bS then 1 else 0) else 0 := by
  unfold O₀ Orecv
  simp only [Finsupp.add_apply, Pi.add_apply]
  rw [tally_dev, tally_dev, tally_dev, tally_dev]
  by_cases h : d = pr c
  · simp only [h, true_and, if_true]
  · simp only [h, false_and, if_false]

/-- What a device may wait for at a cell is what its peer owes there. -/
theorem launch_at (c : Dev nD) (s : SemLoc sig) (n : ℕ)
    (h : (if s = .dma (rS 0) then amt 0 else 0) + (if s = .dma (rS 2) then amt 2 else 0) + (if s = .dma (rS 1) then amt 1 else 0)
        + (if s = .reg bS then 1 else 0) = n) :
    tallyOn (((c : Thread nD τ), s) : GSem nD τ sig) (launchCredit (Pipeline.owing O₀) 0 ((c : Thread nD τ), s)) = (tallyAt ((c : Thread nD τ), s) () n : CellTallies nD τ sig Unit) := by
  unfold tallyAt; refine congrArg _ (Finsupp.ext fun u => ?_); cases u
  rw [Pipeline.launchCredit_owing, Finsupp.single_eq_same, Finset.sum_congr rfl fun d _ => owed_at d c s, h,
    Finset.sum_ite_eq' Finset.univ (pr c) fun _ => n, if_pos (Finset.mem_univ _)]

/-- So the launch gives every device the credit for its waits. -/
theorem creds_of (c : Dev nD) : (Pipeline.launchCred O₀ c : sProp 𝕄) ⊢ creds c := by
  unfold Pipeline.launchCred creds
  refine BIBase.Entails.trans (bigSep_subset (t := {.reg bS, .dma (rS 0), .dma (rS 1), .dma (rS 2)}) (Finset.subset_univ _)) ?_
  rw [bigSep_insert (by decide), bigSep_insert (by decide), bigSep_insert (by decide), bigSep_singleton,
    launch_at c _ 1 (by simp), launch_at c (.dma (rS 0)) (amt 0) (by simp), launch_at c (.dma (rS 1)) (amt 1) (by simp), launch_at c (.dma (rS 2)) (amt 2) (by simp)]
  exact .rfl

/-- The barrier cell is the only counter a device starts with. -/
theorem sems_at_start (c : Dev nD) : (unscopedSems0 c : sProp 𝕄) = semVal (barCell c) 0 := by
  unfold unscopedSems0
  rw [show (Finset.univ.filter fun sm : SemLoc sig => ¬ sm.isScoped .tc) = {SemLoc.reg bS} from by decide, BI.bigSep_singleton]

/-! ## Dealing -/

/-- What a device starts with beside its share of the exchange's ghost state. -/
def rest (c : Dev nD) : sProp 𝕄 :=
  iprop(StableHlo.held (c : Thread nD τ) (Pipeline.ucRefs τ sig) (V0 m c) ∗ creds c ∗ owes (c : Thread nD τ) (O₀ c) ∅)

/-- A device's start from its share of the launch. -/
theorem start_of (κ : GSem nD τ sig → ℕ) (c : Dev nD) :
    iprop(known m κ ∗ (mine c ∗ rest m c)) ⊢ iprop(StableHlo.held (c : Thread nD τ) (Pipeline.ucRefs τ sig) (V0 m c) ∗ E0 m c) := by
  unfold rest E0
  iintro ⟨#HR, Hm, Hh, Hc, HO⟩
  isplitl [Hh]; · iexact Hh
  isplitl [Hm]
  · iapply (ghost_of m κ c)
    isplitr; · iexact HR
    iexact Hm
  isplitl [Hc]; · iexact Hc
  iexists ∅; iexact HO

/-- The launch dealt out to the devices. -/
theorem deal (ρ : Dev nD → PrngReg) :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ stock c)) ∗ levAts L lv)
      ⊢ (|={Set.univ}=> bigSep Finset.univ fun c : Dev nD => iprop(StableHlo.held (c : Thread nD τ) (Pipeline.ucRefs τ sig) (V0 m c) ∗ E0 m c) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ stock c)
      ⊢ (iprop(rest m c ∗ (semVal (barCell c) 0 ∗ stock c)) : sProp 𝕄) := by
    rw [show unscopedBufs c (fun b => m ((c : Thread nD τ).loc b)) = (StableHlo.held (c : Thread nD τ) (Pipeline.ucRefs τ sig) (V0 m c) : sProp 𝕄) from
      Pipeline.unscopedBufs_held c (V0 m c), sems_at_start]
    unfold rest
    iintro ⟨Hh, Hs, HO, Hcr, -, HG⟩
    isplitl [Hh Hcr HO]
    · isplitl [Hh]; · iexact Hh
      isplitl [Hcr]; · iapply (creds_of c); iexact Hcr
      iexact HO
    isplitl [Hs] <;> iassumption
  have hv : bigSep Finset.univ (fun c : Dev nD => (semVal (barCell c) 0 : sProp 𝕄)) ⊢ bigSep bars (fun g => (semVal g 0 : sProp 𝕄)) :=
    Entails.of_eq (bigSep_map (s := Finset.univ) barAt (Φ := fun g : GSem nD τ sig => (semVal g 0 : sProp 𝕄))).symm
  have hat : bigSep bars (fun g => (atPos ER g 0 ∅ 0 : sProp 𝕄)) ⊢ bigSep Finset.univ (fun c : Dev nD => (atPos ER (barCell c) 0 ∅ 0 : sProp 𝕄)) :=
    Entails.of_eq (bigSep_map (s := Finset.univ) barAt (Φ := fun g : GSem nD τ sig => (atPos ER g 0 ∅ 0 : sProp 𝕄)))
  have hopen : bigSep copies (fun g => (openTok ER g : sProp 𝕄))
      ⊢ bigSep Finset.univ (fun c : Dev nD => iprop(openTok ER (sendCell c 0) ∗ openTok ER (sendCell c 1) ∗ openTok ER (sendCell c 2)
      ∗ openTok ER (recvCell c 0) ∗ openTok ER (recvCell c 1) ∗ openTok ER (recvCell c 2))) :=
    Entails.of_eq (by
      unfold copies
      rw [bigSep_map, bigSep_univ_prod]
      exact bigSep_congr fun c _ => (over_six fun k : Fin 6 => (openTok ER ((c : Thread nD τ), copySem k) : sProp 𝕄)))
  iintro ⟨H, -⟩
  ihave H' := (BIBase.Entails.trans (bigSep_mono (s := Finset.univ) fun c _ => hcore c) Smoke.bigSep_unpair) $$ H
  icases H' with ⟨HB, H3⟩
  ihave H4 := Smoke.bigSep_unpair $$ H3; icases H4 with ⟨Hv, HG⟩
  ihave Hu := (Entails.of_eq (stock_all (F := F))) $$ HG
  imod (Rounds.fund_launch ER (Rd m) bars_copies (fun g _ h => h) duties) $$ [Hv Hu] with ⟨%κ, -, #Hinv, #Hr, Hat, Hopen, Htok⟩
  · isplitl [Hv]
    · iapply hv $$ Hv
    · iexact Hu
  imodintro
  iapply (bigSep_with_persistent (R := known m κ) (Φ := fun c => iprop(mine c ∗ rest m c)) fun c _ => start_of m κ c)
  isplitr
  · unfold known
    isplitr; · iexact Hinv
    iexact Hr
  iapply Smoke.bigSep_pair
  isplitr [HB]
  · unfold mine
    iapply Smoke.bigSep_pair; isplitl [Hat]; · iapply hat $$ Hat
    iapply Smoke.bigSep_pair; isplitl [Hopen]; · iapply hopen $$ Hopen
    iapply (deal_toks (F := F)); iexact Htok
  · iexact HB

end Cert.KernelIdeal.Run

end
-- ==== Proof.K.Whole.lean ====
module

public import proofs.«01_k».proof.Proof.K.Base
public import Idealize.ShloMosaic.Lib.Pipeline.FrameBody

/-!
Loads and stores of the two kernels that exchange nothing, over buffers held whole by what their views read.
-/

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ UU ℕ

/-- A load from a whole buffer reads the rectangle of what the buffer holds. -/
theorem ldO (c : Dev nD) {cs : CoreSpace} {s : Shape} {e : EltTy} {mm : Memref sig .tc cs s e} (hw : mm.IsWhole) {r : LoadRect s}
    {hl : mm.view.LoadsAt r} {α : Type} {k : (r.shape.Idx → Elt F e) → Prog (TpuEff nD τ sig (Elt F) Λ₀ .tc) α} {Q : α → sProp 𝕄}
    (X : s.Idx → Elt F e) :
    (owns (c : Thread nD τ) mm fullShare X : sProp 𝕄)
      ⊢ iprop((owns (c : Thread nD τ) mm fullShare X
            -∗ wp frame (wpE (defs₀ (F := F)) 𝒱₀ (c : Thread nD τ) none) Set.univ (k fun i => X (r.idx i)) Q)
        -∗ wp frame (wpE (defs₀ (F := F)) 𝒱₀ (c : Thread nD τ) none) Set.univ (.op (.load mm r hl) k) Q) := by
  unfold owns
  rw [hw.set_eq_univ]
  iintro ⟨%f, %hf, H⟩ Hk
  subst hf
  iapply (wp_load 𝒱₀ (c : Thread nD τ) none Set.univ (Finset.subset_univ _)) $$ H
  iintro H
  iapply Hk
  iexists f
  isplitr
  · ipureintro; rfl
  · iexact H

/-- A store over the whole of a whole buffer leaves what was stored. -/
theorem stO (c : Dev nD) {cs : CoreSpace} {s : Shape} {e : EltTy} {mm : Memref sig .tc cs s e} (hw : mm.IsWhole)
    {off : Fin s.rank → ℕ} {inb : ∀ a, off a + s.size a ≤ s.size a}
    {w : (Rect.unit (s := s) off s.size inb).shape.Idx → Elt F e}
    {hx : (mm.access (Rect.unit (s := s) off s.size inb)).Stores Finset.univ}
    {hm : (Finset.univ : Finset (Rect.unit (s := s) off s.size inb).shape.Idx) = Finset.univ ∨ ∀ a, (Rect.unit (s := s) off s.size inb).stride a = 1}
    {α : Type} {k : PUnit → Prog (TpuEff nD τ sig (Elt F) Λ₀ .tc) α} {Q : α → sProp 𝕄} (X : s.Idx → Elt F e) :
    (owns (c : Thread nD τ) mm fullShare X : sProp 𝕄)
      ⊢ iprop((owns (c : Thread nD τ) mm fullShare (w : s.Idx → Elt F e)
            -∗ wp frame (wpE (defs₀ (F := F)) 𝒱₀ (c : Thread nD τ) none) Set.univ (k ⟨⟩) Q)
        -∗ wp frame (wpE (defs₀ (F := F)) 𝒱₀ (c : Thread nD τ) none) Set.univ
            (.op (.store mm (Rect.unit (s := s) off s.size inb) w Finset.univ hx hm) k) Q) := by
  unfold owns
  rw [hw.set_eq_univ]
  iintro ⟨%f, %hf, H⟩ Hk
  iapply (wp_store (defs := defs₀ (F := F)) 𝒱₀ (c : Thread nD τ) none Set.univ (m := mm) (r := Rect.unit (s := s) off s.size inb) (w := w)
    (Mk := Finset.univ) (S := Finset.univ) (f := f) (Finset.subset_univ _)) $$ H
  iintro H
  iapply Hk
  iexists _
  isplitr
  swap
  · iexact H
  · ipureintro
    funext i
    have h := congrFun (View.read_write_univ (v := mm.access (Rect.unit (s := s) off s.size inb)) f w) i
    refine Eq.trans ?_ h
    refine congrArg (mm.view.read (Elt F) ((mm.access (Rect.unit (s := s) off s.size inb)).write (Elt F) f w Finset.univ)) (funext fun a => Fin.ext ?_)
    show (i a).val = off a + 1 * (i a).val
    have := inb a
    omega

/-- The whole rectangle of what a buffer holds is what it holds. -/
theorem idx_full {s : Shape} {α : Type} {off : Fin s.rank → ℕ} (inb : ∀ a, off a + s.size a ≤ s.size a) (X : s.Idx → α) :
    (fun i => X ((Rect.unit (s := s) off s.size inb).toLoadRect.idx i)) = X :=
  funext fun i => congrArg X (funext fun a => Fin.ext (by
    show off a + 1 * (i a).val = (i a).val
    have := inb a; omega))

end Cert.KernelIdeal.Run

end
-- ==== Proof.K.AttnBody.lean ====
module

public import proofs.«01_k».proof.Proof.K.Whole
public import Idealize.ShloMosaic.Lib.Pipeline.Value

/-!
The attention's body: the keys and the values are put together from the two halves of the latent, chunk by chunk, and
every head's output is computed from its columns. `attnOut` is what the body stores, head by head.
-/

@[expose] public section

set_option maxRecDepth 65536

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ UU ℕ

/-! ## What the body stores -/

theorem cutW (n : Fin 4) : ∀ a, (![0, 512 * n.val] : Fin 2 → ℕ) a + S128x512.size a ≤ S128x2048.size a := by revert n; decide
theorem cutQ (h : Fin 16) : ∀ a, (![0, 128 * h.val] : Fin 2 → ℕ) a + S512x128.size a ≤ S512x2048.size a := by revert h; decide
theorem cutR (h : Fin 16) : ∀ a, (![0, 32 * h.val] : Fin 2 → ℕ) a + S512x32.size a ≤ S512x512.size a := by revert h; decide
theorem slicesK (h : Fin 16) : S512x2048.Slices ![0, 128 * h.val] S512x128 := by revert h; decide

/-- Chunk `n` of a weight's columns. -/
def wCols (X : FVec F S128x2048 .bf16) (n : Fin 4) : FVec F S128x512 .bf16 :=
  fun i => X ((Rect.unit (s := S128x2048) ![0, 512 * n.val] S128x512.size (cutW n)).toLoadRect.idx i)

/-- Head `h`'s columns of the queries. -/
def qCols (X : FVec F S512x2048 .bf16) (h : Fin 16) : FVec F S512x128 .bf16 :=
  fun i => X ((Rect.unit (s := S512x2048) ![0, 128 * h.val] S512x128.size (cutQ h)).toLoadRect.idx i)

/-- Head `h`'s columns of the queries' positional part. -/
def rCols (X : FVec F S512x512 .bf16) (h : Fin 16) : FVec F S512x32 .bf16 :=
  fun i => X ((Rect.unit (s := S512x512) ![0, 32 * h.val] S512x32.size (cutR h)).toLoadRect.idx i)

/-- One chunk of 512 columns of the keys (or of the values): the two halves of the latent times theirs of the weights. -/
def chunk (cl cr : FVec F S512x128 .bf16) (wl wr : FVec F S128x2048 .bf16) (n : Fin 4) : FVec F S512x512 .bf16 :=
  truncf .bf16 (addf
    (matmul dot_S512x128_S128x512_S512x512_1_0_0_1_n_n none (shapeCast S512x128 cl shapeCasts_S512x128_S512x128)
      (shapeCast S128x512 (wCols wl n) shapeCasts_S128x512_S128x512) (constant S512x512 .f32 0x00000000#32))
    (matmul dot_S512x128_S128x512_S512x512_1_0_0_1_n_n none (shapeCast S512x128 cr shapeCasts_S512x128_S512x128)
      (shapeCast S128x512 (wCols wr n) shapeCasts_S128x512_S128x512) (constant S512x512 .f32 0x00000000#32)))
    bitsLt_bf16_f32

/-- The keys (or the values) of one batch: its four chunks. -/
def both (cl cr : FVec F S512x128 .bf16) (wl wr : FVec F S128x2048 .bf16) : FVec F S512x2048 .bf16 :=
  concatenate S512x2048 1 (List.ofFn fun n : Fin 4 => (⟨S512x512, chunk cl cr wl wr n⟩ : (s : Shape) × (s.Idx → F .bf16)))
    concatenates_S512x512_S512x512_S512x512_S512x512_S512x2048_d1

/-- The unnormalised weights of one head: two to the power of the scores. -/
def headP (q : FVec F S512x2048 .bf16) (qr : FVec F S512x512 .bf16) (kr : FVec F S512x32 .bf16) (k : FVec F S512x2048 .bf16)
    (h : Fin 16) : FVec F S512x512 .f32 :=
  exp2 (addf
    (matmul dot_S512x128_S512x128_S512x512_1_1_0_0_n_n none
      (shapeCast S512x128 (qCols q h) shapeCasts_S512x128_S512x128)
      (extractStridedSlice S512x128 ![0, 128 * h.val] k (slicesK h)) (constant S512x512 .f32 0x00000000#32))
    (matmul dot_S512x32_S512x32_S512x512_1_1_0_0_n_n none
      (shapeCast S512x32 (rCols qr h) shapeCasts_S512x32_S512x32)
      (shapeCast S512x32 kr shapeCasts_S512x32_S512x32) (constant S512x512 .f32 0x00000000#32)))

/-- One head's output: its weights times its values, each row times the reciprocal of the sum of its weights. -/
def headO (q : FVec F S512x2048 .bf16) (qr : FVec F S512x512 .bf16) (kr : FVec F S512x32 .bf16) (k v : FVec F S512x2048 .bf16)
    (h : Fin 16) : FVec F S512x128 .bf16 :=
  truncf .bf16 (mulf
    (matmul dot_S512x512_S512x128_S512x128_1_0_0_1_n_n none (truncf .bf16 (headP q qr kr k h) bitsLt_bf16_f32)
      (extractStridedSlice S512x128 ![0, 128 * h.val] v (slicesK h)) (constant S512x128 .f32 0x00000000#32))
    (broadcastTo S512x128
      (divf (broadcast S512x1 (Scalar.ofBits .f32 0x3F800000#32))
        (shapeCast S512x1 (multiReduction .add [1] S512 (headP q qr kr k h) 0x00000000#32 reduces_S512x512_S512 (.inl rfl) rfl) shapeCasts_S512_S512x1))
      broadcasts_S512x1_S512x128)) bitsLt_bf16_f32

/-- What the body stores: the sixteen heads' outputs side by side. -/
def attnOut (q : FVec F S512x2048 .bf16) (qr : FVec F S512x512 .bf16) (kr : FVec F S512x32 .bf16) (cl cr : FVec F S512x128 .bf16)
    (ukl ukr uvl uvr : FVec F S128x2048 .bf16) : FVec F S512x2048 .bf16 :=
  concatenate S512x2048 1 (List.ofFn fun h : Fin 16 =>
      (⟨S512x128, headO q qr kr (both cl cr ukl ukr) (both cl cr uvl uvr) h⟩ : (s : Shape) × (s.Idx → F .bf16)))
    concatenates_S512x128_S512x128_S512x128_S512x128_S512x128_S512x128_S512x128_S512x128_S512x128_S512x128_S512x128_S512x128_S512x128_S512x128_S512x128_S512x128_S512x2048_d1

/-- Read whole, the keys' positional part and the two halves of the latent are themselves. -/
theorem attnOut_full (q : FVec F S512x2048 .bf16) (qr : FVec F S512x512 .bf16) (kr : FVec F S512x32 .bf16) (cl cr : FVec F S512x128 .bf16)
    (ukl ukr uvl uvr : FVec F S128x2048 .bf16) :
    attnOut q qr (fun i => kr ((Rect.unit (s := S512x32) ![0, 0] S512x32.size inb_S512x32_S512x32_0_0).toLoadRect.idx i))
      (fun i => cl ((Rect.unit (s := S512x128) ![0, 0] S512x128.size inb_S512x128_S512x128_0_0).toLoadRect.idx i))
      (fun i => cr ((Rect.unit (s := S512x128) ![0, 0] S512x128.size inb_S512x128_S512x128_0_0).toLoadRect.idx i)) ukl ukr uvl uvr
      = attnOut q qr kr cl cr ukl ukr uvl uvr := by
  have e1 := idx_full inb_S512x32_S512x32_0_0 kr
  have e2 := idx_full inb_S512x128_S512x128_0_0 cl
  have e3 := idx_full inb_S512x128_S512x128_0_0 cr
  exact (congrArg (fun y => attnOut q qr y _ _ ukl ukr uvl uvr) e1).trans
    ((congrArg (fun y => attnOut q qr kr y _ ukl ukr uvl uvr) e2).trans (congrArg (fun y => attnOut q qr kr cl y ukl ukr uvl uvr) e3))

/-! ## The run -/

/-- From its ten buffers owned, the body stores the heads' outputs into the last. -/
theorem attn_body (c : Dev nD) (i : grid1.Coords)
    {M0 : Memref sig .tc .vmem S512x2048 .bf16} (h0 : M0.IsWhole)
    {M1 : Memref sig .tc .vmem S512x512 .bf16} (h1 : M1.IsWhole)
    {M2 : Memref sig .tc .vmem S512x32 .bf16} (h2 : M2.IsWhole)
    {M3 : Memref sig .tc .vmem S512x128 .bf16} (h3 : M3.IsWhole)
    {M4 : Memref sig .tc .vmem S512x128 .bf16} (h4 : M4.IsWhole)
    {M5 : Memref sig .tc .vmem S128x2048 .bf16} (h5 : M5.IsWhole)
    {M6 : Memref sig .tc .vmem S128x2048 .bf16} (h6 : M6.IsWhole)
    {M7 : Memref sig .tc .vmem S128x2048 .bf16} (h7 : M7.IsWhole)
    {M8 : Memref sig .tc .vmem S128x2048 .bf16} (h8 : M8.IsWhole)
    {M9 : Memref sig .tc .vmem S512x2048 .bf16} (h9 : M9.IsWhole)
    (X0 : S512x2048.Idx → Elt F .bf16)
    (X1 : S512x512.Idx → Elt F .bf16)
    (X2 : S512x32.Idx → Elt F .bf16)
    (X3 : S512x128.Idx → Elt F .bf16)
    (X4 : S512x128.Idx → Elt F .bf16)
    (X5 : S128x2048.Idx → Elt F .bf16)
    (X6 : S128x2048.Idx → Elt F .bf16)
    (X7 : S128x2048.Idx → Elt F .bf16)
    (X8 : S128x2048.Idx → Elt F .bf16)
    (X9 : S512x2048.Idx → Elt F .bf16)
    (Q : PUnit → sProp 𝕄) :
    iprop(owns (c : Thread nD τ) M0 fullShare X0 ∗ owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare X7 ∗ owns (c : Thread nD τ) M8 fullShare X8 ∗ owns (c : Thread nD τ) M9 fullShare X9
        ∗ ((owns (c : Thread nD τ) M0 fullShare X0 ∗ owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare X7 ∗ owns (c : Thread nD τ) M8 fullShare X8 ∗ owns (c : Thread nD τ) M9 fullShare (attnOut X0 X1 X2 X3 X4 X5 X6 X7 X8)) -∗ Q ⟨⟩))
      ⊢ wp frame (wpE (defs₀ (F := F)) 𝒱₀ (c : Thread nD τ) none) Set.univ
          (cc1__attn_body i M0 h0 M1 h1 M2 h2 M3 h3 M4 h4 M5 h5 M6 h6 M7 h7 M8 h8 M9 h9) Q := by
  rw [cc1__attn_body_eq_skeleton]
  unfold cc1__attn_body_skel
  rw [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton]
  unfold k1_part1_skel k1_part2_skel k1_part3_skel k1_part4_skel k1_part5_skel k1_part6_skel k1_part7_skel k1_part8_skel k1_part9_skel
  simp only [Prog.lift, Prog.bind_op, Prog.bind_ret, Prog.pure_eq_ret]
  iintro ⟨H0, H1, H2, H3, H4, H5, H6, H7, H8, H9, Hk⟩
  iapply (ldO c h3 X3) $$ H3; iintro H3
  iapply (ldO c h4 X4) $$ H4; iintro H4
  iapply (ldO c h5 X5) $$ H5; iintro H5
  iapply (ldO c h6 X6) $$ H6; iintro H6
  iapply (ldO c h5 X5) $$ H5; iintro H5
  iapply (ldO c h6 X6) $$ H6; iintro H6
  iapply (ldO c h5 X5) $$ H5; iintro H5
  iapply (ldO c h6 X6) $$ H6; iintro H6
  iapply (ldO c h5 X5) $$ H5; iintro H5
  iapply (ldO c h6 X6) $$ H6; iintro H6
  iapply (ldO c h7 X7) $$ H7; iintro H7
  iapply (ldO c h8 X8) $$ H8; iintro H8
  iapply (ldO c h7 X7) $$ H7; iintro H7
  iapply (ldO c h8 X8) $$ H8; iintro H8
  iapply (ldO c h7 X7) $$ H7; iintro H7
  iapply (ldO c h8 X8) $$ H8; iintro H8
  iapply (ldO c h7 X7) $$ H7; iintro H7
  iapply (ldO c h8 X8) $$ H8; iintro H8
  iapply (ldO c h2 X2) $$ H2; iintro H2
  iapply (ldO c h0 X0) $$ H0; iintro H0
  iapply (ldO c h1 X1) $$ H1; iintro H1
  iapply (ldO c h0 X0) $$ H0; iintro H0
  iapply (ldO c h1 X1) $$ H1; iintro H1
  iapply (ldO c h0 X0) $$ H0; iintro H0
  iapply (ldO c h1 X1) $$ H1; iintro H1
  iapply (ldO c h0 X0) $$ H0; iintro H0
  iapply (ldO c h1 X1) $$ H1; iintro H1
  iapply (ldO c h0 X0) $$ H0; iintro H0
  iapply (ldO c h1 X1) $$ H1; iintro H1
  iapply (ldO c h0 X0) $$ H0; iintro H0
  iapply (ldO c h1 X1) $$ H1; iintro H1
  iapply (ldO c h0 X0) $$ H0; iintro H0
  iapply (ldO c h1 X1) $$ H1; iintro H1
  iapply (ldO c h0 X0) $$ H0; iintro H0
  iapply (ldO c h1 X1) $$ H1; iintro H1
  iapply (ldO c h0 X0) $$ H0; iintro H0
  iapply (ldO c h1 X1) $$ H1; iintro H1
  iapply (ldO c h0 X0) $$ H0; iintro H0
  iapply (ldO c h1 X1) $$ H1; iintro H1
  iapply (ldO c h0 X0) $$ H0; iintro H0
  iapply (ldO c h1 X1) $$ H1; iintro H1
  iapply (ldO c h0 X0) $$ H0; iintro H0
  iapply (ldO c h1 X1) $$ H1; iintro H1
  iapply (ldO c h0 X0) $$ H0; iintro H0
  iapply (ldO c h1 X1) $$ H1; iintro H1
  iapply (ldO c h0 X0) $$ H0; iintro H0
  iapply (ldO c h1 X1) $$ H1; iintro H1
  iapply (ldO c h0 X0) $$ H0; iintro H0
  iapply (ldO c h1 X1) $$ H1; iintro H1
  iapply (ldO c h0 X0) $$ H0; iintro H0
  iapply (ldO c h1 X1) $$ H1; iintro H1
  iapply (ldO c h9 X9) $$ H9; iintro H9
  iapply (stO c h9 X9) $$ H9; iintro H9
  rw [wp_ret]
  imodintro
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iapply (Entails.of_eq (congrArg (owns (c : Thread nD τ) M9 fullShare) (Eq.trans ?heads (attnOut_full X0 X1 X2 X3 X4 X5 X6 X7 X8)))) $$ H9
  case heads => rfl

end Cert.KernelIdeal.Run

end
-- ==== Proof.K.Dat1.lean ====
module

public import proofs.«01_k».proof.Proof.K.Base
public import proofs.«01_k».proof.Proof.K.AttnBody
public import proofs.«01_k».proof.Proof.Gen.KernelIdeal.Launch
public import proofs.«01_k».proof.Proof.Gen.KernelIdeal.Regions
public import Idealize.ShloMosaic.Lib.Pipeline.FrameBody

/-! The attention call: what each device's arrays and buffers hold through it. -/

@[expose] public section

set_option maxRecDepth 4096

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]
variable (V : (c : Dev nD) → Valuation τ sig (Elt F))

local notation "𝕄" => MT nD τ sig Unit (Elt F) ℕ UU ℕ

/-- What array `main_v2_0` holds, as `V` says, where window 0 reads it at point `t`. -/
abbrev part1_0 (c : Dev nD) (t : Fin grid1.N) : S512x2048.Idx → Elt F .bf16 :=
  ((cfg1.win 0).blk t).view.read (Elt F) (V c main_v2_0)

/-- What array `main_v2_1` holds, as `V` says, where window 1 reads it at point `t`. -/
abbrev part1_1 (c : Dev nD) (t : Fin grid1.N) : S512x512.Idx → Elt F .bf16 :=
  ((cfg1.win 1).blk t).view.read (Elt F) (V c main_v2_1)

/-- What array `main_v2_2` holds, as `V` says, where window 2 reads it at point `t`. -/
abbrev part1_2 (c : Dev nD) (t : Fin grid1.N) : S512x32.Idx → Elt F .bf16 :=
  ((cfg1.win 2).blk t).view.read (Elt F) (V c main_v2_2)

/-- What array `main_v2_3` holds, as `V` says, where window 3 reads it at point `t`. -/
abbrev part1_3 (c : Dev nD) (t : Fin grid1.N) : S512x128.Idx → Elt F .bf16 :=
  ((cfg1.win 3).blk t).view.read (Elt F) (V c main_v2_3)

/-- What array `main_v2_4` holds, as `V` says, where window 4 reads it at point `t`. -/
abbrev part1_4 (c : Dev nD) (t : Fin grid1.N) : S512x128.Idx → Elt F .bf16 :=
  ((cfg1.win 4).blk t).view.read (Elt F) (V c main_v2_4)

/-- What array `main_v2_5` holds, as `V` says, where window 5 reads it at point `t`. -/
abbrev part1_5 (c : Dev nD) (t : Fin grid1.N) : S128x2048.Idx → Elt F .bf16 :=
  ((cfg1.win 5).blk t).view.read (Elt F) (V c main_v2_5)

/-- What array `main_v2_6` holds, as `V` says, where window 6 reads it at point `t`. -/
abbrev part1_6 (c : Dev nD) (t : Fin grid1.N) : S128x2048.Idx → Elt F .bf16 :=
  ((cfg1.win 6).blk t).view.read (Elt F) (V c main_v2_6)

/-- What array `main_v2_7` holds, as `V` says, where window 7 reads it at point `t`. -/
abbrev part1_7 (c : Dev nD) (t : Fin grid1.N) : S128x2048.Idx → Elt F .bf16 :=
  ((cfg1.win 7).blk t).view.read (Elt F) (V c main_v2_7)

/-- What array `main_v2_8` holds, as `V` says, where window 8 reads it at point `t`. -/
abbrev part1_8 (c : Dev nD) (t : Fin grid1.N) : S128x2048.Idx → Elt F .bf16 :=
  ((cfg1.win 8).blk t).view.read (Elt F) (V c main_v2_8)

/-- What the body leaves in the result's buffer at point `t`. -/
def res1 (c : Dev nD) (t : Fin grid1.N) : S512x2048.Idx → Elt F .bf16 :=
  attnOut (part1_0 V c t) (part1_1 V c t) (part1_2 V c t) (part1_3 V c t) (part1_4 V c t) (part1_5 V c t) (part1_6 V c t) (part1_7 V c t) (part1_8 V c t)

/-- The call's data: the arrays as `V` says, an input's buffer left as it was found, the result's left with `res1`. -/
def dat1 (c : Dev nD) : Pipeline.Dat τ (Elt F) Unit ℕ UU ℕ cfg1 c where
  A w := V c (Pipeline.arrRef spec1 w)
  after w t := match w with
    | ⟨0, _⟩ => part1_0 V c t
    | ⟨1, _⟩ => part1_1 V c t
    | ⟨2, _⟩ => part1_2 V c t
    | ⟨3, _⟩ => part1_3 V c t
    | ⟨4, _⟩ => part1_4 V c t
    | ⟨5, _⟩ => part1_5 V c t
    | ⟨6, _⟩ => part1_6 V c t
    | ⟨7, _⟩ => part1_7 V c t
    | ⟨8, _⟩ => part1_8 V c t
    | ⟨9, _⟩ => res1 V c t
  Φ _ := Pipeline.scopedRest (Ix := Unit) (Name := ℕ) (U := UU) (Lvl := ℕ) (Val := Elt F) spec1 c
  q _ := fullShare
  owed _ := 0

/-- What the body finds in each operand's buffer is its block at the point; one lemma for each operand. -/
theorem found1_0 (c : Dev nD) (t : Fin grid1.N) (d : (cfg1.win 0).block.Idx → Elt F (cfg1.win 0).elt) :
    (dat1 V c).before 0 t d = part1_0 V c t :=
  (dat1 V c).before_in_eq_fetched 0 rfl (fun _ => rfl) (fun _ _ _ => rfl) (fun _ => rfl) t d
theorem found1_1 (c : Dev nD) (t : Fin grid1.N) (d : (cfg1.win 1).block.Idx → Elt F (cfg1.win 1).elt) :
    (dat1 V c).before 1 t d = part1_1 V c t :=
  (dat1 V c).before_in_eq_fetched 1 rfl (fun _ => rfl) (fun _ _ _ => rfl) (fun _ => rfl) t d
theorem found1_2 (c : Dev nD) (t : Fin grid1.N) (d : (cfg1.win 2).block.Idx → Elt F (cfg1.win 2).elt) :
    (dat1 V c).before 2 t d = part1_2 V c t :=
  (dat1 V c).before_in_eq_fetched 2 rfl (fun _ => rfl) (fun _ _ _ => rfl) (fun _ => rfl) t d
theorem found1_3 (c : Dev nD) (t : Fin grid1.N) (d : (cfg1.win 3).block.Idx → Elt F (cfg1.win 3).elt) :
    (dat1 V c).before 3 t d = part1_3 V c t :=
  (dat1 V c).before_in_eq_fetched 3 rfl (fun _ => rfl) (fun _ _ _ => rfl) (fun _ => rfl) t d
theorem found1_4 (c : Dev nD) (t : Fin grid1.N) (d : (cfg1.win 4).block.Idx → Elt F (cfg1.win 4).elt) :
    (dat1 V c).before 4 t d = part1_4 V c t :=
  (dat1 V c).before_in_eq_fetched 4 rfl (fun _ => rfl) (fun _ _ _ => rfl) (fun _ => rfl) t d
theorem found1_5 (c : Dev nD) (t : Fin grid1.N) (d : (cfg1.win 5).block.Idx → Elt F (cfg1.win 5).elt) :
    (dat1 V c).before 5 t d = part1_5 V c t :=
  (dat1 V c).before_in_eq_fetched 5 rfl (fun _ => rfl) (fun _ _ _ => rfl) (fun _ => rfl) t d
theorem found1_6 (c : Dev nD) (t : Fin grid1.N) (d : (cfg1.win 6).block.Idx → Elt F (cfg1.win 6).elt) :
    (dat1 V c).before 6 t d = part1_6 V c t :=
  (dat1 V c).before_in_eq_fetched 6 rfl (fun _ => rfl) (fun _ _ _ => rfl) (fun _ => rfl) t d
theorem found1_7 (c : Dev nD) (t : Fin grid1.N) (d : (cfg1.win 7).block.Idx → Elt F (cfg1.win 7).elt) :
    (dat1 V c).before 7 t d = part1_7 V c t :=
  (dat1 V c).before_in_eq_fetched 7 rfl (fun _ => rfl) (fun _ _ _ => rfl) (fun _ => rfl) t d
theorem found1_8 (c : Dev nD) (t : Fin grid1.N) (d : (cfg1.win 8).block.Idx → Elt F (cfg1.win 8).elt) :
    (dat1 V c).before 8 t d = part1_8 V c t :=
  (dat1 V c).before_in_eq_fetched 8 rfl (fun _ => rfl) (fun _ _ _ => rfl) (fun _ => rfl) t d

/-- At every point the body turns the buffers as found into the buffers as `dat1` says it leaves them. -/
theorem body1 (c : Dev nD) : Pipeline.BodyObligation (dat1 V c) (defs₀ (F := F)) 𝒱₀ () Set.univ := fun t => by
  rw [bigSep_W1, bigSep_W1]
  rw [show (dat1 V c).Φ t.castSucc = (Pipeline.scopedRest (Ix := Unit) (Name := ℕ) (U := UU) (Lvl := ℕ) (Val := Elt F) spec1 c : sProp 𝕄) from rfl,
    show (dat1 V c).Φ t.succ = (Pipeline.scopedRest (Ix := Unit) (Name := ℕ) (U := UU) (Lvl := ℕ) (Val := Elt F) spec1 c : sProp 𝕄) from rfl,
    show (dat1 V c).owesAt () t.succ = (dat1 V c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  rw [found1_0 V c t d0]; rw [found1_1 V c t d1]; rw [found1_2 V c t d2]; rw [found1_3 V c t d3]; rw [found1_4 V c t d4]; rw [found1_5 V c t d5]; rw [found1_6 V c t d6]; rw [found1_7 V c t d7]; rw [found1_8 V c t d8]
  iapply (attn_body c (grid1.coords t) (stage_whole1 0 (cfg1.slots t 0)) (stage_whole1 1 (cfg1.slots t 1)) (stage_whole1 2 (cfg1.slots t 2)) (stage_whole1 3 (cfg1.slots t 3)) (stage_whole1 4 (cfg1.slots t 4)) (stage_whole1 5 (cfg1.slots t 5)) (stage_whole1 6 (cfg1.slots t 6)) (stage_whole1 7 (cfg1.slots t 7)) (stage_whole1 8 (cfg1.slots t 8)) (stage_whole1 9 (cfg1.slots t 9)) (part1_0 V c t) (part1_1 V c t) (part1_2 V c t) (part1_3 V c t) (part1_4 V c t) (part1_5 V c t) (part1_6 V c t) (part1_7 V c t) (part1_8 V c t) _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

end Cert.KernelIdeal.Run

end
-- ==== Proof.K.OutBody.lean ====
module

public import proofs.«01_k».proof.Proof.K.Whole

/-!
The output projection's body: one column block of the weights, read and multiplied by the attention's whole output.
-/

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ UU ℕ

/-- From its three buffers owned, the body stores the product into the third. -/
theorem out_body (c : Dev nD) (i : grid2.Coords)
    {M0 : Memref sig .tc .vmem S1024x2048 .bf16} (h0 : M0.IsWhole) {M1 : Memref sig .tc .vmem S2048x512 .f32} (h1 : M1.IsWhole)
    {M2 : Memref sig .tc .vmem S1024x512 .f32} (h2 : M2.IsWhole)
    (X0 : S1024x2048.Idx → Elt F .bf16) (X1 : S2048x512.Idx → Elt F .f32) (X2 : S1024x512.Idx → Elt F .f32) (Q : PUnit → sProp 𝕄) :
    iprop(owns (c : Thread nD τ) M0 fullShare X0 ∗ owns (c : Thread nD τ) M1 fullShare X1 ∗ owns (c : Thread nD τ) M2 fullShare X2
        ∗ ((owns (c : Thread nD τ) M0 fullShare X0 ∗ owns (c : Thread nD τ) M1 fullShare X1
            ∗ owns (c : Thread nD τ) M2 fullShare (k2_pay1 X0 X1)) -∗ Q ⟨⟩))
      ⊢ wp frame (wpE (defs₀ (F := F)) 𝒱₀ (c : Thread nD τ) none) Set.univ (cc2__out_body i M0 h0 M1 h1 M2 h2) Q := by
  rw [cc2__out_body_eq_skeleton]
  unfold cc2__out_body_skel
  simp only [Prog.lift, Prog.bind_op, Prog.bind_ret, Prog.pure_eq_ret]
  iintro ⟨H0, H1, H2, Hk⟩
  iapply (ldO c h0 X0) $$ H0
  iintro H0
  iapply (ldO c h1 X1) $$ H1
  iintro H1
  iapply (ldO c h2 X2) $$ H2
  iintro H2
  iapply (stO c h2 X2) $$ H2
  iintro H2
  rw [wp_ret]
  imodintro
  iapply Hk
  isplitl [H0]; · iexact H0
  isplitl [H1]; · iexact H1
  iapply (Entails.of_eq (congrArg (owns (c : Thread nD τ) M2 fullShare) (congrArg₂ k2_pay1 (idx_full _ X0) (idx_full _ X1))))
  iexact H2

end Cert.KernelIdeal.Run

end
-- ==== Proof.K.Dat2.lean ====
module

public import proofs.«01_k».proof.Proof.K.Base
public import proofs.«01_k».proof.Proof.K.OutBody
public import proofs.«01_k».proof.Proof.Gen.KernelIdeal.Launch
public import proofs.«01_k».proof.Proof.Gen.KernelIdeal.Regions
public import Idealize.ShloMosaic.Lib.Pipeline.FrameBody

/-! The output call: what each device's arrays and buffers hold through it. -/

@[expose] public section

set_option maxRecDepth 4096

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]
variable (V : (c : Dev nD) → Valuation τ sig (Elt F))

local notation "𝕄" => MT nD τ sig Unit (Elt F) ℕ UU ℕ

/-- What array `main_v3` holds, as `V` says, where window 0 reads it at point `t`. -/
abbrev part2_0 (c : Dev nD) (t : Fin grid2.N) : S1024x2048.Idx → Elt F .bf16 :=
  ((cfg2.win 0).blk t).view.read (Elt F) (V c main_v3)

/-- What array `main_arg7` holds, as `V` says, where window 1 reads it at point `t`. -/
abbrev part2_1 (c : Dev nD) (t : Fin grid2.N) : S2048x512.Idx → Elt F .f32 :=
  ((cfg2.win 1).blk t).view.read (Elt F) (V c main_arg7)

/-- What the body leaves in the result's buffer at point `t`. -/
def res2 (c : Dev nD) (t : Fin grid2.N) : S1024x512.Idx → Elt F .f32 :=
  k2_pay1 (part2_0 V c t) (part2_1 V c t)

/-- The call's data: the arrays as `V` says, an input's buffer left as it was found, the result's left with `res2`. -/
def dat2 (c : Dev nD) : Pipeline.Dat τ (Elt F) Unit ℕ UU ℕ cfg2 c where
  A w := V c (Pipeline.arrRef spec2 w)
  after w t := match w with
    | ⟨0, _⟩ => part2_0 V c t
    | ⟨1, _⟩ => part2_1 V c t
    | ⟨2, _⟩ => res2 V c t
  Φ _ := Pipeline.scopedRest (Ix := Unit) (Name := ℕ) (U := UU) (Lvl := ℕ) (Val := Elt F) spec2 c
  q _ := fullShare
  owed _ := 0

/-- What the body finds in each operand's buffer is its block at the point; one lemma for each operand. -/
theorem found2_0 (c : Dev nD) (t : Fin grid2.N) (d : (cfg2.win 0).block.Idx → Elt F (cfg2.win 0).elt) :
    (dat2 V c).before 0 t d = part2_0 V c t :=
  (dat2 V c).before_in_eq_fetched 0 rfl (fun _ => rfl) (fun _ _ _ => rfl) (fun _ => rfl) t d
theorem found2_1 (c : Dev nD) (t : Fin grid2.N) (d : (cfg2.win 1).block.Idx → Elt F (cfg2.win 1).elt) :
    (dat2 V c).before 1 t d = part2_1 V c t :=
  (dat2 V c).before_in_eq_fetched 1 rfl (fun _ => rfl) (fun _ _ _ => rfl) (fun _ => rfl) t d

/-- At every point the body turns the buffers as found into the buffers as `dat2` says it leaves them. -/
theorem body2 (c : Dev nD) : Pipeline.BodyObligation (dat2 V c) (defs₀ (F := F)) 𝒱₀ () Set.univ := fun t => by
  rw [bigSep_W2, bigSep_W2]
  rw [show (dat2 V c).Φ t.castSucc = (Pipeline.scopedRest (Ix := Unit) (Name := ℕ) (U := UU) (Lvl := ℕ) (Val := Elt F) spec2 c : sProp 𝕄) from rfl,
    show (dat2 V c).Φ t.succ = (Pipeline.scopedRest (Ix := Unit) (Name := ℕ) (U := UU) (Lvl := ℕ) (Val := Elt F) spec2 c : sProp 𝕄) from rfl,
    show (dat2 V c).owesAt () t.succ = (dat2 V c).owesAt () t.castSucc from rfl]
  iintro ⟨HΦ, Ho, ⟨%d0, H0⟩, ⟨%d1, H1⟩, ⟨%d2, H2⟩⟩
  rw [found2_0 V c t d0]; rw [found2_1 V c t d1]
  iapply (out_body c (grid2.coords t) (stage_whole2 0 (cfg2.slots t 0)) (stage_whole2 1 (cfg2.slots t 1)) (stage_whole2 2 (cfg2.slots t 2)) (part2_0 V c t) (part2_1 V c t) _ _)
  isplitl [H0]; · iexact H0
  isplitl [H1]; · iexact H1
  isplitl [H2]; · iexact H2
  iintro ⟨H0, H1, H2⟩
  isplitl [HΦ]; · iexact HΦ
  isplitl [Ho]; · iexact Ho
  isplitl [H0]; · iexact H0
  isplitl [H1]; · iexact H1
  iexact H2

end Cert.KernelIdeal.Run

end
-- ==== Proof.K.Calls.lean ====
module

public import proofs.«01_k».proof.Proof.K.Dat1
public import proofs.«01_k».proof.Proof.K.Dat2
public import Idealize.ShloMosaic.Lib.Pipeline.RegionsLoop

/-! The attention call and the output call as segments of the program: each takes its arrays out of what a device holds,
runs, and puts them back with its one result filled in. -/

@[expose] public section

set_option maxRecDepth 4096

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]
variable (Va Vb : (c : Dev nD) → Valuation τ sig (Elt F))
variable (L : GSem nD τ sig → Finset Unit) (lv : GSem nD τ sig → Unit → ℕ)

local notation "𝕄" => MT nD τ sig Unit (Elt F) ℕ UU ℕ

/-- Data for the exchange call, which is proved by hand and does not use any. -/
def dat0 (c : Dev nD) : Pipeline.Dat τ (Elt F) Unit ℕ UU ℕ cfg0 c where
  A _ := fun _ => Classical.arbitrary _
  after _ _ := fun _ => Classical.arbitrary _
  Φ _ := BI.emp
  q _ := fullShare
  owed _ := 0

/-- The three calls' data: the attention call entered at `Va`, the output call at `Vb`. -/
def dats : (p : Fin 3) → (c : Dev nD) → Pipeline.Dat τ (Elt F) Unit ℕ UU ℕ (Pipeline.pin (pcfgs (F := F)) (adm (F := F)) p) c
  | ⟨0, _⟩ => fun c => dat0 c
  | ⟨1, _⟩ => fun c => dat1 Va c
  | ⟨2, _⟩ => fun c => dat2 Vb c

variable {Vp : (c : Dev nD) → Valuation τ sig (Elt F)}

set_option backward.isDefEq.respectTransparency.types false in
/-- The attention call, from arrays as `Va` says to the same with the result's array filled in; `R` rides along. -/
def reg1 (R : Dev nD → sProp 𝕄) (hout : ∀ c, Vp c main_v3 = (dat1 Va c).arrAt 9 cfg1.N)
    (hne : ∀ c (b : Ref sig .tc), b ≠ main_v3 → Vp c b = Va c b) :
    Pipeline.RegionSeg (pcfgs (F := F)) (adm (F := F)) (dats Va Vb) () defs₀ 𝒱₀ L lv 1 where
  win := launch1.win.to₀
  block_pos := launch1.block_pos
  stage_whole := launch1.stage_whole
  K := PEmpty
  osem k := k.elim
  ho := Pipeline.OwnSemFacts.none _
  hbody c := (body1 Va c).loose
  hwaits := Pipeline.hwaits_of_owed_zero _ _ _ _ L lv 1 fun _ _ => rfl
  pre c := iprop(unscopedBufs c (fun b => Va c b) ∗ R c ∗ ∃ W, owes (c : Thread nD τ) (0 : CellTallies nD τ sig Unit) W)
  post c := iprop(unscopedBufs c (fun b => Vp c b) ∗ R c ∗ ∃ W, owes (c : Thread nD τ) (0 : CellTallies nD τ sig Unit) W)
  X _ := BI.emp
  Y _ := BI.emp
  Z c := iprop(Pipeline.unscopedRest (Ix := Unit) (Name := ℕ) (U := UU) (Lvl := ℕ) spec1 c (fun b => Va c b) ∗ R c)
  hentry c := by
    rw [Pipeline.ownSems0_none]
    have hsplit := Pipeline.arrays_of_unscopedBufs (p := 1) (pcfgs (F := F)) (adm (F := F)) (dats Va Vb) launch1.win launch1.arr_whole c
      ((dats Va Vb 1 c).share_full fun _ => rfl) (fun b => Va c b) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest] <;> iassumption
  hin c := by
    rw [show (dats Va Vb 1 c).Φ 0 = (Pipeline.scopedRest (Ix := Unit) (Name := ℕ) (U := UU) (Lvl := ℕ) (Val := Elt F) spec1 c : sProp 𝕄) from rfl]
    iintro ⟨-, -, Hr⟩; iexact Hr
  hout c := by
    rw [Pipeline.ownSems0_none, show (dats Va Vb 1 c).Φ (Fin.last _) = (Pipeline.scopedRest (Ix := Unit) (Name := ℕ) (U := UU) (Lvl := ℕ) (Val := Elt F) spec1 c : sProp 𝕄) from rfl]
    iintro Hr
    isplitr; · iempintro
    isplitr; · iempintro
    iexact Hr
  hexit c := by
    have hjoin := Pipeline.unscopedBufs_of_arrays (p := 1) (pcfgs (F := F)) (adm (F := F)) (Ix := Unit) (Name := ℕ) (U := UU) (Lvl := ℕ) launch1.win launch1.arr_whole c
      (dats Va Vb) ((dats Va Vb 1 c).share_full fun _ => rfl) (fun b => Va c b) (fun b => Vp c b) ((dats Va Vb 1 c).arrAt · cfg1.N)
      (fun w => by
        fin_cases w
        · exact ((dats Va Vb 1 c).arrAt_in 0 rfl _).trans (hne c main_v2_0 (by decide)).symm
        · exact ((dats Va Vb 1 c).arrAt_in 1 rfl _).trans (hne c main_v2_1 (by decide)).symm
        · exact ((dats Va Vb 1 c).arrAt_in 2 rfl _).trans (hne c main_v2_2 (by decide)).symm
        · exact ((dats Va Vb 1 c).arrAt_in 3 rfl _).trans (hne c main_v2_3 (by decide)).symm
        · exact ((dats Va Vb 1 c).arrAt_in 4 rfl _).trans (hne c main_v2_4 (by decide)).symm
        · exact ((dats Va Vb 1 c).arrAt_in 5 rfl _).trans (hne c main_v2_5 (by decide)).symm
        · exact ((dats Va Vb 1 c).arrAt_in 6 rfl _).trans (hne c main_v2_6 (by decide)).symm
        · exact ((dats Va Vb 1 c).arrAt_in 7 rfl _).trans (hne c main_v2_7 (by decide)).symm
        · exact ((dats Va Vb 1 c).arrAt_in 8 rfl _).trans (hne c main_v2_8 (by decide)).symm
        · exact (hout c).symm)
      (fun b hb => hne c b fun h => hb (h ▸ Finset.mem_image.mpr ⟨9, Finset.mem_univ _, rfl⟩))
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%W, -, HO⟩; iexists W; iexact HO

set_option backward.isDefEq.respectTransparency.types false in
/-- The output call, from arrays as `Vb` says to the same with the result's array filled in; `R` rides along. -/
def reg2 (R : Dev nD → sProp 𝕄) (hout : ∀ c, Vp c main_v4 = (dat2 Vb c).arrAt 2 cfg2.N)
    (hne : ∀ c (b : Ref sig .tc), b ≠ main_v4 → Vp c b = Vb c b) :
    Pipeline.RegionSeg (pcfgs (F := F)) (adm (F := F)) (dats Va Vb) () defs₀ 𝒱₀ L lv 2 where
  win := launch2.win.to₀
  block_pos := launch2.block_pos
  stage_whole := launch2.stage_whole
  K := PEmpty
  osem k := k.elim
  ho := Pipeline.OwnSemFacts.none _
  hbody c := (body2 Vb c).loose
  hwaits := Pipeline.hwaits_of_owed_zero _ _ _ _ L lv 2 fun _ _ => rfl
  pre c := iprop(unscopedBufs c (fun b => Vb c b) ∗ R c ∗ ∃ W, owes (c : Thread nD τ) (0 : CellTallies nD τ sig Unit) W)
  post c := iprop(unscopedBufs c (fun b => Vp c b) ∗ R c ∗ ∃ W, owes (c : Thread nD τ) (0 : CellTallies nD τ sig Unit) W)
  X _ := BI.emp
  Y _ := BI.emp
  Z c := iprop(Pipeline.unscopedRest (Ix := Unit) (Name := ℕ) (U := UU) (Lvl := ℕ) spec2 c (fun b => Vb c b) ∗ R c)
  hentry c := by
    rw [Pipeline.ownSems0_none]
    have hsplit := Pipeline.arrays_of_unscopedBufs (p := 2) (pcfgs (F := F)) (adm (F := F)) (dats Va Vb) launch2.win launch2.arr_whole c
      ((dats Va Vb 2 c).share_full fun _ => rfl) (fun b => Vb c b) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest] <;> iassumption
  hin c := by
    rw [show (dats Va Vb 2 c).Φ 0 = (Pipeline.scopedRest (Ix := Unit) (Name := ℕ) (U := UU) (Lvl := ℕ) (Val := Elt F) spec2 c : sProp 𝕄) from rfl]
    iintro ⟨-, -, Hr⟩; iexact Hr
  hout c := by
    rw [Pipeline.ownSems0_none, show (dats Va Vb 2 c).Φ (Fin.last _) = (Pipeline.scopedRest (Ix := Unit) (Name := ℕ) (U := UU) (Lvl := ℕ) (Val := Elt F) spec2 c : sProp 𝕄) from rfl]
    iintro Hr
    isplitr; · iempintro
    isplitr; · iempintro
    iexact Hr
  hexit c := by
    have hjoin := Pipeline.unscopedBufs_of_arrays (p := 2) (pcfgs (F := F)) (adm (F := F)) (Ix := Unit) (Name := ℕ) (U := UU) (Lvl := ℕ) launch2.win launch2.arr_whole c
      (dats Va Vb) ((dats Va Vb 2 c).share_full fun _ => rfl) (fun b => Vb c b) (fun b => Vp c b) ((dats Va Vb 2 c).arrAt · cfg2.N)
      (fun w => by
        fin_cases w
        · exact ((dats Va Vb 2 c).arrAt_in 0 rfl _).trans (hne c main_v3 (by decide)).symm
        · exact ((dats Va Vb 2 c).arrAt_in 1 rfl _).trans (hne c main_arg7 (by decide)).symm
        · exact (hout c).symm)
      (fun b hb => hne c b fun h => hb (h ▸ Finset.mem_image.mpr ⟨2, Finset.mem_univ _, rfl⟩))
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%W, -, HO⟩; iexists W; iexact HO

end Cert.KernelIdeal.Run

end
-- ==== Proof.K.Run.lean ====
module

public import proofs.«01_k».proof.Proof.K.Start
public import proofs.«01_k».proof.Proof.K.Calls

/-! The whole program run: from any memory with every counter at zero it ends, every counter at zero again, and every
array as the program's items leave it one after another. -/

@[expose] public section

set_option maxRecDepth 4096

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]
variable (m : (ℓ : Loc nD τ sig) → Buf (Elt F) ℓ)

local notation "𝕄" => MT nD τ sig Unit (Elt F) ℕ UU ℕ

/-! ## The arrays, call after call -/

/-- Device `c`'s arrays after the exchange call. -/
def X2 (c : Dev nD) : Valuation τ sig (Elt F) :=
  Function.update (Function.update (Function.update (Function.update (Function.update (Function.update (Function.update (Function.update (Function.update (V1 m c) main_v2_0 (qArr m c)) main_v2_1 (qrA m c)) main_v2_2 (krA m c)) main_v2_3 (cA m c)) main_v2_4 (cA m (pr c))) main_v2_5 (ukA m c)) main_v2_6 (ukA m (pr c))) main_v2_7 (uvA m c)) main_v2_8 (uvA m (pr c))
def outs₂ : Outs (F := F) := fun _ r c => X2 m c r
/-- The attention call's result. -/
def A3 (c : Dev nD) : Buf (Elt F) ((c : Thread nD τ).loc main_v3) := (dat1 (V2 m (outs₂ m)) c).arrAt 9 cfg1.N
def outs₃ : Outs (F := F) := fun J r c => match J with
  | 2 => X2 m c r
  | _ => Function.update (X2 m c) main_v3 (A3 m c) r
/-- The output call's result. -/
def A4 (c : Dev nD) : Buf (Elt F) ((c : Thread nD τ).loc main_v4) := (dat2 (V3 m (outs₃ m)) c).arrAt 2 cfg2.N
/-- What every call leaves in its results' arrays. -/
def outs : Outs (F := F) := fun J r c => match J with
  | 2 => X2 m c r
  | 3 => Function.update (X2 m c) main_v3 (A3 m c) r
  | _ => Function.update (X2 m c) main_v4 (A4 m c) r

/-- What the exchange leaves is named by `outs`. -/
theorem outs_exchange : Outs2 m (outs m) where
  v0 c := by show X2 m c main_v2_0 = _; simp only [X2, Function.update_self, Function.update_of_ne (StableHlo.devRef_ne_of_ne (by decide) : (Proc.devRef .tc main_v2_0 : DevRef τ sig) ≠ Proc.devRef .tc main_v2_1), Function.update_of_ne (StableHlo.devRef_ne_of_ne (by decide) : (Proc.devRef .tc main_v2_0 : DevRef τ sig) ≠ Proc.devRef .tc main_v2_2), Function.update_of_ne (StableHlo.devRef_ne_of_ne (by decide) : (Proc.devRef .tc main_v2_0 : DevRef τ sig) ≠ Proc.devRef .tc main_v2_3), Function.update_of_ne (StableHlo.devRef_ne_of_ne (by decide) : (Proc.devRef .tc main_v2_0 : DevRef τ sig) ≠ Proc.devRef .tc main_v2_4), Function.update_of_ne (StableHlo.devRef_ne_of_ne (by decide) : (Proc.devRef .tc main_v2_0 : DevRef τ sig) ≠ Proc.devRef .tc main_v2_5), Function.update_of_ne (StableHlo.devRef_ne_of_ne (by decide) : (Proc.devRef .tc main_v2_0 : DevRef τ sig) ≠ Proc.devRef .tc main_v2_6), Function.update_of_ne (StableHlo.devRef_ne_of_ne (by decide) : (Proc.devRef .tc main_v2_0 : DevRef τ sig) ≠ Proc.devRef .tc main_v2_7), Function.update_of_ne (StableHlo.devRef_ne_of_ne (by decide) : (Proc.devRef .tc main_v2_0 : DevRef τ sig) ≠ Proc.devRef .tc main_v2_8)]
  v1 c := by show X2 m c main_v2_1 = _; simp only [X2, Function.update_self, Function.update_of_ne (StableHlo.devRef_ne_of_ne (by decide) : (Proc.devRef .tc main_v2_1 : DevRef τ sig) ≠ Proc.devRef .tc main_v2_2), Function.update_of_ne (StableHlo.devRef_ne_of_ne (by decide) : (Proc.devRef .tc main_v2_1 : DevRef τ sig) ≠ Proc.devRef .tc main_v2_3), Function.update_of_ne (StableHlo.devRef_ne_of_ne (by decide) : (Proc.devRef .tc main_v2_1 : DevRef τ sig) ≠ Proc.devRef .tc main_v2_4), Function.update_of_ne (StableHlo.devRef_ne_of_ne (by decide) : (Proc.devRef .tc main_v2_1 : DevRef τ sig) ≠ Proc.devRef .tc main_v2_5), Function.update_of_ne (StableHlo.devRef_ne_of_ne (by decide) : (Proc.devRef .tc main_v2_1 : DevRef τ sig) ≠ Proc.devRef .tc main_v2_6), Function.update_of_ne (StableHlo.devRef_ne_of_ne (by decide) : (Proc.devRef .tc main_v2_1 : DevRef τ sig) ≠ Proc.devRef .tc main_v2_7), Function.update_of_ne (StableHlo.devRef_ne_of_ne (by decide) : (Proc.devRef .tc main_v2_1 : DevRef τ sig) ≠ Proc.devRef .tc main_v2_8)]
  v2 c := by show X2 m c main_v2_2 = _; simp only [X2, Function.update_self, Function.update_of_ne (StableHlo.devRef_ne_of_ne (by decide) : (Proc.devRef .tc main_v2_2 : DevRef τ sig) ≠ Proc.devRef .tc main_v2_3), Function.update_of_ne (StableHlo.devRef_ne_of_ne (by decide) : (Proc.devRef .tc main_v2_2 : DevRef τ sig) ≠ Proc.devRef .tc main_v2_4), Function.update_of_ne (StableHlo.devRef_ne_of_ne (by decide) : (Proc.devRef .tc main_v2_2 : DevRef τ sig) ≠ Proc.devRef .tc main_v2_5), Function.update_of_ne (StableHlo.devRef_ne_of_ne (by decide) : (Proc.devRef .tc main_v2_2 : DevRef τ sig) ≠ Proc.devRef .tc main_v2_6), Function.update_of_ne (StableHlo.devRef_ne_of_ne (by decide) : (Proc.devRef .tc main_v2_2 : DevRef τ sig) ≠ Proc.devRef .tc main_v2_7), Function.update_of_ne (StableHlo.devRef_ne_of_ne (by decide) : (Proc.devRef .tc main_v2_2 : DevRef τ sig) ≠ Proc.devRef .tc main_v2_8)]
  v3 c := by show X2 m c main_v2_3 = _; simp only [X2, Function.update_self, Function.update_of_ne (StableHlo.devRef_ne_of_ne (by decide) : (Proc.devRef .tc main_v2_3 : DevRef τ sig) ≠ Proc.devRef .tc main_v2_4), Function.update_of_ne (StableHlo.devRef_ne_of_ne (by decide) : (Proc.devRef .tc main_v2_3 : DevRef τ sig) ≠ Proc.devRef .tc main_v2_5), Function.update_of_ne (StableHlo.devRef_ne_of_ne (by decide) : (Proc.devRef .tc main_v2_3 : DevRef τ sig) ≠ Proc.devRef .tc main_v2_6), Function.update_of_ne (StableHlo.devRef_ne_of_ne (by decide) : (Proc.devRef .tc main_v2_3 : DevRef τ sig) ≠ Proc.devRef .tc main_v2_7), Function.update_of_ne (StableHlo.devRef_ne_of_ne (by decide) : (Proc.devRef .tc main_v2_3 : DevRef τ sig) ≠ Proc.devRef .tc main_v2_8)]
  v4 c := by show X2 m c main_v2_4 = _; simp only [X2, Function.update_self, Function.update_of_ne (StableHlo.devRef_ne_of_ne (by decide) : (Proc.devRef .tc main_v2_4 : DevRef τ sig) ≠ Proc.devRef .tc main_v2_5), Function.update_of_ne (StableHlo.devRef_ne_of_ne (by decide) : (Proc.devRef .tc main_v2_4 : DevRef τ sig) ≠ Proc.devRef .tc main_v2_6), Function.update_of_ne (StableHlo.devRef_ne_of_ne (by decide) : (Proc.devRef .tc main_v2_4 : DevRef τ sig) ≠ Proc.devRef .tc main_v2_7), Function.update_of_ne (StableHlo.devRef_ne_of_ne (by decide) : (Proc.devRef .tc main_v2_4 : DevRef τ sig) ≠ Proc.devRef .tc main_v2_8)]
  v5 c := by show X2 m c main_v2_5 = _; simp only [X2, Function.update_self, Function.update_of_ne (StableHlo.devRef_ne_of_ne (by decide) : (Proc.devRef .tc main_v2_5 : DevRef τ sig) ≠ Proc.devRef .tc main_v2_6), Function.update_of_ne (StableHlo.devRef_ne_of_ne (by decide) : (Proc.devRef .tc main_v2_5 : DevRef τ sig) ≠ Proc.devRef .tc main_v2_7), Function.update_of_ne (StableHlo.devRef_ne_of_ne (by decide) : (Proc.devRef .tc main_v2_5 : DevRef τ sig) ≠ Proc.devRef .tc main_v2_8)]
  v6 c := by show X2 m c main_v2_6 = _; simp only [X2, Function.update_self, Function.update_of_ne (StableHlo.devRef_ne_of_ne (by decide) : (Proc.devRef .tc main_v2_6 : DevRef τ sig) ≠ Proc.devRef .tc main_v2_7), Function.update_of_ne (StableHlo.devRef_ne_of_ne (by decide) : (Proc.devRef .tc main_v2_6 : DevRef τ sig) ≠ Proc.devRef .tc main_v2_8)]
  v7 c := by show X2 m c main_v2_7 = _; simp only [X2, Function.update_self, Function.update_of_ne (StableHlo.devRef_ne_of_ne (by decide) : (Proc.devRef .tc main_v2_7 : DevRef τ sig) ≠ Proc.devRef .tc main_v2_8)]
  v8 c := by show X2 m c main_v2_8 = _; simp only [X2, Function.update_self]

/-- The second call's result, after it, -/
theorem V3_v3 (c : Dev nD) : V3 m (outs m) c main_v3 = A3 m c :=
  (Function.update_self ..).trans (show Function.update (X2 m c) (Proc.devRef .tc main_v3) (A3 m c) (Proc.devRef .tc main_v3) = A3 m c from Function.update_self ..)
/-- and the third's. -/
theorem V4_v4 (c : Dev nD) : V4 m (outs m) c main_v4 = A4 m c :=
  (Function.update_self ..).trans (show Function.update (X2 m c) (Proc.devRef .tc main_v4) (A4 m c) (Proc.devRef .tc main_v4) = A4 m c from Function.update_self ..)

/-! ## The program as segments -/

abbrev Va : (c : Dev nD) → Valuation τ sig (Elt F) := V2 m (outs m)
abbrev Vb : (c : Dev nD) → Valuation τ sig (Elt F) := V3 m (outs m)

/-- What rides beside the arrays through the last two calls: the barrier cell at zero. -/
abbrev ride (c : Dev nD) : sProp 𝕄 := semVal (barCell c) 0

/-- What the host stretches carry beside the arrays. -/
def beside : Fin 4 → Dev nD → sProp 𝕄
  | 0 => E0 m
  | _ => E1

def R1 : Pipeline.RegionSeg (pcfgs (F := F)) (adm (F := F)) (dats (Va m) (Vb m)) () defs₀ 𝒱₀ L lv 1 :=
  reg1 (Va m) (Vb m) L lv (Vp := V3 m (outs m)) (fun c => ride c) (fun c => V3_v3 m c) (fun c b hb => V3_of m (outs m) c b (by simpa using hb))
def R2 : Pipeline.RegionSeg (pcfgs (F := F)) (adm (F := F)) (dats (Va m) (Vb m)) () defs₀ 𝒱₀ L lv 2 :=
  reg2 (Va m) (Vb m) L lv (Vp := V4 m (outs m)) (fun c => ride c) (fun c => V4_v4 m c) (fun c b hb => V4_of m (outs m) c b (by simpa using hb))

def items : List (Pipeline.Seg (pcfgs (F := F)) (adm (F := F)) (dats (Va m) (Vb m)) () defs₀ 𝒱₀ L lv) :=
  [.host (seg0 m 𝒱₀ L lv (beside m)), .host (segX m (outs m) (outs_exchange m)), .region (R1 m), .region (R2 m), .host (seg4 m (outs m) 𝒱₀ L lv (beside m))]

/-- What is held after one call is what the next one starts from. -/
theorem R1_pre (c : Dev nD) : iprop(StableHlo.held (c : Thread nD τ) (Pipeline.ucRefs τ sig) (V2 m (outs m) c) ∗ E1 c) ⊢ (R1 m).pre c := by
  rw [← Pipeline.unscopedBufs_held (Ix := Unit) (Name := ℕ) (U := UU) (Lvl := ℕ) c (V2 m (outs m) c)]
  exact .rfl
theorem R1_R2 (c : Dev nD) : (R1 m).post c ⊢ (R2 m).pre c := .rfl
theorem R2_post (c : Dev nD) : (R2 m).post c ⊢ iprop(StableHlo.held (c : Thread nD τ) (Pipeline.ucRefs τ sig) (V4 m (outs m) c) ∗ E1 c) := by
  rw [← Pipeline.unscopedBufs_held (Ix := Unit) (Name := ℕ) (U := UU) (Lvl := ℕ) c (V4 m (outs m) c)]
  exact .rfl

/-- The main function is its items in order. -/
theorem main_items (c : Dev nD) : main (F := F) c = Pipeline.Seg.run (items m) := by
  rewrite [main_chain c, Pipeline.Seg.run_eq_chain, show (items m).map Pipeline.Seg.prog = [
      StableHlo.seq hostOps0,
      Prog.lift (.customCall (Pipeline.entry 0) ()),
      Prog.lift (.customCall (Pipeline.entry 1) ()),
      Prog.lift (.customCall (Pipeline.entry 2) ()),
      StableHlo.seq hostOps3 ] from rfl]
  rfl

/-! ## The run -/

/-- The barrier is the only semaphore that no call allocates. -/
theorem only_bar : ∀ sm : SemLoc sig, sm.isScoped .tc = false → sm = .reg bS := by decide

/-- The end: every array as the last item leaves it, the barrier cell at zero. -/
theorem read_end (c : Dev nD) (s' : Phys nD τ sig (Elt F)) :
    iprop((StableHlo.held (c : Thread nD τ) (Pipeline.ucRefs τ sig) (V5 m (outs m) c) ∗ semVal (barCell c) 0) ∗ SI s')
      ⊢ (|={Set.univ}=> iprop(⌜(∀ b ∈ Pipeline.ucRefs τ sig, s'.mem.mem (c, b) = V5 m (outs m) c b) ∧ s'.mem.sem (barCell c) = 0⌝ ∗ SI s') : sProp 𝕄) := by
  unfold StableHlo.held
  iintro ⟨⟨Hh, Hb⟩, HSI⟩
  icombine HSI Hb gives %hb
  ihave Hr := (pointsTo_read_all (Pipeline.ucRefs τ sig) (fun b => ((c : Thread nD τ).1, b)) (V5 m (outs m) c) s') $$ [Hh HSI]
  · isplitl [Hh] <;> iassumption
  icases Hr with ⟨%h, HSI⟩
  imodintro
  isplitr
  · ipureintro; exact ⟨h, by simpa using hb⟩
  iexact HSI

set_option backward.isDefEq.respectTransparency.types false in
/-- From any memory with every counter at zero the program ends, every array of every device as its items leave it and
    every counter at zero. -/
theorem run_all (ρ : Dev nD → PrngReg) : θ_run defs (onTc (τ := τ) (main (F := F))) ⟨m, fun _ => 0, ρ⟩
    (fun r => (∀ c : Dev nD, ∀ b ∈ Pipeline.ucRefs τ sig, r.2.mem (c, b) = V5 m (outs m) c b) ∧ r.2.sem = fun _ => 0) :=
  Pipeline.θ_run_regions_kit_sems (pcfgs (F := F)) (adm (F := F)) (dats (Va m) (Vb m)) () cellOf_inj EP defs₀ 𝒱₀ L lv m ρ main (items m)
    (fun c Q => by rw [main_items m c])
    (by simp only [items, Pipeline.Seg.pipes_host, Pipeline.Seg.pipes_region, Pipeline.Seg.pipes_nil]; decide)
    (O₀ := O₀) (hL := L_of_ne) (G := stock) (u₀ := u₀) (hu₀ := split₀)
    (T₀ := fun c => iprop(StableHlo.held (c : Thread nD τ) (Pipeline.ucRefs τ sig) (V0 m c) ∗ E0 m c))
    (Tₙ := fun c => iprop(StableHlo.held (c : Thread nD τ) (Pipeline.ucRefs τ sig) (V5 m (outs m) c) ∗ semVal (barCell c) 0))
    (hch := by
      refine ⟨fun c => .rfl, fun c => .rfl, fun c => R1_pre m c, fun c => R1_R2 m c, fun c => R2_post m c, fun c => ?_⟩
      show iprop(StableHlo.held (c : Thread nD τ) (Pipeline.ucRefs τ sig) (V5 m (outs m) c)
          ∗ (semVal (barCell c) 0 ∗ ∃ W, owes (c : Thread nD τ) (0 : CellTallies nD τ sig Unit) W)) ⊢ _
      iintro ⟨Hh, Hb, HO⟩
      isplitr [HO]
      · isplitl [Hh] <;> iassumption
      · iexact HO)
    (hinit := deal m ρ)
    (QY := fun c s => (∀ b ∈ Pipeline.ucRefs τ sig, s.mem (c, b) = V5 m (outs m) c b) ∧ s.sem (barCell c) = 0)
    (hfin := fun c s' => read_end m c s')
    (hQ := fun s h hs => ⟨fun c => (h c).1, sem_eq_zero hs fun c sm hsm => by
      obtain rfl := only_bar sm hsm
      exact (h c).2⟩)

/-- The arrays that the claim reads are held to the end. -/
theorem mem_uc (r : Ref sig .tc) (h : ¬ (Proc.devRef (τ := τ) .tc r).isScoped) : Proc.devRef .tc r ∈ Pipeline.ucRefs τ sig :=
  Finset.mem_filter.mpr ⟨StableHlo.devRef_mem_tcRefs r, h⟩

/-- What the run leaves in the arguments, in the result and in the counters. -/
theorem run_main (ρ : Dev nD → PrngReg) : θ_run defs (onTc (τ := τ) (main (F := F))) ⟨m, fun _ => 0, ρ⟩
    (fun r => (∀ c : Dev nD, r.2.mem ((c.tc : Thread nD τ).loc main_v5) = V5 m (outs m) c main_v5
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7))
      ∧ r.2.sem = fun _ => 0) :=
  (θ_run defs _ _).mono (fun r h => ⟨fun c => ⟨h.1 c _ (mem_uc main_v5 (by decide)),
      (h.1 c _ (mem_uc main_arg0 (by decide))).trans (V5_main_arg0 m (outs m) c),
      (h.1 c _ (mem_uc main_arg1 (by decide))).trans (V5_main_arg1 m (outs m) c),
      (h.1 c _ (mem_uc main_arg2 (by decide))).trans (V5_main_arg2 m (outs m) c),
      (h.1 c _ (mem_uc main_arg3 (by decide))).trans (V5_main_arg3 m (outs m) c),
      (h.1 c _ (mem_uc main_arg4 (by decide))).trans (V5_main_arg4 m (outs m) c),
      (h.1 c _ (mem_uc main_arg5 (by decide))).trans (V5_main_arg5 m (outs m) c),
      (h.1 c _ (mem_uc main_arg6 (by decide))).trans (V5_main_arg6 m (outs m) c),
      (h.1 c _ (mem_uc main_arg7 (by decide))).trans (V5_main_arg7 m (outs m) c)⟩, h.2⟩) (run_all m ρ)

end Cert.KernelIdeal.Run

end
-- ==== Proof.K.Frames.lean ====
module

public import proofs.«01_k».proof.Defs
public import proofs.«01_k».proof.Proof.K.Run
public import proofs.«01_k».proof.Proof.Gen.Kernel
public import proofs.«01_k».proof.Proof.Gen.ReferenceIdeal
public import proofs.«01_k».proof.Proof.Gen.ReferenceIdeal.Run

/-! The claims that the programs run, end with their arguments unchanged and with every counter at zero, and the claim
about the kernel's one named constant. -/

@[expose] public section

set_option maxRecDepth 10000
set_option maxHeartbeats 2000000

noncomputable section

namespace Cert.Frames

open Idealize.ShloMosaic Idealize.ShloMosaic.TcCoe Idealize.SL.Sem

/-- On machine words a named constant is read as its own word: the program with names is then the program without. -/
instance namedWords : Named Bits where
  named _ _ {_} b := b

instance preKernel : Cert.Pre_finite_KernelIdeal.Facts where
  bcast_S_S2x512x2048 := by decide
  reducesTo_S2x512x2048_S_d0_1_2 := by decide
  h_S_ := by decide
  bcast_S_S2048x128 := by decide
  reducesTo_S2048x128_S_d0_1 := by decide
  bcast_S_S128x2048 := by decide
  reducesTo_S128x2048_S_d0_1 := by decide
  bcast_S_S2048x2048 := by decide
  reducesTo_S2048x2048_S_d0_1 := by decide
  bcast_S_S2048x512 := by decide
  reducesTo_S2048x512_S_d0_1 := by decide
  bcast_S_S2048x32 := by decide
  reducesTo_S2048x32_S_d0_1 := by decide

instance preReference : Cert.Pre_finite_ReferenceIdeal.Facts where
  bcast_S_S2x512x2048 := by decide
  reducesTo_S2x512x2048_S_d0_1_2 := by decide
  h_S_ := by decide
  bcast_S_S2048x256 := by decide
  reducesTo_S2048x256_S_d0_1 := by decide
  bcast_S_S256x2048 := by decide
  reducesTo_S256x2048_S_d0_1 := by decide
  bcast_S_S2048x2048 := by decide
  reducesTo_S2048x2048_S_d0_1 := by decide
  bcast_S_S2048x512 := by decide
  reducesTo_S2048x512_S_d0_1 := by decide
  bcast_S_S2048x32 := by decide
  reducesTo_S2048x32_S_d0_1 := by decide

/-- The two programs' bodies, label by label. -/
theorem bodies_eq : (Cert.Kernel.defs₀ (F := Bits)) = Cert.KernelIdeal.defs₀ (F := Bits) := by
  funext p l a
  cases p with
  | tc => match l, a with
    | (0 : Fin 3), _ => rfl
    | (1 : Fin 3), _ => rfl
    | (2 : Fin 3), _ => rfl
  | scScalar _ => rfl
  | scVector _ _ => rfl

/-- The two programs' regions are the same on machine words. -/
theorem defs_eq : (Cert.Kernel.defs (F := Bits)) = Cert.KernelIdeal.defs (F := Bits) :=
  congrArg (Pipeline.defs (Cert.Kernel.pcfgs (F := Bits))) bodies_eq

/-- The two programs' main functions are the same on machine words. -/
theorem main_eq : (Cert.Kernel.main (F := Bits)) = Cert.KernelIdeal.main (F := Bits) := rfl

/-- The kernel on machine words ends, with its arguments unchanged and every counter at zero. -/
theorem frame_kernel : Cert.quiescent_Kernel := fun m ρ _ => by
  rw [defs_eq]
  exact (θ_run (Cert.KernelIdeal.defs (F := Bits)) _ _).mono (fun _ h => ⟨fun c => (h.1 c).2, h.2⟩)
    (Cert.KernelIdeal.Run.run_main (F := Bits) m ρ)

/-- The kernel over the extended reals ends, with its arguments unchanged and every counter at zero. -/
theorem frame_ideal : Cert.quiescent_KernelIdeal := fun m ρ _ =>
  (θ_run (Cert.KernelIdeal.defs (F := Ideal)) _ _).mono (fun _ h => ⟨fun c => (h.1 c).2, h.2⟩)
    (Cert.KernelIdeal.Run.run_main (F := Ideal) m ρ)

/-- The same from arguments of which the precondition holds. -/
theorem frame_ideal_finite : Cert.quiescent_KernelIdeal_pre_finite_KernelIdeal := fun m ρ _ =>
  (θ_run (Cert.KernelIdeal.defs (F := Ideal)) _ _).mono (fun _ h => ⟨fun c => (h.1 c).2, h.2⟩)
    (Cert.KernelIdeal.Run.run_main (F := Ideal) m ρ)

/-- The reference ends, with its arguments unchanged and every counter at zero. -/
theorem frame_reference : Cert.quiescent_ReferenceIdeal := fun m ρ _ =>
  (θ_run (Cert.ReferenceIdeal.defs (F := Ideal)) _ _).mono
    (fun r h => ⟨fun c => (h c).2, Idealize.ShloMosaic.sem_eq_zero_of_no_sems (by decide) r.2⟩)
    (Cert.ReferenceIdeal.Value.run (F := Ideal) m ρ)

/-- The same from arguments of which the precondition holds. -/
theorem frame_reference_finite : Cert.quiescent_ReferenceIdeal_pre_finite_ReferenceIdeal := fun m ρ _ =>
  frame_reference m ρ trivial

/-- The kernel over the extended reals is the kernel, its one constant read by its name. -/
theorem named : Cert.preserves_Kernel_KernelIdeal := IdealRules.named_const.statement _ _ _ _ _ rfl

end Cert.Frames

end
-- ==== Proof.K.Model.lean ====
module

public import Idealize.ShloMosaic.Lib.Pointwise

/-!
The attention as both programs compute it once every input that the scores depend on is a real number. The latent, the
keys, the queries, the scores and the weights are real numbers; the values, the heads' outputs and the result are extended
reals, since the weights of the values and of the last product may be infinite. At the end the facts of extended real
arithmetic that bring a program's operations to these functions.
-/

@[expose] public section

noncomputable section

namespace Cert.Attention

open Idealize.ShloMosaic

/-- The eight input arrays: six of real numbers, and two of extended reals. -/
structure Inputs where
  x : Fin 2 → Fin 512 → Fin 2048 → ℝ
  wdkv : Fin 2048 → Fin 256 → ℝ
  wuk : Fin 256 → Fin 2048 → ℝ
  wuv : Fin 256 → Fin 2048 → EReal
  wq : Fin 2048 → Fin 2048 → ℝ
  wqr : Fin 2048 → Fin 512 → ℝ
  wkr : Fin 2048 → Fin 32 → ℝ
  wo : Fin 2048 → Fin 2048 → EReal

/-- Column `e` of head `h` among the 16 · 128 columns. -/
def col (h : Fin 16) (e : Fin 128) : Fin 2048 := ⟨h.val * 128 + e.val, by omega⟩

/-- Column `r` of head `h` among the 16 · 32 columns of the positional part. -/
def rcol (h : Fin 16) (r : Fin 32) : Fin 512 := ⟨h.val * 32 + r.val, by omega⟩

/-- The head a column belongs to. -/
def hd (j : Fin 2048) : Fin 16 := ⟨j.val / 128, by omega⟩

/-- A column's place in its head. -/
def pl (j : Fin 2048) : Fin 128 := ⟨j.val % 128, by omega⟩

/-- A column is its head's at its place. -/
theorem col_hd_pl (j : Fin 2048) : col (hd j) (pl j) = j := Fin.ext (by show j.val / 128 * 128 + j.val % 128 = j.val; omega)

/-- The factor of the scores: the 32-bit float nearest to one over the square root of 160. -/
def σ : ℝ := 10610843 / 134217728

variable (I : Inputs)

def latent (b : Fin 2) (s : Fin 512) (k : Fin 256) : ℝ := ∑ d, I.x b s d * I.wdkv d k
def keys (b : Fin 2) (s : Fin 512) (j : Fin 2048) : ℝ := ∑ k, latent I b s k * I.wuk k j
def vals (b : Fin 2) (s : Fin 512) (j : Fin 2048) : EReal := ∑ k, ((latent I b s k : ℝ) : EReal) * I.wuv k j
def qs (b : Fin 2) (s : Fin 512) (j : Fin 2048) : ℝ := ∑ d, I.x b s d * I.wq d j
def qrs (b : Fin 2) (s : Fin 512) (j : Fin 512) : ℝ := ∑ d, I.x b s d * I.wqr d j
def krs (b : Fin 2) (s : Fin 512) (j : Fin 32) : ℝ := ∑ d, I.x b s d * I.wkr d j

/-- The score of key position `t` for query position `s` in head `h`, before it is scaled. -/
def score (b : Fin 2) (h : Fin 16) (s t : Fin 512) : ℝ :=
  (∑ e, qs I b s (col h e) * keys I b t (col h e)) + ∑ r, qrs I b s (rcol h r) * krs I b t r

/-- The unnormalised weight: the exponential of the scaled score. -/
def wt (b : Fin 2) (h : Fin 16) (s t : Fin 512) : ℝ := Real.exp (score I b h s t * σ)

/-- Head `h`'s output at place `e`. -/
def headOut (b : Fin 2) (h : Fin 16) (s : Fin 512) (e : Fin 128) : EReal :=
  (∑ t, ((wt I b h s t : ℝ) : EReal) * vals I b t (col h e)) * ((1 / ∑ t, wt I b h s t : ℝ) : EReal)

/-- The result. -/
def out (b : Fin 2) (s : Fin 512) (n : Fin 2048) : EReal := ∑ j, headOut I b (hd j) s (pl j) * I.wo j n

/-! ## Extended reals -/

/-- A finite sum of real numbers is the same sum among the extended reals. -/
theorem sum_coe {ι : Type} (A : Finset ι) (f : ι → ℝ) : ∑ k ∈ A, ((f k : ℝ) : EReal) = ((∑ k ∈ A, f k : ℝ) : EReal) := by
  classical
  induction A using Finset.induction_on with
  | empty => simp
  | insert a A ha ih => rw [Finset.sum_insert ha, Finset.sum_insert ha, ih, EReal.coe_add]

/-- So is a sum of products. -/
theorem sum_mul_coe {ι : Type} [Fintype ι] (f g : ι → ℝ) :
    ∑ k, ((f k : ℝ) : EReal) * ((g k : ℝ) : EReal) = ((∑ k, f k * g k : ℝ) : EReal) := by
  simp only [← EReal.coe_mul, sum_coe]

/-- A common factor that is a real number and not negative comes out of a finite sum of extended reals. -/
theorem sum_mul_nonneg {ι : Type} (A : Finset ι) (f : ι → EReal) {r : ℝ} (hr : 0 ≤ r) :
    ∑ k ∈ A, f k * (r : EReal) = (∑ k ∈ A, f k) * (r : EReal) := by
  classical
  induction A using Finset.induction_on with
  | empty => simp
  | insert a A ha ih =>
    rw [Finset.sum_insert ha, Finset.sum_insert ha, ih,
      EReal.right_distrib_of_nonneg_of_ne_top (EReal.coe_nonneg.mpr hr) (EReal.coe_ne_top r)]

/-- The largest of finitely many real numbers, counted from below all, is a real number. -/
theorem fold_max_coe (f : Fin 512 → ℝ) :
    ∃ M : ℝ, Finset.univ.fold max (⊥ : EReal) (fun t => ((f t : ℝ) : EReal)) = (M : EReal) := by
  refine ⟨_, (EReal.coe_toReal ?_ ?_).symm⟩
  · refine (Finset.fold_max_lt (c := (⊤ : EReal))).mpr ⟨bot_lt_top, fun t _ => EReal.coe_lt_top _⟩ |>.ne
  · refine ((Finset.lt_fold_max (c := (⊥ : EReal)) (f := fun t => ((f t : ℝ) : EReal))).mpr (.inr ⟨(0 : Fin 512), Finset.mem_univ _, EReal.bot_lt_coe _⟩)).ne'

/-- The reference's factor is the real number `σ`. -/
theorem ofBits_σ : Ideal.ofBits .f32 0x3DA1E89B#32 = ((σ : ℝ) : EReal) := by
  unfold σ
  simp [Ideal.ofBits, Ideal.ieee, -EReal.coe_mul]
  norm_num

/-! ## Real arithmetic -/

/-- A row's weights have a positive sum. -/
theorem wt_sum_pos (b : Fin 2) (h : Fin 16) (s : Fin 512) : 0 < ∑ t, wt I b h s t :=
  Finset.sum_pos (fun _ _ => Real.exp_pos _) ⟨0, Finset.mem_univ _⟩

/-- Weights shifted by a common number and normalised one by one give the same mean. -/
theorem shifted (a : Fin 512 → ℝ) (v : Fin 512 → EReal) (M : ℝ) :
    ∑ t, v t * ((Real.exp (a t - M) * (1 / ∑ t', Real.exp (a t' - M)) : ℝ) : EReal)
      = (∑ t, ((Real.exp (a t) : ℝ) : EReal) * v t) * ((1 / ∑ t, Real.exp (a t) : ℝ) : EReal) := by
  have hM : ∀ t, Real.exp (a t - M) = Real.exp (a t) * Real.exp (-M) := fun t => by rw [← Real.exp_add]; rfl
  have hp : (0 : ℝ) < ∑ t, Real.exp (a t) := Finset.sum_pos (fun _ _ => Real.exp_pos _) ⟨0, Finset.mem_univ _⟩
  have hm : Real.exp (-M) ≠ 0 := (Real.exp_pos _).ne'
  have e : ∀ t, Real.exp (a t - M) * (1 / ∑ t', Real.exp (a t' - M)) = Real.exp (a t) * (1 / ∑ t', Real.exp (a t')) := fun t => by
    simp only [hM]
    rw [← Finset.sum_mul]
    field_simp
  rw [← sum_mul_nonneg _ _ (one_div_nonneg.mpr hp.le)]
  refine Finset.sum_congr rfl fun t _ => ?_
  rw [e, EReal.coe_mul, ← mul_assoc, mul_comm (v t)]

/-- Two to the power of a number over the natural logarithm of two is the exponential. -/
theorem two_rpow (y : ℝ) : Real.rpow 2 (y * (Real.log 2)⁻¹) = Real.exp y := by
  have h : Real.log 2 ≠ 0 := (Real.log_pos one_lt_two).ne'
  rw [Real.rpow_eq_pow, Real.rpow_def_of_pos two_pos]
  congr 1
  field_simp

/-- A sum over the 256 latent columns is the sum over the lower and over the upper 128. -/
theorem sum_halves {M : Type} [AddCommMonoid M] (f : Fin 256 → M) :
    ∑ k, f k = (∑ k : Fin 128, f ⟨k.val, by omega⟩) + ∑ k : Fin 128, f ⟨128 + k.val, by omega⟩ :=
  Fin.sum_univ_add (a := 128) (b := 128) f

end Cert.Attention

end
end
-- ==== Proof.K.Heads.lean ====
module

public import proofs.«01_k».proof.Proof.K.Model
public import proofs.«01_k».proof.Proof.K.AttnBody

/-!
What the kernel's bodies compute when what the scores depend on is real numbers: the projections of the first call, the
attention of one batch of the second, and the product of the third.
-/

@[expose] public section

set_option maxRecDepth 16384

noncomputable section

namespace Cert.KernelIdeal.Values

open Cert.KernelIdeal Cert.KernelIdeal.Gen Cert.KernelIdeal.Run
open Idealize.ShloMosaic
open Cert.Attention

/-- The factor the kernel folds into the queries: the reference's, over the natural logarithm of two. -/
def κ₂ : ℝ := (Real.log 2)⁻¹ * (10610843 / 134217728)

/-- The named constant is the real number `κ₂`. -/
theorem named_scale : Named.named (F := Ideal) (φ := .f32) κ "scale_log2e" 0x3DE995B3#32 = ((κ₂ : ℝ) : EReal) :=
  IdealRules.named_const.ideal_named_scalar _ _ _ _ rfl

/-! ## The first call's products -/

/-- The positional keys: a product. -/
theorem pay1_real (X : FVec Ideal S1024x2048 .f32) (W : FVec Ideal S2048x32 .f32) (f : Fin 1024 → Fin 2048 → ℝ) (g : Fin 2048 → Fin 32 → ℝ)
    (hX : ∀ r d, X (ix2 r d) = ((f r d : ℝ) : EReal)) (hW : ∀ d k, W (ix2 d k) = ((g d k : ℝ) : EReal)) (r : Fin 1024) (k : Fin 32) :
    k0_pay1 (F := Ideal) X W (ix2 r k) = ((∑ d, f r d * g d k : ℝ) : EReal) := by
  have h : k0_pay1 (F := Ideal) X W (ix2 r k) = ∑ d, X (ix2 r d) * W (ix2 d k) := by pointwise [k0_pay1]
  rw [h]; simp only [hX, hW, sum_mul_coe]

/-- The latent: a product. -/
theorem pay5_real (X : FVec Ideal S1024x2048 .f32) (W : FVec Ideal S2048x128 .f32) (f : Fin 1024 → Fin 2048 → ℝ) (g : Fin 2048 → Fin 128 → ℝ)
    (hX : ∀ r d, X (ix2 r d) = ((f r d : ℝ) : EReal)) (hW : ∀ d k, W (ix2 d k) = ((g d k : ℝ) : EReal)) (r : Fin 1024) (k : Fin 128) :
    k0_pay5 (F := Ideal) X W (ix2 r k) = ((∑ d, f r d * g d k : ℝ) : EReal) := by
  have h : k0_pay5 (F := Ideal) X W (ix2 r k) = ∑ d, X (ix2 r d) * W (ix2 d k) := by pointwise [k0_pay5]
  rw [h]; simp only [hX, hW, sum_mul_coe]

/-- The queries: a product, scaled. -/
theorem pay2_real (X : FVec Ideal S1024x2048 .f32) (W : FVec Ideal S2048x512 .f32) (f : Fin 1024 → Fin 2048 → ℝ) (g : Fin 2048 → Fin 512 → ℝ)
    (hX : ∀ r d, X (ix2 r d) = ((f r d : ℝ) : EReal)) (hW : ∀ d k, W (ix2 d k) = ((g d k : ℝ) : EReal)) (r : Fin 1024) (k : Fin 512) :
    k0_pay2 (F := Ideal) X W (ix2 r k) = (((∑ d, f r d * g d k) * κ₂ : ℝ) : EReal) := by
  have h : k0_pay2 (F := Ideal) X W (ix2 r k) = (∑ d, X (ix2 r d) * W (ix2 d k)) * Named.named (F := Ideal) (φ := .f32) κ "scale_log2e" 0x3DE995B3#32 := by
    pointwise [k0_pay2]
  rw [h, named_scale]; simp only [hX, hW, ← EReal.coe_mul, sum_coe]

/-- The positional part of the queries: a product, scaled. -/
theorem pay6_real (X : FVec Ideal S1024x2048 .f32) (W : FVec Ideal S2048x512 .f32) (f : Fin 1024 → Fin 2048 → ℝ) (g : Fin 2048 → Fin 512 → ℝ)
    (hX : ∀ r d, X (ix2 r d) = ((f r d : ℝ) : EReal)) (hW : ∀ d k, W (ix2 d k) = ((g d k : ℝ) : EReal)) (r : Fin 1024) (k : Fin 512) :
    k0_pay6 (F := Ideal) X W (ix2 r k) = (((∑ d, f r d * g d k) * κ₂ : ℝ) : EReal) := by
  have h : k0_pay6 (F := Ideal) X W (ix2 r k) = (∑ d, X (ix2 r d) * W (ix2 d k)) * Named.named (F := Ideal) (φ := .f32) κ "scale_log2e" 0x3DE995B3#32 := by
    pointwise [k0_pay6]
  rw [h, named_scale]; simp only [hX, hW, ← EReal.coe_mul, sum_coe]

/-- The keys' weights are sent as they are. -/
theorem pay3_apply (W : FVec Ideal S128x2048 .f32) (a : Fin 128) (b : Fin 2048) : k0_pay3 (F := Ideal) W (ix2 a b) = W (ix2 a b) := by
  pointwise [k0_pay3]

/-- The values' weights are sent as they are. -/
theorem pay4_apply (W : FVec Ideal S128x2048 .f32) (a : Fin 128) (b : Fin 2048) : k0_pay4 (F := Ideal) W (ix2 a b) = W (ix2 a b) := by
  pointwise [k0_pay4]

/-! ## The third call's product -/

/-- One column block of the last product. -/
theorem out_pay_apply (X : FVec Ideal S1024x2048 .bf16) (W : FVec Ideal S2048x512 .f32) (r : Fin 1024) (k : Fin 512) :
    k2_pay1 (F := Ideal) X W (ix2 r k) = ∑ d, X (ix2 r d) * W (ix2 d k) := by pointwise [k2_pay1]

/-! ## The attention of one batch -/

/-- The keys at a position and a column: the two halves of the latent against theirs of the weights. -/
def expand (cl cr : Fin 512 → Fin 128 → ℝ) (wl wr : Fin 128 → Fin 2048 → ℝ) (t : Fin 512) (j : Fin 2048) : ℝ :=
  (∑ k, cl t k * wl k j) + ∑ k, cr t k * wr k j

/-- The values at a position and a column: the same, over weights that may be infinite. -/
def expandE (cl cr : Fin 512 → Fin 128 → ℝ) (wl wr : Fin 128 → Fin 2048 → EReal) (t : Fin 512) (j : Fin 2048) : EReal :=
  (∑ k, ((cl t k : ℝ) : EReal) * wl k j) + ∑ k, ((cr t k : ℝ) : EReal) * wr k j

/-- A head's column, counted the other way round. -/
theorem col_eq (h : Fin 16) (e : Fin 128) (p : 128 * h.val + e.val < 2048) : (⟨128 * h.val + e.val, p⟩ : Fin 2048) = col h e :=
  Fin.ext (by show 128 * h.val + e.val = h.val * 128 + e.val; omega)

/-- Column block `n` of the weights. -/
theorem wCols_apply (X : FVec Ideal S128x2048 .bf16) (n : Fin 4) (k : Fin 128) (e : Fin 512) :
    wCols X n (ix2 k e) = X (ix2 k ⟨512 * n.val + e.val, by omega⟩) := by
  unfold wCols
  congr 1
  funext a
  match a with
  | ⟨0, _⟩ => exact Fin.ext (by show 0 + 1 * k.val = k.val; omega)
  | ⟨1, _⟩ => exact Fin.ext (by show 512 * n.val + 1 * e.val = 512 * n.val + e.val; omega)

/-- Head `h`'s columns of the queries. -/
theorem qCols_apply (X : FVec Ideal S512x2048 .bf16) (h : Fin 16) (s : Fin 512) (e : Fin 128) :
    qCols X h (ix2 s e) = X (ix2 s (col h e)) := by
  unfold qCols
  congr 1
  funext a
  match a with
  | ⟨0, _⟩ => exact Fin.ext (by show 0 + 1 * s.val = s.val; omega)
  | ⟨1, _⟩ => exact Fin.ext (by show 128 * h.val + 1 * e.val = h.val * 128 + e.val; omega)

/-- Head `h`'s columns of the positional part of the queries. -/
theorem rCols_apply (X : FVec Ideal S512x512 .bf16) (h : Fin 16) (s : Fin 512) (e : Fin 32) :
    rCols X h (ix2 s e) = X (ix2 s (rcol h e)) := by
  unfold rCols
  congr 1
  funext a
  match a with
  | ⟨0, _⟩ => exact Fin.ext (by show 0 + 1 * s.val = s.val; omega)
  | ⟨1, _⟩ => exact Fin.ext (by show 32 * h.val + 1 * e.val = h.val * 32 + e.val; omega)

/-- One column block of the keys or values: the own half's product and the peer's, added. -/
theorem chunk_apply (cl cr : FVec Ideal S512x128 .bf16) (wl wr : FVec Ideal S128x2048 .bf16) (n : Fin 4) (t e : Fin 512) :
    chunk cl cr wl wr n (ix2 t e) = (∑ k, cl (ix2 t k) * wl (ix2 k (⟨512 * n.val + e.val, by omega⟩ : Fin 2048)))
      + ∑ k, cr (ix2 t k) * wr (ix2 k (⟨512 * n.val + e.val, by omega⟩ : Fin 2048)) := by
  have h : chunk cl cr wl wr n (ix2 t e)
      = (∑ k, cl (ix2 t k) * wCols wl n (ix2 k e)) + ∑ k, cr (ix2 t k) * wCols wr n (ix2 k e) := by pointwise [chunk]
  rw [h]
  simp only [wCols_apply]

/-- The keys or values, the four column blocks side by side. -/
theorem both_apply (cl cr : FVec Ideal S512x128 .bf16) (wl wr : FVec Ideal S128x2048 .bf16) (t : Fin 512) (j : Fin 2048) :
    both cl cr wl wr (ix2 t j) = (∑ k, cl (ix2 t k) * wl (ix2 k j)) + ∑ k, cr (ix2 t k) * wr (ix2 k j) := by
  have hj := chunk_apply cl cr wl wr ⟨j.val / 512, by omega⟩ t ⟨j.val % 512, by omega⟩
  have e : (⟨512 * (j.val / 512) + j.val % 512, by omega⟩ : Fin 2048) = j := Fin.ext (by show 512 * (j.val / 512) + j.val % 512 = j.val; omega)
  refine Eq.trans ?_ (hj.trans (congrArg (fun j => (∑ k, cl (ix2 t k) * wl (ix2 k j)) + ∑ k, cr (ix2 t k) * wr (ix2 k j)) e))
  unfold both
  exact concatenate_ofFn_apply (t := S512x2048) (s₁ := S512x512) (1 : Fin 2) (fun n => chunk cl cr wl wr n) _ rfl 512 rfl (ix2 t j) ⟨j.val / 512, by omega⟩ rfl
    (ix2 t ⟨j.val % 512, by omega⟩) rfl (fun b hb => by
      match b with
      | ⟨0, _⟩ => rfl
      | ⟨1, _⟩ => exact absurd rfl hb)

/-- The keys. -/
theorem both_real (cl cr : FVec Ideal S512x128 .bf16) (wl wr : FVec Ideal S128x2048 .bf16) (fl fr : Fin 512 → Fin 128 → ℝ)
    (gl gr : Fin 128 → Fin 2048 → ℝ) (hcl : ∀ t k, cl (ix2 t k) = ((fl t k : ℝ) : EReal)) (hcr : ∀ t k, cr (ix2 t k) = ((fr t k : ℝ) : EReal))
    (hwl : ∀ k j, wl (ix2 k j) = ((gl k j : ℝ) : EReal)) (hwr : ∀ k j, wr (ix2 k j) = ((gr k j : ℝ) : EReal))
    (t : Fin 512) (j : Fin 2048) :
    both cl cr wl wr (ix2 t j) = ((expand fl fr gl gr t j : ℝ) : EReal) := by
  rw [both_apply]
  simp only [hcl, hcr, hwl, hwr, ← EReal.coe_mul, sum_coe, ← EReal.coe_add]
  rfl

/-- The values. -/
theorem both_value (cl cr : FVec Ideal S512x128 .bf16) (wl wr : FVec Ideal S128x2048 .bf16) (fl fr : Fin 512 → Fin 128 → ℝ)
    (gl gr : Fin 128 → Fin 2048 → EReal) (hcl : ∀ t k, cl (ix2 t k) = ((fl t k : ℝ) : EReal)) (hcr : ∀ t k, cr (ix2 t k) = ((fr t k : ℝ) : EReal))
    (hwl : ∀ k j, wl (ix2 k j) = gl k j) (hwr : ∀ k j, wr (ix2 k j) = gr k j) (t : Fin 512) (j : Fin 2048) :
    both cl cr wl wr (ix2 t j) = expandE fl fr gl gr t j := by
  rw [both_apply]
  simp only [hcl, hcr, hwl, hwr]
  rfl

/-- The exponent of a weight: the scores the kernel's queries give. -/
def expo (q : Fin 512 → Fin 2048 → ℝ) (qr : Fin 512 → Fin 512 → ℝ) (kr : Fin 512 → Fin 32 → ℝ) (k : Fin 512 → Fin 2048 → ℝ)
    (h : Fin 16) (s t : Fin 512) : ℝ :=
  (∑ e, q s (col h e) * k t (col h e)) + ∑ e, qr s (rcol h e) * kr t e

/-- A head's unnormalised weights: two to the power of the scores. -/
theorem headP_real (q : FVec Ideal S512x2048 .bf16) (qr : FVec Ideal S512x512 .bf16) (kr : FVec Ideal S512x32 .bf16)
    (k : FVec Ideal S512x2048 .bf16) (fq : Fin 512 → Fin 2048 → ℝ) (fqr : Fin 512 → Fin 512 → ℝ) (fkr : Fin 512 → Fin 32 → ℝ)
    (fk : Fin 512 → Fin 2048 → ℝ) (hq : ∀ s j, q (ix2 s j) = ((fq s j : ℝ) : EReal)) (hqr : ∀ s j, qr (ix2 s j) = ((fqr s j : ℝ) : EReal))
    (hkr : ∀ s j, kr (ix2 s j) = ((fkr s j : ℝ) : EReal)) (hk : ∀ s j, k (ix2 s j) = ((fk s j : ℝ) : EReal)) (h : Fin 16) (s t : Fin 512) :
    headP q qr kr k h (ix2 s t) = ((Real.rpow 2 (expo fq fqr fkr fk h s t) : ℝ) : EReal) := by
  have e : headP q qr kr k h (ix2 s t) = Ideal.exp2 ((∑ e, qCols q h (ix2 s e) * k (ix2 t (col h e)))
      + ∑ e, rCols qr h (ix2 s e) * kr (ix2 t e)) := by
    pointwise [headP]
    simp only [col_eq]
    rfl
  rw [e]
  simp only [qCols_apply, rCols_apply, hq, hqr, hkr, hk, ← EReal.coe_mul, sum_coe, ← EReal.coe_add, Ideal.exp2_coe]
  rfl

/-- A head's output: the weighted sum of the values times the reciprocal of the weights' sum. -/
theorem headO_value (q : FVec Ideal S512x2048 .bf16) (qr : FVec Ideal S512x512 .bf16) (kr : FVec Ideal S512x32 .bf16)
    (k v : FVec Ideal S512x2048 .bf16) (p : Fin 512 → Fin 512 → ℝ) (fv : Fin 512 → Fin 2048 → EReal) (h : Fin 16)
    (hp : ∀ s t, headP q qr kr k h (ix2 s t) = ((p s t : ℝ) : EReal)) (hv : ∀ s j, v (ix2 s j) = fv s j)
    (h0 : ∀ s, (∑ t, p s t) ≠ 0) (s : Fin 512) (e : Fin 128) :
    headO q qr kr k v h (ix2 s e) = (∑ t, ((p s t : ℝ) : EReal) * fv t (col h e)) * ((1 / ∑ t, p s t : ℝ) : EReal) := by
  have e' : headO q qr kr k v h (ix2 s e) = (∑ t, headP q qr kr k h (ix2 s t) * v (ix2 t (col h e)))
      * Ideal.div (Ideal.ofBits .f32 0x3F800000#32) (∑ t, headP q qr kr k h (ix2 s t)) := by
    pointwise [headO]
    simp only [col_eq]
  have h1 : Ideal.ofBits .f32 0x3F800000#32 = ((1 : ℝ) : EReal) := by
    simp [Ideal.ofBits, Ideal.ieee, -EReal.coe_mul]
    norm_num
  rw [e', h1]
  simp only [hp, hv, sum_coe, Ideal.div_coe (h0 s), EReal.coe_one, one_mul]

/-- A head's output at a place. -/
def mean (q : Fin 512 → Fin 2048 → ℝ) (qr : Fin 512 → Fin 512 → ℝ) (kr : Fin 512 → Fin 32 → ℝ) (k : Fin 512 → Fin 2048 → ℝ)
    (v : Fin 512 → Fin 2048 → EReal) (h : Fin 16) (s : Fin 512) (e : Fin 128) : EReal :=
  (∑ t, ((Real.rpow 2 (expo q qr kr k h s t) : ℝ) : EReal) * v t (col h e)) * ((1 / ∑ t, Real.rpow 2 (expo q qr kr k h s t) : ℝ) : EReal)

/-- The second call's result at one batch, the sixteen heads side by side. -/
theorem attnOut_value (q : FVec Ideal S512x2048 .bf16) (qr : FVec Ideal S512x512 .bf16) (kr : FVec Ideal S512x32 .bf16)
    (cl cr : FVec Ideal S512x128 .bf16) (ukl ukr uvl uvr : FVec Ideal S128x2048 .bf16)
    (fq : Fin 512 → Fin 2048 → ℝ) (fqr : Fin 512 → Fin 512 → ℝ) (fkr : Fin 512 → Fin 32 → ℝ) (fl fr : Fin 512 → Fin 128 → ℝ)
    (kl kr' : Fin 128 → Fin 2048 → ℝ) (vl vr : Fin 128 → Fin 2048 → EReal)
    (hq : ∀ s j, q (ix2 s j) = ((fq s j : ℝ) : EReal)) (hqr : ∀ s j, qr (ix2 s j) = ((fqr s j : ℝ) : EReal))
    (hkr : ∀ s j, kr (ix2 s j) = ((fkr s j : ℝ) : EReal))
    (hcl : ∀ t k, cl (ix2 t k) = ((fl t k : ℝ) : EReal)) (hcr : ∀ t k, cr (ix2 t k) = ((fr t k : ℝ) : EReal))
    (hkl : ∀ k j, ukl (ix2 k j) = ((kl k j : ℝ) : EReal)) (hkr' : ∀ k j, ukr (ix2 k j) = ((kr' k j : ℝ) : EReal))
    (hvl : ∀ k j, uvl (ix2 k j) = vl k j) (hvr : ∀ k j, uvr (ix2 k j) = vr k j)
    (s : Fin 512) (j : Fin 2048) :
    attnOut q qr kr cl cr ukl ukr uvl uvr (ix2 s j)
      = mean fq fqr fkr (expand fl fr kl kr') (expandE fl fr vl vr) (hd j) s (pl j) := by
  have hk := both_real cl cr ukl ukr fl fr kl kr' hcl hcr hkl hkr'
  have hv := both_value cl cr uvl uvr fl fr vl vr hcl hcr hvl hvr
  have hp := headP_real q qr kr _ fq fqr fkr _ hq hqr hkr hk (hd j)
  have hO := headO_value q qr kr _ _ _ _ (hd j) hp hv
    (fun s => (Finset.sum_pos (fun _ _ => Real.rpow_pos_of_pos two_pos _) ⟨(0 : Fin 512), Finset.mem_univ _⟩).ne') s (pl j)
  refine Eq.trans ?_ hO
  unfold attnOut
  exact concatenate_ofFn_apply (t := S512x2048) (s₁ := S512x128) (1 : Fin 2) (fun h => headO q qr kr (both cl cr ukl ukr) (both cl cr uvl uvr) h) _ rfl 128 rfl (ix2 s j)
    (hd j) rfl (ix2 s (pl j)) rfl (fun b hb => by
      match b with
      | ⟨0, _⟩ => rfl
      | ⟨1, _⟩ => exact absurd rfl hb)

end Cert.KernelIdeal.Values

end
end
-- ==== Proof.K.Parts.lean ====
module

public import proofs.«01_k».proof.Proof.K.Heads
public import proofs.«01_k».proof.Proof.K.Run
public import Idealize.ShloMosaic.Lib.Pipeline.Value

/-!
The arrays of the second and the third call read at an index: the block of a grid point is rows (or columns) of an array,
and what the two calls leave is, row by row, what their bodies compute.
-/

@[expose] public section

set_option maxRecDepth 16384

noncomputable section

namespace Cert.KernelIdeal.Values

open Cert.KernelIdeal Cert.KernelIdeal.Gen Cert.KernelIdeal.Run
open Idealize.ShloMosaic
open Idealize.ShloMosaic.TcCoe
open Idealize.ShloMosaic.Pipeline (Dat Window)
open Cert.Attention

variable {F : FTy → Type} [FloatOps F] [Named F]
variable (V : (c : Dev nD) → Valuation τ sig (Elt F))

/-- The second call has two grid points, -/
theorem lt1 (t : Fin grid1.N) : t.val < 2 := t.isLt
/-- the third has four. -/
theorem lt2 (t : Fin grid2.N) : t.val < 4 := t.isLt

/-! ## The blocks the second call reads -/

/-- Where operand 0's block starts in its array, and which element of the array each of the block's is; the same for the operands after it. -/
theorem off1_0_0 (t : Fin grid1.N) : (win1_0.rect t).off (0 : Fin 2) = t.val * 512 := by revert t; decide
theorem off1_0_1 (t : Fin grid1.N) : (win1_0.rect t).off (1 : Fin 2) = 0 := by revert t; decide
theorem part1_0_apply (c : Dev nD) (t : Fin grid1.N) (s : Fin 512) (j : Fin 2048) :
    part1_0 V c t (ix2 s j) = V c main_v2_0 (ix2 (⟨t.val * 512 + s.val, by have := lt1 t; omega⟩ : Fin 1024) j) := by
  show V c main_v2_0 ((win1_0.rect t).emb (ix2 s j)) = _
  congr 1
  funext a
  match a with
  | ⟨0, _⟩ => exact Fin.ext ((Rect.emb_apply _ _ _).trans (by show (win1_0.rect t).off (0 : Fin 2) + 1 * s.val = t.val * 512 + s.val; rw [off1_0_0]; omega))
  | ⟨1, _⟩ => exact Fin.ext ((Rect.emb_apply _ _ _).trans (by show (win1_0.rect t).off (1 : Fin 2) + 1 * j.val = j.val; rw [off1_0_1]; omega))

theorem off1_1_0 (t : Fin grid1.N) : (win1_1.rect t).off (0 : Fin 2) = t.val * 512 := by revert t; decide
theorem off1_1_1 (t : Fin grid1.N) : (win1_1.rect t).off (1 : Fin 2) = 0 := by revert t; decide
theorem part1_1_apply (c : Dev nD) (t : Fin grid1.N) (s : Fin 512) (j : Fin 512) :
    part1_1 V c t (ix2 s j) = V c main_v2_1 (ix2 (⟨t.val * 512 + s.val, by have := lt1 t; omega⟩ : Fin 1024) j) := by
  show V c main_v2_1 ((win1_1.rect t).emb (ix2 s j)) = _
  congr 1
  funext a
  match a with
  | ⟨0, _⟩ => exact Fin.ext ((Rect.emb_apply _ _ _).trans (by show (win1_1.rect t).off (0 : Fin 2) + 1 * s.val = t.val * 512 + s.val; rw [off1_1_0]; omega))
  | ⟨1, _⟩ => exact Fin.ext ((Rect.emb_apply _ _ _).trans (by show (win1_1.rect t).off (1 : Fin 2) + 1 * j.val = j.val; rw [off1_1_1]; omega))

theorem off1_2_0 (t : Fin grid1.N) : (win1_2.rect t).off (0 : Fin 2) = t.val * 512 := by revert t; decide
theorem off1_2_1 (t : Fin grid1.N) : (win1_2.rect t).off (1 : Fin 2) = 0 := by revert t; decide
theorem part1_2_apply (c : Dev nD) (t : Fin grid1.N) (s : Fin 512) (j : Fin 32) :
    part1_2 V c t (ix2 s j) = V c main_v2_2 (ix2 (⟨t.val * 512 + s.val, by have := lt1 t; omega⟩ : Fin 1024) j) := by
  show V c main_v2_2 ((win1_2.rect t).emb (ix2 s j)) = _
  congr 1
  funext a
  match a with
  | ⟨0, _⟩ => exact Fin.ext ((Rect.emb_apply _ _ _).trans (by show (win1_2.rect t).off (0 : Fin 2) + 1 * s.val = t.val * 512 + s.val; rw [off1_2_0]; omega))
  | ⟨1, _⟩ => exact Fin.ext ((Rect.emb_apply _ _ _).trans (by show (win1_2.rect t).off (1 : Fin 2) + 1 * j.val = j.val; rw [off1_2_1]; omega))

theorem off1_3_0 (t : Fin grid1.N) : (win1_3.rect t).off (0 : Fin 2) = t.val * 512 := by revert t; decide
theorem off1_3_1 (t : Fin grid1.N) : (win1_3.rect t).off (1 : Fin 2) = 0 := by revert t; decide
theorem part1_3_apply (c : Dev nD) (t : Fin grid1.N) (s : Fin 512) (j : Fin 128) :
    part1_3 V c t (ix2 s j) = V c main_v2_3 (ix2 (⟨t.val * 512 + s.val, by have := lt1 t; omega⟩ : Fin 1024) j) := by
  show V c main_v2_3 ((win1_3.rect t).emb (ix2 s j)) = _
  congr 1
  funext a
  match a with
  | ⟨0, _⟩ => exact Fin.ext ((Rect.emb_apply _ _ _).trans (by show (win1_3.rect t).off (0 : Fin 2) + 1 * s.val = t.val * 512 + s.val; rw [off1_3_0]; omega))
  | ⟨1, _⟩ => exact Fin.ext ((Rect.emb_apply _ _ _).trans (by show (win1_3.rect t).off (1 : Fin 2) + 1 * j.val = j.val; rw [off1_3_1]; omega))

theorem off1_4_0 (t : Fin grid1.N) : (win1_4.rect t).off (0 : Fin 2) = t.val * 512 := by revert t; decide
theorem off1_4_1 (t : Fin grid1.N) : (win1_4.rect t).off (1 : Fin 2) = 0 := by revert t; decide
theorem part1_4_apply (c : Dev nD) (t : Fin grid1.N) (s : Fin 512) (j : Fin 128) :
    part1_4 V c t (ix2 s j) = V c main_v2_4 (ix2 (⟨t.val * 512 + s.val, by have := lt1 t; omega⟩ : Fin 1024) j) := by
  show V c main_v2_4 ((win1_4.rect t).emb (ix2 s j)) = _
  congr 1
  funext a
  match a with
  | ⟨0, _⟩ => exact Fin.ext ((Rect.emb_apply _ _ _).trans (by show (win1_4.rect t).off (0 : Fin 2) + 1 * s.val = t.val * 512 + s.val; rw [off1_4_0]; omega))
  | ⟨1, _⟩ => exact Fin.ext ((Rect.emb_apply _ _ _).trans (by show (win1_4.rect t).off (1 : Fin 2) + 1 * j.val = j.val; rw [off1_4_1]; omega))

theorem off1_5_0 (t : Fin grid1.N) : (win1_5.rect t).off (0 : Fin 2) = 0 := by revert t; decide
theorem off1_5_1 (t : Fin grid1.N) : (win1_5.rect t).off (1 : Fin 2) = 0 := by revert t; decide
theorem part1_5_apply (c : Dev nD) (t : Fin grid1.N) (k : Fin 128) (j : Fin 2048) :
    part1_5 V c t (ix2 k j) = V c main_v2_5 (ix2 k j) := by
  show V c main_v2_5 ((win1_5.rect t).emb (ix2 k j)) = _
  congr 1
  funext a
  match a with
  | ⟨0, _⟩ => exact Fin.ext ((Rect.emb_apply _ _ _).trans (by show (win1_5.rect t).off (0 : Fin 2) + 1 * k.val = k.val; rw [off1_5_0]; omega))
  | ⟨1, _⟩ => exact Fin.ext ((Rect.emb_apply _ _ _).trans (by show (win1_5.rect t).off (1 : Fin 2) + 1 * j.val = j.val; rw [off1_5_1]; omega))

theorem off1_6_0 (t : Fin grid1.N) : (win1_6.rect t).off (0 : Fin 2) = 0 := by revert t; decide
theorem off1_6_1 (t : Fin grid1.N) : (win1_6.rect t).off (1 : Fin 2) = 0 := by revert t; decide
theorem part1_6_apply (c : Dev nD) (t : Fin grid1.N) (k : Fin 128) (j : Fin 2048) :
    part1_6 V c t (ix2 k j) = V c main_v2_6 (ix2 k j) := by
  show V c main_v2_6 ((win1_6.rect t).emb (ix2 k j)) = _
  congr 1
  funext a
  match a with
  | ⟨0, _⟩ => exact Fin.ext ((Rect.emb_apply _ _ _).trans (by show (win1_6.rect t).off (0 : Fin 2) + 1 * k.val = k.val; rw [off1_6_0]; omega))
  | ⟨1, _⟩ => exact Fin.ext ((Rect.emb_apply _ _ _).trans (by show (win1_6.rect t).off (1 : Fin 2) + 1 * j.val = j.val; rw [off1_6_1]; omega))

theorem off1_7_0 (t : Fin grid1.N) : (win1_7.rect t).off (0 : Fin 2) = 0 := by revert t; decide
theorem off1_7_1 (t : Fin grid1.N) : (win1_7.rect t).off (1 : Fin 2) = 0 := by revert t; decide
theorem part1_7_apply (c : Dev nD) (t : Fin grid1.N) (k : Fin 128) (j : Fin 2048) :
    part1_7 V c t (ix2 k j) = V c main_v2_7 (ix2 k j) := by
  show V c main_v2_7 ((win1_7.rect t).emb (ix2 k j)) = _
  congr 1
  funext a
  match a with
  | ⟨0, _⟩ => exact Fin.ext ((Rect.emb_apply _ _ _).trans (by show (win1_7.rect t).off (0 : Fin 2) + 1 * k.val = k.val; rw [off1_7_0]; omega))
  | ⟨1, _⟩ => exact Fin.ext ((Rect.emb_apply _ _ _).trans (by show (win1_7.rect t).off (1 : Fin 2) + 1 * j.val = j.val; rw [off1_7_1]; omega))

theorem off1_8_0 (t : Fin grid1.N) : (win1_8.rect t).off (0 : Fin 2) = 0 := by revert t; decide
theorem off1_8_1 (t : Fin grid1.N) : (win1_8.rect t).off (1 : Fin 2) = 0 := by revert t; decide
theorem part1_8_apply (c : Dev nD) (t : Fin grid1.N) (k : Fin 128) (j : Fin 2048) :
    part1_8 V c t (ix2 k j) = V c main_v2_8 (ix2 k j) := by
  show V c main_v2_8 ((win1_8.rect t).emb (ix2 k j)) = _
  congr 1
  funext a
  match a with
  | ⟨0, _⟩ => exact Fin.ext ((Rect.emb_apply _ _ _).trans (by show (win1_8.rect t).off (0 : Fin 2) + 1 * k.val = k.val; rw [off1_8_0]; omega))
  | ⟨1, _⟩ => exact Fin.ext ((Rect.emb_apply _ _ _).trans (by show (win1_8.rect t).off (1 : Fin 2) + 1 * j.val = j.val; rw [off1_8_1]; omega))

/-! ## The blocks the third call reads -/

/-- The same for the third call. -/
theorem off2_0_0 (t : Fin grid2.N) : (win2_0.rect t).off (0 : Fin 2) = 0 := by revert t; decide
theorem off2_0_1 (t : Fin grid2.N) : (win2_0.rect t).off (1 : Fin 2) = 0 := by revert t; decide
theorem part2_0_apply (c : Dev nD) (t : Fin grid2.N) (r : Fin 1024) (j : Fin 2048) :
    part2_0 V c t (ix2 r j) = V c main_v3 (ix2 r j) := by
  show V c main_v3 ((win2_0.rect t).emb (ix2 r j)) = _
  congr 1
  funext a
  match a with
  | ⟨0, _⟩ => exact Fin.ext ((Rect.emb_apply _ _ _).trans (by show (win2_0.rect t).off (0 : Fin 2) + 1 * r.val = r.val; rw [off2_0_0]; omega))
  | ⟨1, _⟩ => exact Fin.ext ((Rect.emb_apply _ _ _).trans (by show (win2_0.rect t).off (1 : Fin 2) + 1 * j.val = j.val; rw [off2_0_1]; omega))

theorem off2_1_0 (t : Fin grid2.N) : (win2_1.rect t).off (0 : Fin 2) = 0 := by revert t; decide
theorem off2_1_1 (t : Fin grid2.N) : (win2_1.rect t).off (1 : Fin 2) = t.val * 512 := by revert t; decide
theorem part2_1_apply (c : Dev nD) (t : Fin grid2.N) (d : Fin 2048) (j : Fin 512) :
    part2_1 V c t (ix2 d j) = V c main_arg7 (ix2 d (⟨t.val * 512 + j.val, by have := lt2 t; omega⟩ : Fin 2048)) := by
  show V c main_arg7 ((win2_1.rect t).emb (ix2 d j)) = _
  congr 1
  funext a
  match a with
  | ⟨0, _⟩ => exact Fin.ext ((Rect.emb_apply _ _ _).trans (by show (win2_1.rect t).off (0 : Fin 2) + 1 * d.val = d.val; rw [off2_1_0]; omega))
  | ⟨1, _⟩ => exact Fin.ext ((Rect.emb_apply _ _ _).trans (by show (win2_1.rect t).off (1 : Fin 2) + 1 * j.val = t.val * 512 + j.val; rw [off2_1_1]; omega))

/-! ## What the two calls leave -/

/-- Where the second call's result block starts. -/
theorem off1_9_0 (t : Fin grid1.N) : (win1_9.rect t).off (0 : Fin 2) = t.val * 512 := by revert t; decide
theorem off1_9_1 (t : Fin grid1.N) : (win1_9.rect t).off (1 : Fin 2) = 0 := by revert t; decide

/-- Result blocks of different points have no element in common. -/
theorem disj1 (t t' : Fin cfg1.N) (_ : (cfg1.win 9).flush t = true) (_ : (cfg1.win 9).flush t' = true) (h : t ≠ t') :
    Disjoint ((cfg1.win 9).blk t).view.set ((cfg1.win 9).blk t').view.set :=
  (cfg1.win 9).disjoint_blk ((by decide : ∀ t t' : Fin grid1.N, t ≠ t' → win1_9.index t ≠ win1_9.index t') t t' h)

/-- The second call leaves, at row `512 t + s`, row `s` of what its body stores at point `t`. -/
theorem left1 (c : Dev nD) (t : Fin grid1.N) (s : Fin 512) (j : Fin 2048) :
    (dat1 V c).arrAt 9 cfg1.N (ix2 (⟨t.val * 512 + s.val, by have := lt1 t; omega⟩ : Fin 1024) j) = res1 V c t (ix2 s j) := by
  refine Eq.trans (congrArg ((dat1 V c).arrAt 9 cfg1.N) ?_) ((dat1 V c).arrAt_emb_eq_flushed 9 disj1 t (flush1_9 t) (ix2 s j))
  funext a
  match a with
  | ⟨0, _⟩ => exact (Fin.ext ((Rect.emb_apply (win1_9.rect t) (ix2 s j) (0 : Fin 2)).trans (by show (win1_9.rect t).off (0 : Fin 2) + 1 * s.val = t.val * 512 + s.val; rw [off1_9_0]; omega))).symm
  | ⟨1, _⟩ => exact (Fin.ext ((Rect.emb_apply (win1_9.rect t) (ix2 s j) (1 : Fin 2)).trans (by show (win1_9.rect t).off (1 : Fin 2) + 1 * j.val = j.val; rw [off1_9_1]; omega))).symm

/-- Where the third call's result block starts. -/
theorem off2_2_0 (t : Fin grid2.N) : (win2_2.rect t).off (0 : Fin 2) = 0 := by revert t; decide
theorem off2_2_1 (t : Fin grid2.N) : (win2_2.rect t).off (1 : Fin 2) = t.val * 512 := by revert t; decide

/-- Result blocks of different points have no element in common. -/
theorem disj2 (t t' : Fin cfg2.N) (_ : (cfg2.win 2).flush t = true) (_ : (cfg2.win 2).flush t' = true) (h : t ≠ t') :
    Disjoint ((cfg2.win 2).blk t).view.set ((cfg2.win 2).blk t').view.set :=
  (cfg2.win 2).disjoint_blk ((by decide : ∀ t t' : Fin grid2.N, t ≠ t' → win2_2.index t ≠ win2_2.index t') t t' h)

/-- The third call leaves, at column `512 t + j`, column `j` of what its body stores at point `t`. -/
theorem left2 (c : Dev nD) (t : Fin grid2.N) (r : Fin 1024) (j : Fin 512) :
    (dat2 V c).arrAt 2 cfg2.N (ix2 r (⟨t.val * 512 + j.val, by have := lt2 t; omega⟩ : Fin 2048)) = res2 V c t (ix2 r j) := by
  refine Eq.trans (congrArg ((dat2 V c).arrAt 2 cfg2.N) ?_) ((dat2 V c).arrAt_emb_eq_flushed 2 disj2 t (flush2_2 t) (ix2 r j))
  funext a
  match a with
  | ⟨0, _⟩ => exact (Fin.ext ((Rect.emb_apply (win2_2.rect t) (ix2 r j) (0 : Fin 2)).trans (by show (win2_2.rect t).off (0 : Fin 2) + 1 * r.val = r.val; rw [off2_2_0]; omega))).symm
  | ⟨1, _⟩ => exact (Fin.ext ((Rect.emb_apply (win2_2.rect t) (ix2 r j) (1 : Fin 2)).trans (by show (win2_2.rect t).off (1 : Fin 2) + 1 * j.val = t.val * 512 + j.val; rw [off2_2_1]; omega))).symm

end Cert.KernelIdeal.Values

end
end
-- ==== Proof.K.Kern.lean ====
module

public import proofs.«01_k».proof.Proof.K.Parts

/-!
The kernel's value: when every device's arguments are its blocks of the model's input arrays, what each of the three
calls leaves is, index by index, the model's, and so is the result on every device.
-/

@[expose] public section

set_option maxRecDepth 16384

noncomputable section

namespace Cert.KernelIdeal.Values

open Cert.KernelIdeal Cert.KernelIdeal.Gen Cert.KernelIdeal.Run
open Idealize.ShloMosaic
open Idealize.ShloMosaic.TcCoe
open Cert.Attention

/-! ## Rows and halves -/

/-- The batch a row of the 1024 belongs to. -/
def rb (r : Fin 1024) : Fin 2 := ⟨r.val / 512, by omega⟩
/-- The row's position in its batch. -/
def rs (r : Fin 1024) : Fin 512 := ⟨r.val % 512, by omega⟩

/-- Device `c`'s coordinate on the first mesh axis. -/
def side (c : Dev nD) : Fin 2 := ⟨c.val / 8, by have : c.val < 16 := c.isLt; omega⟩

/-- The peer's coordinate is the other one. -/
theorem side_pr (c : Dev nD) : side (pr c) = 1 - side c := by revert c; decide

/-- Column `k` of half `p` of the 256 latent columns. -/
def half (p : Fin 2) (k : Fin 128) : Fin 256 := ⟨p.val * 128 + k.val, by omega⟩

/-- A sum over the latent columns is the sum over one half and over the other, whichever comes first. -/
theorem sum_sides {M : Type} [AddCommMonoid M] (p : Fin 2) (f : Fin 256 → M) : (∑ k, f (half p k)) + ∑ k, f (half (1 - p) k) = ∑ k, f k := by
  have e0 : ∀ k : Fin 128, half 0 k = ⟨k.val, by omega⟩ := fun k => Fin.ext (by show 0 * 128 + k.val = k.val; omega)
  have e1 : ∀ k : Fin 128, half 1 k = ⟨128 + k.val, by omega⟩ := fun k => Fin.ext (by show 1 * 128 + k.val = 128 + k.val; omega)
  rw [sum_halves f]
  match p with
  | 0 => show (∑ k, f (half 0 k)) + ∑ k, f (half 1 k) = _; simp only [e0, e1]
  | 1 => show (∑ k, f (half 1 k)) + ∑ k, f (half 0 k) = _; simp only [e0, e1]; exact add_comm _ _

/-- Every device's arguments are its blocks of the inputs. -/
structure Holds (m : (ℓ : Loc nD τ sig) → Buf (Elt Ideal) ℓ) (I : Inputs) : Prop where
  x : ∀ (c : Dev nD) b s d, m ((c.tc : Thread nD τ).loc main_arg0) (ix3 b s d) = ((I.x b s d : ℝ) : EReal)
  wdkv : ∀ (c : Dev nD) d k, m ((c.tc : Thread nD τ).loc main_arg1) (ix2 d k) = ((I.wdkv d (half (side c) k) : ℝ) : EReal)
  wuk : ∀ (c : Dev nD) k j, m ((c.tc : Thread nD τ).loc main_arg2) (ix2 k j) = ((I.wuk (half (side c) k) j : ℝ) : EReal)
  wuv : ∀ (c : Dev nD) k j, m ((c.tc : Thread nD τ).loc main_arg3) (ix2 k j) = I.wuv (half (side c) k) j
  wq : ∀ (c : Dev nD) d j, m ((c.tc : Thread nD τ).loc main_arg4) (ix2 d j) = ((I.wq d j : ℝ) : EReal)
  wqr : ∀ (c : Dev nD) d j, m ((c.tc : Thread nD τ).loc main_arg5) (ix2 d j) = ((I.wqr d j : ℝ) : EReal)
  wkr : ∀ (c : Dev nD) d j, m ((c.tc : Thread nD τ).loc main_arg6) (ix2 d j) = ((I.wkr d j : ℝ) : EReal)
  wo : ∀ (c : Dev nD) d j, m ((c.tc : Thread nD τ).loc main_arg7) (ix2 d j) = I.wo d j

variable {m : (ℓ : Loc nD τ sig) → Buf (Elt Ideal) ℓ} {I : Inputs} (h : Holds m I)

/-! ## The first call -/

/-- The first call reads the input with batch and position in one axis. -/
theorem xA_eq (c : Dev nD) : xA m c = shapeCast S1024x2048 (m ((c.tc : Thread nD τ).loc main_arg0)) shapeCasts_S2x512x2048_S1024x2048 := by
  unfold xA
  after_results_simp <;> rfl

include h

/-- The input as the first call reads it. -/
theorem xA_real (c : Dev nD) (r : Fin 1024) (d : Fin 2048) : xA m c (ix2 r d) = ((I.x (rb r) (rs r) d : ℝ) : EReal) := by
  have e : ∀ X : FVec Ideal S2x512x2048 .f32, shapeCast S1024x2048 X shapeCasts_S2x512x2048_S1024x2048 (ix2 r d)
      = X (ix3 (rb r) (rs r) d) := fun X => by pointwise; rfl
  exact (congrFun (xA_eq c) _).trans ((e _).trans (h.x c (rb r) (rs r) d))

/-- The latent columns that device `c` computes are those of its half. -/
theorem cA_real (c : Dev nD) (r : Fin 1024) (k : Fin 128) :
    cA m c (ix2 r k) = ((latent I (rb r) (rs r) (half (side c) k) : ℝ) : EReal) :=
  pay5_real (xA m c) (wdkvA m c) _ (fun d k => I.wdkv d (half (side c) k)) (xA_real h c)
    (fun d k => (congrFun (V1_of m c main_arg1 (by decide)) _).trans (h.wdkv c d k)) r k

/-- The keys' weights that device `c` sends. -/
theorem ukA_real (c : Dev nD) (k : Fin 128) (j : Fin 2048) : ukA m c (ix2 k j) = ((I.wuk (half (side c) k) j : ℝ) : EReal) :=
  (pay3_apply (wukA m c) k j).trans ((congrFun (V1_of m c main_arg2 (by decide)) _).trans (h.wuk c k j))

/-- The values' weights that device `c` sends. -/
theorem uvA_value (c : Dev nD) (k : Fin 128) (j : Fin 2048) : uvA m c (ix2 k j) = I.wuv (half (side c) k) j :=
  (pay4_apply (wuvA m c) k j).trans ((congrFun (V1_of m c main_arg3 (by decide)) _).trans (h.wuv c k j))

/-- The positional part of the queries, scaled. -/
theorem qrA_real (c : Dev nD) (r : Fin 1024) (j : Fin 512) : qrA m c (ix2 r j) = ((qrs I (rb r) (rs r) j * κ₂ : ℝ) : EReal) :=
  pay6_real (xA m c) (wqrA m c) _ I.wqr (xA_real h c)
    (fun d k => (congrFun (V1_of m c main_arg5 (by decide)) _).trans (h.wqr c d k)) r j

/-- The positional keys. -/
theorem krA_real (c : Dev nD) (r : Fin 1024) (j : Fin 32) : krA m c (ix2 r j) = ((krs I (rb r) (rs r) j : ℝ) : EReal) :=
  pay1_real (xA m c) (wkrA m c) _ I.wkr (xA_real h c)
    (fun d k => (congrFun (V1_of m c main_arg6 (by decide)) _).trans (h.wkr c d k)) r j

/-- The column block of the queries' weights at a grid point. -/
theorem wqB_real (c : Dev nD) (t : Fin grid0.N) (d : Fin 2048) (j : Fin 512) :
    wqB m c t (ix2 d j) = ((I.wq d (⟨t.val * 512 + j.val, by have : t.val < 4 := t.isLt; omega⟩ : Fin 2048) : ℝ) : EReal) := by
  refine Eq.trans ?_ (h.wq c d _)
  refine Eq.trans (congrFun (V1_of m c main_arg4 (by decide)) _) (congrArg (m ((c.tc : Thread nD τ).loc main_arg4)) ?_)
  funext a
  match a with
  | ⟨0, _⟩ => exact Fin.ext ((Rect.emb_apply _ _ _).trans (by show (win0_4.rect t).off (0 : Fin 2) + 1 * d.val = d.val; rw [rect4_off0]; omega))
  | ⟨1, _⟩ => exact Fin.ext ((Rect.emb_apply _ _ _).trans (by show (win0_4.rect t).off (1 : Fin 2) + 1 * j.val = t.val * 512 + j.val; rw [rect4_off1]; omega))

/-- The queries, scaled, put together from the four column blocks. -/
theorem qArr_real (c : Dev nD) (r : Fin 1024) (j : Fin 2048) : qArr m c (ix2 r j) = ((qs I (rb r) (rs r) j * κ₂ : ℝ) : EReal) := by
  have e := pay2_real (xA m c) (wqB m c (colPt j.val j.isLt)) _ _ (xA_real h c) (wqB_real h c (colPt j.val j.isLt)) r ⟨j.val % 512, Nat.mod_lt _ (by decide)⟩
  have ej : (⟨(colPt j.val j.isLt).val * 512 + j.val % 512, by show j.val / 512 * 512 + j.val % 512 < 2048; omega⟩ : Fin 2048) = j :=
    Fin.ext (by show j.val / 512 * 512 + j.val % 512 = j.val; omega)
  refine Eq.trans ?_ (e.trans ?_)
  · show k0_pay2 _ _ _ = k0_pay2 _ _ _
    congr 1
    funext a
    match a with
    | ⟨0, _⟩ => rfl
    | ⟨1, _⟩ => rfl
  · show ((((∑ d, I.x (rb r) (rs r) d * I.wq d _) * κ₂ : ℝ)) : EReal) = _
    rw [ej]
    rfl

/-! ## The second call -/

/-- Two halves of the latent against theirs of the keys' weights are the keys, on every device. -/
theorem expand_keys (c : Dev nD) (b : Fin 2) :
    expand (fun t k => latent I b t (half (side c) k)) (fun t k => latent I b t (half (side (pr c)) k))
      (fun k j => I.wuk (half (side c) k) j) (fun k j => I.wuk (half (side (pr c)) k) j) = keys I b := by
  funext t j
  rw [side_pr]
  exact sum_sides (side c) (fun k => latent I b t k * I.wuk k j)

/-- Two halves of the latent against theirs of the values' weights are the values, on every device. -/
theorem expand_vals (c : Dev nD) (b : Fin 2) :
    expandE (fun t k => latent I b t (half (side c) k)) (fun t k => latent I b t (half (side (pr c)) k))
      (fun k j => I.wuv (half (side c) k) j) (fun k j => I.wuv (half (side (pr c)) k) j) = vals I b := by
  funext t j
  rw [side_pr]
  exact sum_sides (side c) (fun k => ((latent I b t k : ℝ) : EReal) * I.wuv k j)

omit h in
/-- With the factor folded into the queries, two to the power of the scores is the model's weight. -/
theorem pow_wt (b : Fin 2) (g : Fin 16) (s t : Fin 512) :
    Real.rpow 2 (expo (fun s j => qs I b s j * κ₂) (fun s j => qrs I b s j * κ₂) (krs I b) (keys I b) g s t) = wt I b g s t := by
  have e : expo (fun s j => qs I b s j * κ₂) (fun s j => qrs I b s j * κ₂) (krs I b) (keys I b) g s t
      = score I b g s t * σ * (Real.log 2)⁻¹ := by
    unfold expo score κ₂ σ
    rw [add_mul, add_mul, Finset.sum_mul, Finset.sum_mul, Finset.sum_mul, Finset.sum_mul]
    congr 1 <;> exact Finset.sum_congr rfl fun _ _ => by ring
  rw [e, two_rpow]
  rfl

omit h in
/-- The kernel's weighted mean is the model's head output. -/
theorem mean_headOut (b : Fin 2) (g : Fin 16) (s : Fin 512) (e : Fin 128) :
    mean (fun s j => qs I b s j * κ₂) (fun s j => qrs I b s j * κ₂) (krs I b) (keys I b) (vals I b) g s e = headOut I b g s e := by
  unfold mean headOut
  simp only [pow_wt]

omit h in
/-- What the first call leaves, as the whole program names it, -/
theorem outs_two (r : Ref sig .tc) (c : Dev nD) : outs m 2 r c = X2 m c r := rfl
omit h in
/-- as the second call names it, -/
theorem outs₂_two (r : Ref sig .tc) (c : Dev nD) : outs₂ m 2 r c = X2 m c r := rfl
omit h in
/-- and that the two agree. -/
theorem both_two (r : Ref sig .tc) (c : Dev nD) : outs₂ m 2 r c = outs m 2 r c := (outs₂_two r c).trans (outs_two r c).symm

omit h in
/-- The second call starts from what the exchange leaves. -/
theorem exchanged : Outs2 m (outs₂ m) where
  v0 c := (both_two main_v2_0 c).trans ((outs_exchange m).v0 c)
  v1 c := (both_two main_v2_1 c).trans ((outs_exchange m).v1 c)
  v2 c := (both_two main_v2_2 c).trans ((outs_exchange m).v2 c)
  v3 c := (both_two main_v2_3 c).trans ((outs_exchange m).v3 c)
  v4 c := (both_two main_v2_4 c).trans ((outs_exchange m).v4 c)
  v5 c := (both_two main_v2_5 c).trans ((outs_exchange m).v5 c)
  v6 c := (both_two main_v2_6 c).trans ((outs_exchange m).v6 c)
  v7 c := (both_two main_v2_7 c).trans ((outs_exchange m).v7 c)
  v8 c := (both_two main_v2_8 c).trans ((outs_exchange m).v8 c)

/-- The point of a batch in the second call's grid. -/
def pt1 (b : Fin 2) : Fin grid1.N := ⟨b.val, by show b.val < 2; exact b.isLt⟩

omit h in
/-- The batch of a row of the second call's block. -/
theorem rb_at (b : Fin 2) (s : Fin 512) (p) : rb ⟨(pt1 b).val * 512 + s.val, p⟩ = b :=
  Fin.ext (by show (b.val * 512 + s.val) / 512 = b.val; omega)

omit h in
/-- The position of a row of the second call's block. -/
theorem rs_at (b : Fin 2) (s : Fin 512) (p) : rs ⟨(pt1 b).val * 512 + s.val, p⟩ = s :=
  Fin.ext (by show (b.val * 512 + s.val) % 512 = s.val; omega)

/-- What the second call reads at batch `b`: the scaled queries, -/
theorem in1_0 (c : Dev nD) (b : Fin 2) (s : Fin 512) (j : Fin 2048) :
    part1_0 (V2 m (outs₂ m)) c (pt1 b) (ix2 s j) = ((qs I b s j * κ₂ : ℝ) : EReal) := by
  refine (part1_0_apply (V2 m (outs₂ m)) c (pt1 b) s j).trans ((congrFun (V2_v2_0 m (outs₂ m) exchanged c) _).trans ((qArr_real h c _ j).trans ?_))
  rw [rb_at, rs_at]

/-- their positional part, -/
theorem in1_1 (c : Dev nD) (b : Fin 2) (s : Fin 512) (j : Fin 512) :
    part1_1 (V2 m (outs₂ m)) c (pt1 b) (ix2 s j) = ((qrs I b s j * κ₂ : ℝ) : EReal) := by
  refine (part1_1_apply (V2 m (outs₂ m)) c (pt1 b) s j).trans ((congrFun (V2_v2_1 m (outs₂ m) exchanged c) _).trans ((qrA_real h c _ j).trans ?_))
  rw [rb_at, rs_at]

/-- the positional keys, -/
theorem in1_2 (c : Dev nD) (b : Fin 2) (s : Fin 512) (j : Fin 32) :
    part1_2 (V2 m (outs₂ m)) c (pt1 b) (ix2 s j) = ((krs I b s j : ℝ) : EReal) := by
  refine (part1_2_apply (V2 m (outs₂ m)) c (pt1 b) s j).trans ((congrFun (V2_v2_2 m (outs₂ m) exchanged c) _).trans ((krA_real h c _ j).trans ?_))
  rw [rb_at, rs_at]

/-- the own half of the latent, -/
theorem in1_3 (c : Dev nD) (b : Fin 2) (s : Fin 512) (j : Fin 128) :
    part1_3 (V2 m (outs₂ m)) c (pt1 b) (ix2 s j) = ((latent I b s (half (side c) j) : ℝ) : EReal) := by
  refine (part1_3_apply (V2 m (outs₂ m)) c (pt1 b) s j).trans ((congrFun (V2_v2_3 m (outs₂ m) exchanged c) _).trans ((cA_real h c _ j).trans ?_))
  rw [rb_at, rs_at]

/-- the peer's half, -/
theorem in1_4 (c : Dev nD) (b : Fin 2) (s : Fin 512) (j : Fin 128) :
    part1_4 (V2 m (outs₂ m)) c (pt1 b) (ix2 s j) = ((latent I b s (half (side (pr c)) j) : ℝ) : EReal) := by
  refine (part1_4_apply (V2 m (outs₂ m)) c (pt1 b) s j).trans ((congrFun (V2_v2_4 m (outs₂ m) exchanged c) _).trans ((cA_real h (pr c) _ j).trans ?_))
  rw [rb_at, rs_at]

/-- the own half of the keys' weights, -/
theorem in1_5 (c : Dev nD) (b : Fin 2) (k : Fin 128) (j : Fin 2048) :
    part1_5 (V2 m (outs₂ m)) c (pt1 b) (ix2 k j) = ((I.wuk (half (side c) k) j : ℝ) : EReal) :=
  (part1_5_apply (V2 m (outs₂ m)) c (pt1 b) k j).trans ((congrFun (V2_v2_5 m (outs₂ m) exchanged c) _).trans (ukA_real h c k j))

/-- the peer's half, -/
theorem in1_6 (c : Dev nD) (b : Fin 2) (k : Fin 128) (j : Fin 2048) :
    part1_6 (V2 m (outs₂ m)) c (pt1 b) (ix2 k j) = ((I.wuk (half (side (pr c)) k) j : ℝ) : EReal) :=
  (part1_6_apply (V2 m (outs₂ m)) c (pt1 b) k j).trans ((congrFun (V2_v2_6 m (outs₂ m) exchanged c) _).trans (ukA_real h (pr c) k j))

/-- the own half of the values' weights, -/
theorem in1_7 (c : Dev nD) (b : Fin 2) (k : Fin 128) (j : Fin 2048) :
    part1_7 (V2 m (outs₂ m)) c (pt1 b) (ix2 k j) = I.wuv (half (side c) k) j :=
  (part1_7_apply (V2 m (outs₂ m)) c (pt1 b) k j).trans ((congrFun (V2_v2_7 m (outs₂ m) exchanged c) _).trans (uvA_value h c k j))

/-- and the peer's half. -/
theorem in1_8 (c : Dev nD) (b : Fin 2) (k : Fin 128) (j : Fin 2048) :
    part1_8 (V2 m (outs₂ m)) c (pt1 b) (ix2 k j) = I.wuv (half (side (pr c)) k) j :=
  (part1_8_apply (V2 m (outs₂ m)) c (pt1 b) k j).trans ((congrFun (V2_v2_8 m (outs₂ m) exchanged c) _).trans (uvA_value h (pr c) k j))

/-- What the second call computes at batch `b` is the heads' outputs. -/
theorem res1_value (c : Dev nD) (b : Fin 2) (s : Fin 512) (j : Fin 2048) :
    res1 (V2 m (outs₂ m)) c (pt1 b) (ix2 s j) = headOut I b (hd j) s (pl j) := by
  unfold res1
  refine (attnOut_value _ _ _ _ _ _ _ _ _ _ _ _ _ _ _ _ _ _ (in1_0 h c b) (in1_1 h c b) (in1_2 h c b) (in1_3 h c b) (in1_4 h c b)
    (in1_5 h c b) (in1_6 h c b) (in1_7 h c b) (in1_8 h c b) s j).trans ?_
  rw [expand_keys h c, expand_vals h c, mean_headOut]

/-- The heads' outputs at a row of batch `b`, -/
theorem A3_at (c : Dev nD) (b : Fin 2) (s : Fin 512) (j : Fin 2048) (p : b.val * 512 + s.val < 1024) :
    A3 m c (ix2 (⟨b.val * 512 + s.val, p⟩ : Fin 1024) j) = headOut I b (hd j) s (pl j) :=
  (left1 (V2 m (outs₂ m)) c (pt1 b) s j).trans (res1_value h c b s j)

/-- and at any row. -/
theorem A3_value (c : Dev nD) (r : Fin 1024) (j : Fin 2048) : A3 m c (ix2 r j) = headOut I (rb r) (hd j) (rs r) (pl j) := by
  refine Eq.trans (congrArg (A3 m c) ?_) (A3_at h c (rb r) (rs r) j (by show r.val / 512 * 512 + r.val % 512 < 1024; omega))
  exact congrArg (fun r => ix2 r j) (Fin.ext (by show r.val = r.val / 512 * 512 + r.val % 512; omega))

/-! ## The third call and the result -/

omit h in
/-- The third call finds the last weights unchanged, -/
theorem V3_wo (c : Dev nD) : V3 m (outs₃ m) c main_arg7 = m ((c.tc : Thread nD τ).loc main_arg7) :=
  (V3_of m _ c main_arg7 (by decide)).trans ((V2_of m _ c main_arg7 (by decide)).trans (V1_of m c main_arg7 (by decide)))

omit h in
/-- and the heads' outputs where the second call left them. -/
theorem V3_mid (c : Dev nD) : V3 m (outs₃ m) c main_v3 = A3 m c :=
  (Function.update_self ..).trans (show Function.update (X2 m c) (Proc.devRef .tc main_v3) (A3 m c) (Proc.devRef .tc main_v3) = A3 m c from Function.update_self ..)

/-- The result at a column of block `t`, -/
theorem A4_at (c : Dev nD) (t : Fin grid2.N) (r : Fin 1024) (j : Fin 512) :
    A4 m c (ix2 r (⟨t.val * 512 + j.val, by have := lt2 t; omega⟩ : Fin 2048))
      = out I (rb r) (rs r) ⟨t.val * 512 + j.val, by have := lt2 t; omega⟩ := by
  refine (left2 (V3 m (outs₃ m)) c t r j).trans ?_
  refine (out_pay_apply _ _ r j).trans (Finset.sum_congr rfl fun d _ => ?_)
  rw [part2_0_apply, V3_mid, A3_value h, part2_1_apply, V3_wo, h.wo]

/-- and at any column. -/
theorem A4_value (c : Dev nD) (r : Fin 1024) (n : Fin 2048) : A4 m c (ix2 r n) = out I (rb r) (rs r) n := by
  have e : (⟨(n.val / 512) * 512 + n.val % 512, by omega⟩ : Fin 2048) = n := Fin.ext (by show n.val / 512 * 512 + n.val % 512 = n.val; omega)
  have := A4_at h c ⟨n.val / 512, by show n.val / 512 < 4; omega⟩ r ⟨n.val % 512, Nat.mod_lt _ (by decide)⟩
  exact (congrArg (fun n => A4 m c (ix2 r n)) e.symm).trans (this.trans (congrArg (fun n => out I (rb r) (rs r) n) e))

omit h in
/-- The program's result is the third call's with batch and position in two axes. -/
theorem V5_eq (c : Dev nD) : V5 m (outs m) c main_v5 = shapeCast S2x512x2048 (A4 m c) shapeCasts_S1024x2048_S2x512x2048 := by
  rw [← V4_v4]
  after_results_simp <;> rfl

/-- The kernel's result, on every device. -/
theorem result_value (c : Dev nD) (b : Fin 2) (s : Fin 512) (n : Fin 2048) :
    V5 m (outs m) c main_v5 (ix3 b s n) = out I b s n := by
  rw [V5_eq]
  have e : ∀ A : FVec Ideal S1024x2048 .f32, shapeCast S2x512x2048 A shapeCasts_S1024x2048_S2x512x2048 (ix3 b s n)
      = A (ix2 (⟨b.val * 512 + s.val, by omega⟩ : Fin 1024) n) := fun A => by pointwise
  refine (e (A4 m c)).trans ((A4_value h c _ n).trans ?_)
  have hb : rb ⟨b.val * 512 + s.val, by omega⟩ = b := Fin.ext (by show (b.val * 512 + s.val) / 512 = b.val; omega)
  have hs : rs ⟨b.val * 512 + s.val, by omega⟩ = s := Fin.ext (by show (b.val * 512 + s.val) % 512 = s.val; omega)
  rw [hb, hs]

end Cert.KernelIdeal.Values

end
end
-- ==== Proof.K.Ref.lean ====
module

public import proofs.«01_k».proof.Proof.K.Model
public import proofs.«01_k».proof.Proof.Gen.ReferenceIdeal.Run

/-!
What the reference computes when its inputs are real numbers: stage by stage, the array of each stage read at an index is
the real number the model of the attention has there.
-/

@[expose] public section

set_option maxRecDepth 16384

noncomputable section

namespace Cert.ReferenceIdeal.Stages

open Cert.ReferenceIdeal Cert.ReferenceIdeal.Gen
open Idealize.ShloMosaic
open Cert.Attention

/-! ## The stages -/

/-- The latent. -/
def rC (X : FVec Ideal S2x512x2048 .f32) (W : FVec Ideal S2048x256 .f32) : FVec Ideal S2x512x256 .f32 :=
  Host.dotGeneral dot_S2x512x2048_S2048x256_S2x512x256_2_0_01_1_n_n none X W

/-- The keys, or the values, from the latent. -/
def rE (C : FVec Ideal S2x512x256 .f32) (W : FVec Ideal S256x2048 .f32) : FVec Ideal S2x512x2048 .f32 :=
  Host.dotGeneral dot_S2x512x256_S256x2048_S2x512x2048_2_0_01_1_n_n none C W

/-- The queries; also the last product. -/
def rQ (X : FVec Ideal S2x512x2048 .f32) (W : FVec Ideal S2048x2048 .f32) : FVec Ideal S2x512x2048 .f32 :=
  Host.dotGeneral dot_S2x512x2048_S2048x2048_S2x512x2048_2_0_01_1_n_n none X W

/-- The positional part of the queries. -/
def rR (X : FVec Ideal S2x512x2048 .f32) (W : FVec Ideal S2048x512 .f32) : FVec Ideal S2x512x512 .f32 :=
  Host.dotGeneral dot_S2x512x2048_S2048x512_S2x512x512_2_0_01_1_n_n none X W

/-- The positional part of the keys. -/
def rT (X : FVec Ideal S2x512x2048 .f32) (W : FVec Ideal S2048x32 .f32) : FVec Ideal S2x512x32 .f32 :=
  Host.dotGeneral dot_S2x512x2048_S2048x32_S2x512x32_2_0_01_1_n_n none X W

/-- The scaled scores. -/
def rS (Q K : FVec Ideal S2x512x2048 .f32) (R : FVec Ideal S2x512x512 .f32) (T : FVec Ideal S2x512x32 .f32) :
    FVec Ideal S2x16x512x512 .f32 :=
  mulf (addf (Host.dotGeneral dot_S2x512x16x128_S2x512x16x128_S2x16x512x512_3_3_1_1_02_02 none
      (shapeCast _ Q shapeCasts_S2x512x2048_S2x512x16x128) (shapeCast _ K shapeCasts_S2x512x2048_S2x512x16x128))
    (Host.dotGeneral dot_S2x512x16x32_S2x512x16x32_S2x16x512x512_3_3_1_1_02_02 none (shapeCast _ R shapeCasts_S2x512x512_S2x512x16x32)
      (broadcastInDim S2x512x16x32 ![0, 1, 2, 3] bcast_S2x512x1x32_S2x512x16x32_0_1_2_3
        (shapeCast _ T shapeCasts_S2x512x32_S2x512x1x32))))
    (broadcastInDim S2x16x512x512 ![] bcast_S_S2x16x512x512 (constant S_ .f32 0x3DA1E89B#32))

/-- The exponentials of the scores, each less the largest of its row. -/
def rP (S : FVec Ideal S2x16x512x512 .f32) : FVec Ideal S2x16x512x512 .f32 :=
  Host.exp (subf S (broadcastInDim S2x16x512x512 ![0, 1, 2, 3] bcast_S2x16x512x1_S2x16x512x512_0_1_2_3
    (broadcastInDim S2x16x512x1 ![0, 1, 2] bcast_S2x16x512_S2x16x512x1_0_1_2
      (Host.reduce FloatOps.maximumf S (constant S_ .f32 0xFF800000#32) reducesTo_S2x16x512x512_S2x16x512_d3 h_S_))))

/-- The weights, normalised row by row. -/
def rD (P : FVec Ideal S2x16x512x512 .f32) : FVec Ideal S2x16x512x512 .f32 :=
  Host.divf P (broadcastInDim S2x16x512x512 ![0, 1, 2, 3] bcast_S2x16x512x1_S2x16x512x512_0_1_2_3
    (broadcastInDim S2x16x512x1 ![0, 1, 2] bcast_S2x16x512_S2x16x512x1_0_1_2
      (Host.reduceAdd P (constant S_ .f32 0x00000000#32) reducesTo_S2x16x512x512_S2x16x512_d3 h_S_)))

/-- The heads' outputs side by side. -/
def rO (V : FVec Ideal S2x512x2048 .f32) (D : FVec Ideal S2x16x512x512 .f32) : FVec Ideal S2x512x2048 .f32 :=
  shapeCast _ (transpose S2x512x16x128 [0, 3, 1, 2]
    (Host.dotGeneral dot_S2x512x16x128_S2x16x512x512_S2x16x128x512_1_3_3_2_02_01 none
      (shapeCast _ V shapeCasts_S2x512x2048_S2x512x16x128) D) transposes_S2x16x128x512_S2x512x16x128_0_3_1_2)
    shapeCasts_S2x512x16x128_S2x512x2048

/-- All the stages. -/
def refTerm (x : FVec Ideal S2x512x2048 .f32) (wdkv : FVec Ideal S2048x256 .f32) (wuk wuv : FVec Ideal S256x2048 .f32)
    (wq : FVec Ideal S2048x2048 .f32) (wqr : FVec Ideal S2048x512 .f32) (wkr : FVec Ideal S2048x32 .f32)
    (wo : FVec Ideal S2048x2048 .f32) : FVec Ideal S2x512x2048 .f32 :=
  rQ (rO (rE (rC x wdkv) wuv) (rD (rP (rS (rQ x wq) (rE (rC x wdkv) wuk) (rR x wqr) (rT x wkr))))) wo

set_option maxHeartbeats 2000000 in
/-- The program's result is the stages, composed. -/
theorem res_eq (m : (ℓ : Loc nD τ sig) → Buf (Elt Ideal) ℓ) (c : Dev nD) :
    Value.res_main_v29 m c = refTerm (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7)) := rfl

/-! ## Their values over real scores -/

/-- The latent. -/
theorem rC_real (X : FVec Ideal S2x512x2048 .f32) (W : FVec Ideal S2048x256 .f32) (f : Fin 2 → Fin 512 → Fin 2048 → ℝ)
    (g : Fin 2048 → Fin 256 → ℝ) (hX : ∀ b s d, X (ix3 b s d) = ((f b s d : ℝ) : EReal)) (hW : ∀ d k, W (ix2 d k) = ((g d k : ℝ) : EReal))
    (b : Fin 2) (s : Fin 512) (k : Fin 256) : rC X W (ix3 b s k) = ((∑ d, f b s d * g d k : ℝ) : EReal) := by
  have h : rC X W (ix3 b s k) = ∑ d, X (ix3 b s d) * W (ix2 d k) := by pointwise [rC]
  rw [h]; simp only [hX, hW, sum_mul_coe]

/-- The product with a latent, over extended reals. -/
theorem rE_apply (X : FVec Ideal S2x512x256 .f32) (W : FVec Ideal S256x2048 .f32) (b : Fin 2) (s : Fin 512) (k : Fin 2048) :
    rE X W (ix3 b s k) = ∑ d, X (ix3 b s d) * W (ix2 d k) := by pointwise [rE]

/-- The keys. -/
theorem rE_real (X : FVec Ideal S2x512x256 .f32) (W : FVec Ideal S256x2048 .f32) (f : Fin 2 → Fin 512 → Fin 256 → ℝ)
    (g : Fin 256 → Fin 2048 → ℝ) (hX : ∀ b s d, X (ix3 b s d) = ((f b s d : ℝ) : EReal)) (hW : ∀ d k, W (ix2 d k) = ((g d k : ℝ) : EReal))
    (b : Fin 2) (s : Fin 512) (k : Fin 2048) : rE X W (ix3 b s k) = ((∑ d, f b s d * g d k : ℝ) : EReal) := by
  rw [rE_apply]; simp only [hX, hW, sum_mul_coe]

/-- The products with square weights, over extended reals. -/
theorem rQ_apply (X : FVec Ideal S2x512x2048 .f32) (W : FVec Ideal S2048x2048 .f32) (b : Fin 2) (s : Fin 512) (k : Fin 2048) :
    rQ X W (ix3 b s k) = ∑ d, X (ix3 b s d) * W (ix2 d k) := by pointwise [rQ]

/-- The queries. -/
theorem rQ_real (X : FVec Ideal S2x512x2048 .f32) (W : FVec Ideal S2048x2048 .f32) (f : Fin 2 → Fin 512 → Fin 2048 → ℝ)
    (g : Fin 2048 → Fin 2048 → ℝ) (hX : ∀ b s d, X (ix3 b s d) = ((f b s d : ℝ) : EReal)) (hW : ∀ d k, W (ix2 d k) = ((g d k : ℝ) : EReal))
    (b : Fin 2) (s : Fin 512) (k : Fin 2048) : rQ X W (ix3 b s k) = ((∑ d, f b s d * g d k : ℝ) : EReal) := by
  rw [rQ_apply]; simp only [hX, hW, sum_mul_coe]

/-- The positional part of the queries. -/
theorem rR_real (X : FVec Ideal S2x512x2048 .f32) (W : FVec Ideal S2048x512 .f32) (f : Fin 2 → Fin 512 → Fin 2048 → ℝ)
    (g : Fin 2048 → Fin 512 → ℝ) (hX : ∀ b s d, X (ix3 b s d) = ((f b s d : ℝ) : EReal)) (hW : ∀ d k, W (ix2 d k) = ((g d k : ℝ) : EReal))
    (b : Fin 2) (s : Fin 512) (k : Fin 512) : rR X W (ix3 b s k) = ((∑ d, f b s d * g d k : ℝ) : EReal) := by
  have h : rR X W (ix3 b s k) = ∑ d, X (ix3 b s d) * W (ix2 d k) := by pointwise [rR]
  rw [h]; simp only [hX, hW, sum_mul_coe]

/-- The positional keys. -/
theorem rT_real (X : FVec Ideal S2x512x2048 .f32) (W : FVec Ideal S2048x32 .f32) (f : Fin 2 → Fin 512 → Fin 2048 → ℝ)
    (g : Fin 2048 → Fin 32 → ℝ) (hX : ∀ b s d, X (ix3 b s d) = ((f b s d : ℝ) : EReal)) (hW : ∀ d k, W (ix2 d k) = ((g d k : ℝ) : EReal))
    (b : Fin 2) (s : Fin 512) (k : Fin 32) : rT X W (ix3 b s k) = ((∑ d, f b s d * g d k : ℝ) : EReal) := by
  have h : rT X W (ix3 b s k) = ∑ d, X (ix3 b s d) * W (ix2 d k) := by pointwise [rT]
  rw [h]; simp only [hX, hW, sum_mul_coe]

/-- The scaled scores. -/
theorem rS_real (Q K : FVec Ideal S2x512x2048 .f32) (R : FVec Ideal S2x512x512 .f32) (T : FVec Ideal S2x512x32 .f32)
    (q k : Fin 2 → Fin 512 → Fin 2048 → ℝ) (r : Fin 2 → Fin 512 → Fin 512 → ℝ) (t : Fin 2 → Fin 512 → Fin 32 → ℝ)
    (hQ : ∀ b s d, Q (ix3 b s d) = ((q b s d : ℝ) : EReal)) (hK : ∀ b s d, K (ix3 b s d) = ((k b s d : ℝ) : EReal))
    (hR : ∀ b s d, R (ix3 b s d) = ((r b s d : ℝ) : EReal)) (hT : ∀ b s d, T (ix3 b s d) = ((t b s d : ℝ) : EReal))
    (b : Fin 2) (h : Fin 16) (s u : Fin 512) :
    rS Q K R T (ix4 b h s u)
      = ((((∑ e, q b s (col h e) * k b u (col h e)) + ∑ e, r b s (rcol h e) * t b u e) * σ : ℝ) : EReal) := by
  have e : rS Q K R T (ix4 b h s u)
      = ((∑ e, Q (ix3 b s (col h e)) * K (ix3 b u (col h e))) + ∑ e, R (ix3 b s (rcol h e)) * T (ix3 b u e))
        * Ideal.ofBits .f32 0x3DA1E89B#32 := by
    pointwise [rS]
    rfl
  rw [e]; simp only [hQ, hK, hR, hT, ofBits_σ, ← EReal.coe_mul, sum_coe, ← EReal.coe_add]

/-- The exponentials, shifted by some number for each row. -/
theorem rP_real (S : FVec Ideal S2x16x512x512 .f32) (a : Fin 2 → Fin 16 → Fin 512 → Fin 512 → ℝ)
    (hS : ∀ b h s t, S (ix4 b h s t) = ((a b h s t : ℝ) : EReal)) (b : Fin 2) (h : Fin 16) (s : Fin 512) :
    ∃ M : ℝ, ∀ t, rP S (ix4 b h s t) = ((Real.exp (a b h s t - M) : ℝ) : EReal) := by
  obtain ⟨M, hM⟩ := fold_max_coe fun t => a b h s t
  refine ⟨M, fun t => ?_⟩
  have e : rP S (ix4 b h s t) = Ideal.exp (S (ix4 b h s t)
      - Finset.univ.fold max (Ideal.ofBits .f32 0xFF800000#32) (fun x => S (ix4 b h s x))) := by
    pointwise [rP]
  have hb : Ideal.ofBits .f32 0xFF800000#32 = ⊥ := by simp [Ideal.ofBits, Ideal.ieee]
  rw [e, hb]
  simp only [hS, hM, ← EReal.coe_sub, Ideal.exp_coe]

/-- The weights normalised by their row's sum. -/
theorem rD_real (P : FVec Ideal S2x16x512x512 .f32) (p : Fin 512 → ℝ) (b : Fin 2) (h : Fin 16) (s : Fin 512)
    (hP : ∀ t, P (ix4 b h s t) = ((p t : ℝ) : EReal)) (h0 : (∑ t, p t) ≠ 0) (t : Fin 512) :
    rD P (ix4 b h s t) = ((p t * (1 / ∑ t', p t') : ℝ) : EReal) := by
  have e : rD P (ix4 b h s t) = Ideal.div (P (ix4 b h s t)) (∑ x, P (ix4 b h s x)) := by
    pointwise [rD]
  rw [e]
  simp only [hP, sum_coe, Ideal.div_coe h0, ← EReal.coe_mul]

/-- The heads' outputs: sums of values by weights. -/
theorem rO_value (V : FVec Ideal S2x512x2048 .f32) (D : FVec Ideal S2x16x512x512 .f32) (v : Fin 2 → Fin 512 → Fin 2048 → EReal)
    (w : Fin 2 → Fin 16 → Fin 512 → Fin 512 → ℝ) (hV : ∀ b s d, V (ix3 b s d) = v b s d)
    (hD : ∀ b h s t, D (ix4 b h s t) = ((w b h s t : ℝ) : EReal)) (b : Fin 2) (s : Fin 512) (j : Fin 2048) :
    rO V D (ix3 b s j) = ∑ t, v b t (col (hd j) (pl j)) * ((w b (hd j) s t : ℝ) : EReal) := by
  have e : rO V D (ix3 b s j) = ∑ t, V (ix3 b t j) * D (ix4 b (hd j) s t) := by
    pointwise [rO]
    rfl
  rw [e]; simp only [hV, hD, col_hd_pl]

/-! ## The reference over real scores -/

/-- The reference's result. The weights of the values and of the last product may be infinite. -/
theorem refTerm_value (I : Inputs) (x : FVec Ideal S2x512x2048 .f32) (wdkv : FVec Ideal S2048x256 .f32) (wuk wuv : FVec Ideal S256x2048 .f32)
    (wq : FVec Ideal S2048x2048 .f32) (wqr : FVec Ideal S2048x512 .f32) (wkr : FVec Ideal S2048x32 .f32) (wo : FVec Ideal S2048x2048 .f32)
    (hx : ∀ b s d, x (ix3 b s d) = ((I.x b s d : ℝ) : EReal)) (hdkv : ∀ a b, wdkv (ix2 a b) = ((I.wdkv a b : ℝ) : EReal))
    (huk : ∀ a b, wuk (ix2 a b) = ((I.wuk a b : ℝ) : EReal)) (huv : ∀ a b, wuv (ix2 a b) = I.wuv a b)
    (hq : ∀ a b, wq (ix2 a b) = ((I.wq a b : ℝ) : EReal)) (hqr : ∀ a b, wqr (ix2 a b) = ((I.wqr a b : ℝ) : EReal))
    (hkr : ∀ a b, wkr (ix2 a b) = ((I.wkr a b : ℝ) : EReal)) (ho : ∀ a b, wo (ix2 a b) = I.wo a b)
    (b : Fin 2) (s : Fin 512) (n : Fin 2048) :
    refTerm x wdkv wuk wuv wq wqr wkr wo (ix3 b s n) = out I b s n := by
  have hC : ∀ b s k, rC x wdkv (ix3 b s k) = ((latent I b s k : ℝ) : EReal) := rC_real x wdkv _ _ hx hdkv
  have hK : ∀ b s k, rE (rC x wdkv) wuk (ix3 b s k) = ((keys I b s k : ℝ) : EReal) := rE_real _ _ _ _ hC huk
  have hV : ∀ b s k, rE (rC x wdkv) wuv (ix3 b s k) = vals I b s k := fun b s k => by
    rw [rE_apply]; simp only [hC, huv]; rfl
  have hQ : ∀ b s k, rQ x wq (ix3 b s k) = ((qs I b s k : ℝ) : EReal) := rQ_real _ _ _ _ hx hq
  have hR : ∀ b s k, rR x wqr (ix3 b s k) = ((qrs I b s k : ℝ) : EReal) := rR_real _ _ _ _ hx hqr
  have hT : ∀ b s k, rT x wkr (ix3 b s k) = ((krs I b s k : ℝ) : EReal) := rT_real _ _ _ _ hx hkr
  have hS : ∀ b h s t, rS (rQ x wq) (rE (rC x wdkv) wuk) (rR x wqr) (rT x wkr) (ix4 b h s t) = ((score I b h s t * σ : ℝ) : EReal) :=
    rS_real _ _ _ _ _ _ _ _ hQ hK hR hT
  choose M hP using fun b h s => rP_real _ _ hS b h s
  have hD := fun b h s => rD_real _ _ b h s (hP b h s)
    (Finset.sum_pos (fun _ _ => Real.exp_pos _) ⟨(0 : Fin 512), Finset.mem_univ _⟩).ne'
  have hO : ∀ b s j, rO (rE (rC x wdkv) wuv) (rD (rP (rS (rQ x wq) (rE (rC x wdkv) wuk) (rR x wqr) (rT x wkr)))) (ix3 b s j)
      = headOut I b (hd j) s (pl j) := fun b s j =>
    (rO_value _ _ _ _ hV hD b s j).trans (shifted (fun t => score I b (hd j) s t * σ) (fun t => vals I b t (col (hd j) (pl j))) _)
  unfold refTerm
  rw [rQ_apply]; simp only [hO, ho]; rfl

end Cert.ReferenceIdeal.Stages

end
end
-- ==== Proof.K.Finite.lean ====
module

public import proofs.«01_k».proof.Pre_finite_KernelIdeal
public import proofs.«01_k».proof.Proof.K.Model
public import Idealize.ShloMosaic.Lib.ReduceAll

/-!
The precondition read back: when `finite` is all ones of eight arrays, every element of the six that it speaks of is a
real number.
-/

@[expose] public section

set_option maxRecDepth 16384

noncomputable section

namespace Cert.Finite

open Idealize.ShloMosaic

/-- An extended real whose absolute value is below infinity is a real number. -/
theorem real_of_lt (x : EReal) (h : max x (-x) < ⊤) : x = ((x.toReal : ℝ) : EReal) := by
  refine (EReal.coe_toReal ?_ ?_).symm
  · rintro rfl
    exact absurd h (by simp)
  · rintro rfl
    exact absurd h (by simp)

/-- The word that the precondition compares with is plus infinity. -/
theorem top_word : Ideal.ofBits .f32 0x7F800000#32 = ⊤ := by simp [Ideal.ofBits, Ideal.ieee]

instance : Subsingleton (⟨0, ![]⟩ : Shape).Idx := ⟨fun a b => funext fun i => i.elim0⟩

/-- If every element of an array compares below infinity in absolute value, every element is a real number. -/
theorem all_real {s u : Shape} {axes : List (Fin s.rank)} (X : FVec Ideal s .f32) (B : FVec Ideal s .f32) (init : IVec u 1)
    (hB : ∀ i, B i = Ideal.ofBits .f32 0x7F800000#32)
    (h : s.ReducesTo axes ⟨0, ![]⟩) (hu : 0 < u.numel) (j : (⟨0, ![]⟩ : Shape).Idx)
    (e : Host.reduce IntOp.andi (cmpf .olt (Host.absf X) B) init h hu j = 1#1) (i : s.Idx) : X i = (((X i).toReal : ℝ) : EReal) := by
  have e1 := Host.reduce_andi_all _ _ h hu j e i
  have e2 : Ideal.cmp .olt (max (X i) (-(X i))) (B i) = 1#1 := e1
  rw [hB, top_word] at e2
  refine real_of_lt _ ?_
  by_contra hn
  simp only [Ideal.cmp, decide_eq_false hn] at e2
  exact absurd e2 (by decide)

/-- The precondition of one device: all its arrays but the weights of the values and of the last product hold real numbers. -/
theorem fn_real [Cert.Pre_finite_KernelIdeal.Facts] (a0 : FVec Ideal ⟨3, ![2, 512, 2048]⟩ .f32) (a1 : FVec Ideal ⟨2, ![2048, 128]⟩ .f32)
    (a2 a3 : FVec Ideal ⟨2, ![128, 2048]⟩ .f32) (a4 : FVec Ideal ⟨2, ![2048, 2048]⟩ .f32) (a5 : FVec Ideal ⟨2, ![2048, 512]⟩ .f32)
    (a6 : FVec Ideal ⟨2, ![2048, 32]⟩ .f32) (a7 : FVec Ideal ⟨2, ![2048, 2048]⟩ .f32)
    (h : Cert.Pre_finite_KernelIdeal.fn (F := Ideal) a0 a1 a2 a3 a4 a5 a6 a7 = fun _ => 1#1) :
    (∀ i, a0 i = (((a0 i).toReal : ℝ) : EReal)) ∧ (∀ i, a1 i = (((a1 i).toReal : ℝ) : EReal))
    ∧ (∀ i, a2 i = (((a2 i).toReal : ℝ) : EReal))
    ∧ (∀ i, a4 i = (((a4 i).toReal : ℝ) : EReal)) ∧ (∀ i, a5 i = (((a5 i).toReal : ℝ) : EReal))
    ∧ (∀ i, a6 i = (((a6 i).toReal : ℝ) : EReal)) := by
  have h' := congrFun h (fun i => i.elim0)
  obtain ⟨h', e6⟩ := IntOp.andi_eq_one.1 h'
  obtain ⟨h', e5⟩ := IntOp.andi_eq_one.1 h'
  obtain ⟨h', e4⟩ := IntOp.andi_eq_one.1 h'
  obtain ⟨h', e2⟩ := IntOp.andi_eq_one.1 h'
  obtain ⟨e0, e1⟩ := IntOp.andi_eq_one.1 h'
  exact ⟨all_real a0 _ _ (fun _ => rfl) _ _ _ e0, all_real a1 _ _ (fun _ => rfl) _ _ _ e1, all_real a2 _ _ (fun _ => rfl) _ _ _ e2,
    all_real a4 _ _ (fun _ => rfl) _ _ _ e4, all_real a5 _ _ (fun _ => rfl) _ _ _ e5,
    all_real a6 _ _ (fun _ => rfl) _ _ _ e6⟩

end Cert.Finite

end
end
-- ==== Proof.K.Algebra.lean ====
module

public import proofs.«01_k».proof.Defs
public import proofs.«01_k».proof.Proof.K.Kern
public import proofs.«01_k».proof.Proof.K.Ref
public import proofs.«01_k».proof.Proof.K.Finite
public import proofs.«01_k».proof.Proof.Gen.ReferenceIdeal

/-!
The value claim: on every device the kernel's result is the reference's. The model's inputs are the
reference's arrays; the devices' arguments are blocks of them, so both results are the model's.
-/

@[expose] public section

set_option maxRecDepth 16384

noncomputable section

namespace Cert.Algebra

open Idealize.ShloMosaic Idealize.ShloMosaic.TcCoe Idealize.SL.Sem
open Cert.Attention Cert.KernelIdeal.Values

/-! ## A device's blocks -/

/-- Device `c`'s block of an array cut by columns is its half of the columns. -/
theorem block_cols (v : (⟨2, ![2048, 256]⟩ : Shape).Idx → EReal) (c : Dev Cert.KernelIdeal.nD) (d : Fin 2048) (k : Fin 128) :
    Layout.blockN ⟨2, ![2048, 128]⟩ ⟨2, ![2048, 256]⟩ (Layout.meshBlock [2, 2, 4] ![[], [0]] c) v (by decide) (ix2 d k)
      = v (ix2 d (half (side c) k)) := by
  have hc : c.val < 16 := c.isLt
  refine congrArg v (funext fun a => Fin.ext ?_)
  match a with
  | ⟨0, _⟩ => show 0 * 2048 + d.val = d.val; omega
  | ⟨1, _⟩ => show (c.val / 8 % 2 * 1 + 0) * 128 + k.val = c.val / 8 * 128 + k.val; omega

/-- Device `c`'s block of an array cut by rows is its half of the rows. -/
theorem block_rows (v : (⟨2, ![256, 2048]⟩ : Shape).Idx → EReal) (c : Dev Cert.KernelIdeal.nD) (k : Fin 128) (j : Fin 2048) :
    Layout.blockN ⟨2, ![128, 2048]⟩ ⟨2, ![256, 2048]⟩ (Layout.meshBlock [2, 2, 4] ![[0], []] c) v (by decide) (ix2 k j)
      = v (ix2 (half (side c) k) j) := by
  have hc : c.val < 16 := c.isLt
  refine congrArg v (funext fun a => Fin.ext ?_)
  match a with
  | ⟨0, _⟩ => show (c.val / 8 % 2 * 1 + 0) * 128 + k.val = c.val / 8 * 128 + k.val; omega
  | ⟨1, _⟩ => show 0 * 2048 + j.val = j.val; omega

/-- A device of each coordinate on the first mesh axis. -/
def dev (k : Fin 256) : Dev Cert.KernelIdeal.nD := ⟨k.val / 128 * 8, by show k.val / 128 * 8 < 16; omega⟩

/-- Every latent column is in some device's half. -/
theorem half_dev (k : Fin 256) : half (side (dev k)) ⟨k.val % 128, by omega⟩ = k :=
  Fin.ext (by show k.val / 128 * 8 / 8 * 128 + k.val % 128 = k.val; omega)

/-- The reference's arrays: as real numbers those that the scores depend on. -/
def inputs (a0 : FVec Ideal ⟨3, ![2, 512, 2048]⟩ .f32) (a1 : FVec Ideal ⟨2, ![2048, 256]⟩ .f32) (a2 a3 : FVec Ideal ⟨2, ![256, 2048]⟩ .f32)
    (a4 : FVec Ideal ⟨2, ![2048, 2048]⟩ .f32) (a5 : FVec Ideal ⟨2, ![2048, 512]⟩ .f32) (a6 : FVec Ideal ⟨2, ![2048, 32]⟩ .f32)
    (a7 : FVec Ideal ⟨2, ![2048, 2048]⟩ .f32) : Inputs where
  x b s d := EReal.toReal (a0 (ix3 b s d))
  wdkv i j := EReal.toReal (a1 (ix2 i j))
  wuk i j := EReal.toReal (a2 (ix2 i j))
  wuv i j := a3 (ix2 i j)
  wq i j := EReal.toReal (a4 (ix2 i j))
  wqr i j := EReal.toReal (a5 (ix2 i j))
  wkr i j := EReal.toReal (a6 (ix2 i j))
  wo i j := a7 (ix2 i j)

section Blocks

variable (m : (ℓ : Loc Cert.KernelIdeal.nD Cert.KernelIdeal.τ Cert.KernelIdeal.sig) → Buf (Elt Ideal) ℓ)
variable (a0 : FVec Ideal ⟨3, ![2, 512, 2048]⟩ .f32) (a1 : FVec Ideal ⟨2, ![2048, 256]⟩ .f32) (a2 a3 : FVec Ideal ⟨2, ![256, 2048]⟩ .f32)
  (a4 : FVec Ideal ⟨2, ![2048, 2048]⟩ .f32) (a5 : FVec Ideal ⟨2, ![2048, 512]⟩ .f32) (a6 : FVec Ideal ⟨2, ![2048, 32]⟩ .f32)
  (a7 : FVec Ideal ⟨2, ![2048, 2048]⟩ .f32)

/-- An array cut by columns holds real numbers if all its blocks do. -/
theorem cols_real (B : Dev Cert.KernelIdeal.nD → FVec Ideal ⟨2, ![2048, 128]⟩ .f32) (hB : ∀ c i, B c i = ((EReal.toReal (B c i) : ℝ) : EReal))
    (e : ∀ c, B c = Layout.blockN ⟨2, ![2048, 128]⟩ ⟨2, ![2048, 256]⟩ (Layout.meshBlock [2, 2, 4] ![[], [0]] c) a1) (d : Fin 2048) (k : Fin 256) :
    a1 (ix2 d k) = ((EReal.toReal (a1 (ix2 d k)) : ℝ) : EReal) := by
  have h := hB (dev k) (ix2 d ⟨k.val % 128, by omega⟩)
  rw [e, block_cols, half_dev] at h
  exact h

/-- An array cut by rows holds real numbers if all its blocks do. -/
theorem rows_real (B : Dev Cert.KernelIdeal.nD → FVec Ideal ⟨2, ![128, 2048]⟩ .f32) (hB : ∀ c i, B c i = ((EReal.toReal (B c i) : ℝ) : EReal))
    (e : ∀ c, B c = Layout.blockN ⟨2, ![128, 2048]⟩ ⟨2, ![256, 2048]⟩ (Layout.meshBlock [2, 2, 4] ![[0], []] c) a2) (k : Fin 256) (j : Fin 2048) :
    a2 (ix2 k j) = ((EReal.toReal (a2 (ix2 k j)) : ℝ) : EReal) := by
  have h := hB (dev k) (ix2 ⟨k.val % 128, by omega⟩ j)
  rw [e, block_rows, half_dev] at h
  exact h

/-- A copy on every device holds real numbers if the devices' do. -/
theorem copy_real {s : Shape} (a : FVec Ideal s .f32) (B : Dev Cert.KernelIdeal.nD → FVec Ideal s .f32)
    (hB : ∀ c i, B c i = ((EReal.toReal (B c i) : ℝ) : EReal)) (e : ∀ c, B c = a) (i : s.Idx) : a i = ((EReal.toReal (a i) : ℝ) : EReal) := by
  have h := hB ⟨0, by decide⟩ i
  rw [e] at h
  exact h

/-- The devices' arguments are their blocks of the model's inputs. -/
theorem holds
    (e0 : ∀ c : Dev Cert.KernelIdeal.nD, m ((c.tc : Thread Cert.KernelIdeal.nD Cert.KernelIdeal.τ).loc Cert.KernelIdeal.main_arg0) = a0)
    (e1 : ∀ c : Dev Cert.KernelIdeal.nD, m ((c.tc : Thread Cert.KernelIdeal.nD Cert.KernelIdeal.τ).loc Cert.KernelIdeal.main_arg1) = Layout.blockN ⟨2, ![2048, 128]⟩ ⟨2, ![2048, 256]⟩ (Layout.meshBlock [2, 2, 4] ![[], [0]] c) a1)
    (e2 : ∀ c : Dev Cert.KernelIdeal.nD, m ((c.tc : Thread Cert.KernelIdeal.nD Cert.KernelIdeal.τ).loc Cert.KernelIdeal.main_arg2) = Layout.blockN ⟨2, ![128, 2048]⟩ ⟨2, ![256, 2048]⟩ (Layout.meshBlock [2, 2, 4] ![[0], []] c) a2)
    (e3 : ∀ c : Dev Cert.KernelIdeal.nD, m ((c.tc : Thread Cert.KernelIdeal.nD Cert.KernelIdeal.τ).loc Cert.KernelIdeal.main_arg3) = Layout.blockN ⟨2, ![128, 2048]⟩ ⟨2, ![256, 2048]⟩ (Layout.meshBlock [2, 2, 4] ![[0], []] c) a3)
    (e4 : ∀ c : Dev Cert.KernelIdeal.nD, m ((c.tc : Thread Cert.KernelIdeal.nD Cert.KernelIdeal.τ).loc Cert.KernelIdeal.main_arg4) = a4)
    (e5 : ∀ c : Dev Cert.KernelIdeal.nD, m ((c.tc : Thread Cert.KernelIdeal.nD Cert.KernelIdeal.τ).loc Cert.KernelIdeal.main_arg5) = a5)
    (e6 : ∀ c : Dev Cert.KernelIdeal.nD, m ((c.tc : Thread Cert.KernelIdeal.nD Cert.KernelIdeal.τ).loc Cert.KernelIdeal.main_arg6) = a6)
    (e7 : ∀ c : Dev Cert.KernelIdeal.nD, m ((c.tc : Thread Cert.KernelIdeal.nD Cert.KernelIdeal.τ).loc Cert.KernelIdeal.main_arg7) = a7)
    (r0 : ∀ b s d, a0 (ix3 b s d) = ((EReal.toReal (a0 (ix3 b s d)) : ℝ) : EReal))
    (r1 : ∀ i j, a1 (ix2 i j) = ((EReal.toReal (a1 (ix2 i j)) : ℝ) : EReal))
    (r2 : ∀ i j, a2 (ix2 i j) = ((EReal.toReal (a2 (ix2 i j)) : ℝ) : EReal))
    (r4 : ∀ i j, a4 (ix2 i j) = ((EReal.toReal (a4 (ix2 i j)) : ℝ) : EReal))
    (r5 : ∀ i j, a5 (ix2 i j) = ((EReal.toReal (a5 (ix2 i j)) : ℝ) : EReal))
    (r6 : ∀ i j, a6 (ix2 i j) = ((EReal.toReal (a6 (ix2 i j)) : ℝ) : EReal)) :
    Holds m (inputs a0 a1 a2 a3 a4 a5 a6 a7) where
  x c b s d := (congrFun (e0 c) _).trans (r0 b s d)
  wdkv c d k := (congrFun (e1 c) _).trans ((block_cols a1 c d k).trans (r1 d _))
  wuk c k j := (congrFun (e2 c) _).trans ((block_rows a2 c k j).trans (r2 _ j))
  wuv c k j := (congrFun (e3 c) _).trans (block_rows a3 c k j)
  wq c d j := (congrFun (e4 c) _).trans (r4 d j)
  wqr c d j := (congrFun (e5 c) _).trans (r5 d j)
  wkr c d j := (congrFun (e6 c) _).trans (r6 d j)
  wo c d j := congrFun (e7 c) _

end Blocks

/-- From agreeing arguments, those that the scores depend on finite on every device, the kernel ends on every device with the reference's result. -/
theorem algebraic [hP : Cert.Pre_finite_KernelIdeal.Facts] :
    Cert.algebraic_KernelIdeal_ReferenceIdeal_pre_finite_KernelIdeal (hKernelIdeal := Cert.KernelIdeal.Gen.facts)
      (hReferenceIdeal := Cert.ReferenceIdeal.Gen.facts) (hPre_finite_KernelIdeal := hP) := by
  intro m g m' g' hpre hagree
  have hfin := fun c => Cert.Finite.fn_real _ _ _ _ _ _ _ _ (hpre c)
  have r0 := copy_real _ _ (fun c => (hfin c).1) (fun c => (hagree c).1)
  have r1 := cols_real _ _ (fun c => (hfin c).2.1) (fun c => (hagree c).2.1)
  have r2 := rows_real _ _ (fun c => (hfin c).2.2.1) (fun c => (hagree c).2.2.1)
  have r4 := copy_real _ _ (fun c => (hfin c).2.2.2.1) (fun c => (hagree c).2.2.2.2.1)
  have r5 := copy_real _ _ (fun c => (hfin c).2.2.2.2.1) (fun c => (hagree c).2.2.2.2.2.1)
  have r6 := copy_real _ _ (fun c => (hfin c).2.2.2.2.2) (fun c => (hagree c).2.2.2.2.2.2.1)
  have H := holds m _ _ _ _ _ _ _ _ (fun c => (hagree c).1) (fun c => (hagree c).2.1) (fun c => (hagree c).2.2.1)
    (fun c => (hagree c).2.2.2.1) (fun c => (hagree c).2.2.2.2.1) (fun c => (hagree c).2.2.2.2.2.1) (fun c => (hagree c).2.2.2.2.2.2.1)
    (fun c => (hagree c).2.2.2.2.2.2.2) (fun b s d => r0 _) r1 r2 (fun i j => r4 _) (fun i j => r5 _) (fun i j => r6 _)
  have R := Cert.ReferenceIdeal.Stages.refTerm_value (inputs (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)) (m' (((0 : Dev Cert.ReferenceIdeal.nD).tc : Thread Cert.ReferenceIdeal.nD Cert.ReferenceIdeal.τ).loc Cert.ReferenceIdeal.main_arg5)) (m' (((0 : Dev Cert.ReferenceIdeal.nD).tc : Thread Cert.ReferenceIdeal.nD Cert.ReferenceIdeal.τ).loc Cert.ReferenceIdeal.main_arg6)) (m' (((0 : Dev Cert.ReferenceIdeal.nD).tc : Thread Cert.ReferenceIdeal.nD Cert.ReferenceIdeal.τ).loc Cert.ReferenceIdeal.main_arg7)))
    _ _ _ _ _ _ _ _ (fun b s d => r0 (ix3 b s d)) r1 r2 (fun _ _ => rfl)
    (fun i j => r4 (ix2 i j)) (fun i j => r5 (ix2 i j)) (fun i j => r6 (ix2 i j)) (fun _ _ => rfl)
  have V : ∀ c : Dev Cert.KernelIdeal.nD, Cert.KernelIdeal.Gen.V5 m (Cert.KernelIdeal.Run.outs m) c Cert.KernelIdeal.main_v5
      = Cert.ReferenceIdeal.Value.res_main_v29 m' 0 := by
    intro c
    rw [Cert.ReferenceIdeal.Stages.res_eq]
    funext i
    obtain ⟨b, s, n, rfl⟩ : ∃ b s n, i = ix3 b s n := ⟨i 0, i 1, i 2, eq_ix3 i⟩
    exact (result_value H c b s n).trans (R b s n).symm
  refine ⟨Cert.ReferenceIdeal.Value.res_main_v29 m' 0, ?_, ?_⟩
  · exact (θ_run _ _ _).mono (fun r h c => ⟨(h.1 c).1.trans (V c), (h.1 c).2⟩) (Cert.KernelIdeal.Run.run_main m g)
  · exact (θ_run _ _ _).mono (fun r h => h 0) (Cert.ReferenceIdeal.Value.run m' g')

end Cert.Algebra

end
end
-- ==== Proof.lean ====
module

public import proofs.«01_k».proof.Defs
public import proofs.«01_k».proof.Proof.K.Frames
public import proofs.«01_k».proof.Proof.K.Algebra

@[expose] public section

noncomputable section

namespace Cert.Proof

theorem claim : Cert.Claim :=
  ⟨Cert.Kernel.Gen.facts, Cert.KernelIdeal.Gen.facts, Cert.ReferenceIdeal.Gen.facts, Cert.Frames.preKernel, Cert.Frames.preReference,
    Cert.Frames.frame_kernel, Cert.Frames.frame_ideal, Cert.Frames.frame_ideal_finite, Cert.Frames.frame_reference,
    Cert.Frames.frame_reference_finite, Cert.Frames.named, Cert.Algebra.algebraic⟩

end Cert.Proof

end
